-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v3)) (v3 : (c : Dev Cert.Kernel2Ideal.nD) → Buf (Elt Ideal) ((c.tc : Thread Cert.Kernel2Ideal.nD Cert.Kernel2Ideal.τ).loc Cert.Kernel2Ideal.main_v4)) (v4 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_v4) = v3 c
          ∧ r.2.mem ((c.tc : Thread Cert.Kernel2Ideal.nD Cert.Kernel2Ideal.τ).loc Cert.Kernel2Ideal.main_v5) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v28) = v3 c
          ∧ r.2.mem ((c.tc : Thread Cert.Reference2Ideal.nD Cert.Reference2Ideal.τ).loc Cert.Reference2Ideal.main_v29) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)) (v1 : (c : Dev Cert.Kernel3Ideal.nD) → Buf (Elt Ideal) ((c.tc : Thread Cert.Kernel3Ideal.nD Cert.Kernel3Ideal.τ).loc Cert.Kernel3Ideal.main_v6)) (v2 : (c : Dev Cert.Kernel3Ideal.nD) → Buf (Elt Ideal) ((c.tc : Thread Cert.Kernel3Ideal.nD Cert.Kernel3Ideal.τ).loc Cert.Kernel3Ideal.main_v5)) (v3 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_v5) = v2 c
          ∧ r.2.mem ((c.tc : Thread Cert.Kernel3Ideal.nD Cert.Kernel3Ideal.τ).loc Cert.Kernel3Ideal.main_v4) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)) (v4 : (c : Dev Cert.Kernel4Ideal.nD) → Buf (Elt Ideal) ((c.tc : Thread Cert.Kernel4Ideal.nD Cert.Kernel4Ideal.τ).loc Cert.Kernel4Ideal.main_v4)) (v5 : (c : Dev Cert.Kernel4Ideal.nD) → Buf (Elt Ideal) ((c.tc : Thread Cert.Kernel4Ideal.nD Cert.Kernel4Ideal.τ).loc Cert.Kernel4Ideal.main_v5)) (v6 : (c : Dev Cert.Kernel4Ideal.nD) → Buf (Elt Ideal) ((c.tc : Thread Cert.Kernel4Ideal.nD Cert.Kernel4Ideal.τ).loc Cert.Kernel4Ideal.main_v6)) (v7 : (c : Dev Cert.Kernel4Ideal.nD) → Buf (Elt Ideal) ((c.tc : Thread Cert.Kernel4Ideal.nD Cert.Kernel4Ideal.τ).loc Cert.Kernel4Ideal.main_v7)) (v8 : (c : Dev Cert.Kernel4Ideal.nD) → Buf (Elt Ideal) ((c.tc : Thread Cert.Kernel4Ideal.nD Cert.Kernel4Ideal.τ).loc Cert.Kernel4Ideal.main_v8)) (v9 : (c : Dev Cert.Kernel4Ideal.nD) → Buf (Elt Ideal) ((c.tc : Thread Cert.Kernel4Ideal.nD Cert.Kernel4Ideal.τ).loc Cert.Kernel4Ideal.main_v9)) (v10 : (c : Dev Cert.Kernel4Ideal.nD) → Buf (Elt Ideal) ((c.tc : Thread Cert.Kernel4Ideal.nD Cert.Kernel4Ideal.τ).loc Cert.Kernel4Ideal.main_v10)) (v11 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_v5) = v5 c
          ∧ r.2.mem ((c.tc : Thread Cert.Kernel4Ideal.nD Cert.Kernel4Ideal.τ).loc Cert.Kernel4Ideal.main_v6) = v6 c
          ∧ r.2.mem ((c.tc : Thread Cert.Kernel4Ideal.nD Cert.Kernel4Ideal.τ).loc Cert.Kernel4Ideal.main_v7) = v7 c
          ∧ r.2.mem ((c.tc : Thread Cert.Kernel4Ideal.nD Cert.Kernel4Ideal.τ).loc Cert.Kernel4Ideal.main_v8) = v8 c
          ∧ r.2.mem ((c.tc : Thread Cert.Kernel4Ideal.nD Cert.Kernel4Ideal.τ).loc Cert.Kernel4Ideal.main_v9) = v9 c
          ∧ r.2.mem ((c.tc : Thread Cert.Kernel4Ideal.nD Cert.Kernel4Ideal.τ).loc Cert.Kernel4Ideal.main_v10) = v10 c
          ∧ r.2.mem ((c.tc : Thread Cert.Kernel4Ideal.nD Cert.Kernel4Ideal.τ).loc Cert.Kernel4Ideal.main_v11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v17) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_v30) = v5 c
          ∧ r.2.mem ((c.tc : Thread Cert.Reference4Ideal.nD Cert.Reference4Ideal.τ).loc Cert.Reference4Ideal.main_v32) = v6 c
          ∧ r.2.mem ((c.tc : Thread Cert.Reference4Ideal.nD Cert.Reference4Ideal.τ).loc Cert.Reference4Ideal.main_v23) = v7 c
          ∧ r.2.mem ((c.tc : Thread Cert.Reference4Ideal.nD Cert.Reference4Ideal.τ).loc Cert.Reference4Ideal.main_v33) = v8 c
          ∧ r.2.mem ((c.tc : Thread Cert.Reference4Ideal.nD Cert.Reference4Ideal.τ).loc Cert.Reference4Ideal.main_v26) = v9 c
          ∧ r.2.mem ((c.tc : Thread Cert.Reference4Ideal.nD Cert.Reference4Ideal.τ).loc Cert.Reference4Ideal.main_v35) = v10 c
          ∧ r.2.mem ((c.tc : Thread Cert.Reference4Ideal.nD Cert.Reference4Ideal.τ).loc Cert.Reference4Ideal.main_v20) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1_0)) (v2 : (c : Dev Cert.Kernel5Ideal.nD) → Buf (Elt Ideal) ((c.tc : Thread Cert.Kernel5Ideal.nD Cert.Kernel5Ideal.τ).loc Cert.Kernel5Ideal.main_v1_1)) (v3 : (c : Dev Cert.Kernel5Ideal.nD) → Buf (Elt Ideal) ((c.tc : Thread Cert.Kernel5Ideal.nD Cert.Kernel5Ideal.τ).loc Cert.Kernel5Ideal.main_v1_2)) (v4 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1_0) = v1 c
          ∧ r.2.mem ((c.tc : Thread Cert.Kernel5Ideal.nD Cert.Kernel5Ideal.τ).loc Cert.Kernel5Ideal.main_v1_1) = v2 c
          ∧ r.2.mem ((c.tc : Thread Cert.Kernel5Ideal.nD Cert.Kernel5Ideal.τ).loc Cert.Kernel5Ideal.main_v1_2) = v3 c
          ∧ r.2.mem ((c.tc : Thread Cert.Kernel5Ideal.nD Cert.Kernel5Ideal.τ).loc Cert.Kernel5Ideal.main_v1_3) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_v55) = v3 c
          ∧ r.2.mem ((c.tc : Thread Cert.Reference5Ideal.nD Cert.Reference5Ideal.τ).loc Cert.Reference5Ideal.main_v54) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v3_0)) (v4 : (c : Dev Cert.Kernel6Ideal.nD) → Buf (Elt Ideal) ((c.tc : Thread Cert.Kernel6Ideal.nD Cert.Kernel6Ideal.τ).loc Cert.Kernel6Ideal.main_v3_1)) (v5 : (c : Dev Cert.Kernel6Ideal.nD) → Buf (Elt Ideal) ((c.tc : Thread Cert.Kernel6Ideal.nD Cert.Kernel6Ideal.τ).loc Cert.Kernel6Ideal.main_v4_0)) (v6 : (c : Dev Cert.Kernel6Ideal.nD) → Buf (Elt Ideal) ((c.tc : Thread Cert.Kernel6Ideal.nD Cert.Kernel6Ideal.τ).loc Cert.Kernel6Ideal.main_v4_1)) (v7 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v3_0) = v3 c
          ∧ r.2.mem ((c.tc : Thread Cert.Kernel6Ideal.nD Cert.Kernel6Ideal.τ).loc Cert.Kernel6Ideal.main_v3_1) = v4 c
          ∧ r.2.mem ((c.tc : Thread Cert.Kernel6Ideal.nD Cert.Kernel6Ideal.τ).loc Cert.Kernel6Ideal.main_v4_0) = v5 c
          ∧ r.2.mem ((c.tc : Thread Cert.Kernel6Ideal.nD Cert.Kernel6Ideal.τ).loc Cert.Kernel6Ideal.main_v4_1) = v6 c
          ∧ r.2.mem ((c.tc : Thread Cert.Kernel6Ideal.nD Cert.Kernel6Ideal.τ).loc Cert.Kernel6Ideal.main_v5) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v53) = v1 c
          ∧ r.2.mem ((c.tc : Thread Cert.Reference6Ideal.nD Cert.Reference6Ideal.τ).loc Cert.Reference6Ideal.main_v66) = v2 c
          ∧ r.2.mem ((c.tc : Thread Cert.Reference6Ideal.nD Cert.Reference6Ideal.τ).loc Cert.Reference6Ideal.main_v14) = v3 c
          ∧ r.2.mem ((c.tc : Thread Cert.Reference6Ideal.nD Cert.Reference6Ideal.τ).loc Cert.Reference6Ideal.main_v79) = v4 c
          ∧ r.2.mem ((c.tc : Thread Cert.Reference6Ideal.nD Cert.Reference6Ideal.τ).loc Cert.Reference6Ideal.main_v27) = v5 c
          ∧ r.2.mem ((c.tc : Thread Cert.Reference6Ideal.nD Cert.Reference6Ideal.τ).loc Cert.Reference6Ideal.main_v92) = v6 c
          ∧ r.2.mem ((c.tc : Thread Cert.Reference6Ideal.nD Cert.Reference6Ideal.τ).loc Cert.Reference6Ideal.main_v27) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2048x2304 : Shape := ⟨2, ![2048, 2304]⟩
abbrev S2048x1024 : Shape := ⟨2, ![2048, 1024]⟩
abbrev S2048x768 : Shape := ⟨2, ![2048, 768]⟩
abbrev S_ : Shape := ⟨0, ![]⟩
abbrev S2048x256 : Shape := ⟨2, ![2048, 256]⟩

class Facts : Prop where
  slices_S2048x2304_S2048x768_0_0 : S2048x2304.Slices ![0, 0] S2048x768
  bcast_S_S2048x768 : S_.BroadcastsInDim S2048x768 (![] : Fin 0 → Fin S2048x768.rank)
  reducesTo_S2048x768_S_d0_1 : S2048x768.ReducesTo [0, 1] S_
  h_S_ : 0 < S_.numel
  slices_S2048x1024_S2048x256_0_0 : S2048x1024.Slices ![0, 0] S2048x256
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S2048x2304 .f32) (main_arg1 : FVec F S2048x1024 .f32) : IVec S_ 1 :=
  let main_v0 : FVec F S2048x768 .f32 := (extractStridedSlice S2048x768 ![0, 0] · slices_S2048x2304_S2048x768_0_0) main_arg0
  let main_v1 : FVec F S2048x768 .f32 := Host.absf main_v0
  let main_cst : FVec F S_ .f32 := constant S_ .f32 0x7F800000#32
  let main_v2 : FVec F S2048x768 .f32 := broadcastInDim S2048x768 ![] bcast_S_S2048x768 main_cst
  let main_v3 : IVec S2048x768 1 := cmpf .olt main_v1 main_v2
  let main_c : IVec S_ 1 := constantI S_ 1 1#1
  let main_v4 : IVec S_ 1 := (fun x v => Host.reduce IntOp.andi x v reducesTo_S2048x768_S_d0_1 h_S_) main_v3 main_c
  let main_v5 : FVec F S2048x256 .f32 := (extractStridedSlice S2048x256 ![0, 0] · slices_S2048x1024_S2048x256_0_0) main_arg1
  let main_v6 : FVec F S2048x256 .f32 := Host.absf main_v5
  let main_cst_0 : FVec F S_ .f32 := constant S_ .f32 0x7F800000#32
  let main_v7 : FVec F S2048x256 .f32 := broadcastInDim S2048x256 ![] bcast_S_S2048x256 main_cst_0
  let main_v8 : IVec S2048x256 1 := cmpf .olt main_v6 main_v7
  let main_c_1 : IVec S_ 1 := constantI S_ 1 1#1
  let main_v9 : IVec S_ 1 := (fun x v => Host.reduce IntOp.andi x v reducesTo_S2048x256_S_d0_1 h_S_) main_v8 main_c_1
  let main_v10 : IVec S_ 1 := andi main_v4 main_v9
  main_v10
-- ==== Pre_finite2.lean ====
abbrev S2048x1024 : Shape := ⟨2, ![2048, 1024]⟩
abbrev S2816x1024 : Shape := ⟨2, ![2816, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2048x1024 .bf16) (main_v10 : IVec S_ 1) (main_v15 : IVec S_ 1) (main_v17 : FVec F S2816x1024 .f32) : IVec S_ 1 :=
  let main_cst_4 : FVec F S_ .f32 := constant S_ .f32 0x7F800000#32
  let main_v18 : FVec F S2816x1024 .f32 := broadcastInDim S2816x1024 ![] bcast_S_S2816x1024 main_cst_4
  let main_v19 : IVec S2816x1024 1 := cmpf .olt main_v17 main_v18
  let main_c_5 : IVec S_ 1 := constantI S_ 1 1#1
  let main_v20 : IVec S_ 1 := (fun x v => Host.reduce IntOp.andi x v reducesTo_S2816x1024_S_d0_1 h_S_) main_v19 main_c_5
  let main_v21 : IVec S_ 1 := andi main_v15 main_v20
  let main_v22 : IVec S_ 1 := andi main_v10 main_v21
  let main_v23 : FVec F S2048x1024 .f32 := (extf .f32 · bitsLt_bf16_f32) main_arg4
  let main_v24 : FVec F S2048x1024 .f32 := Host.absf main_v23
  let main_cst_6 : FVec F S_ .f32 := constant S_ .f32 0x7F800000#32
  let main_v25 : FVec F S2048x1024 .f32 := broadcastInDim S2048x1024 ![] bcast_S_S2048x1024 main_cst_6
  let main_v26 : IVec S2048x1024 1 := cmpf .olt main_v24 main_v25
  let main_c_7 : IVec S_ 1 := constantI S_ 1 1#1
  let main_v27 : IVec S_ 1 := (fun x v => Host.reduce IntOp.andi x v reducesTo_S2048x1024_S_d0_1 h_S_) main_v26 main_c_7
  let main_v28 : IVec S_ 1 := andi main_v22 main_v27
  main_v28

def fn {F : FTy → Type} [FloatOps F] (main_arg0 : FVec F S2048x1024 .bf16) (main_arg1 : FVec F S2816x1024 .bf16) (main_arg2 : FVec F S2816x1024 .bf16) (main_arg3 : FVec F S2816x1024 .bf16) (main_arg4 : FVec F S2048x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2816x1024 .f32 := (extf .f32 · bitsLt_bf16_f32) main_arg2
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : FVec F S2816x1024 .f32 := (extf .f32 · bitsLt_bf16_f32) main_arg3
  let main_v17 : FVec F S2816x1024 .f32 := Host.absf main_v16
  fn_part1 (F := F) main_arg4 main_v10 main_v15 main_v17
-- ==== Kernel.lean ====
abbrev S2048x2304 : Shape := ⟨2, ![2048, 2304]⟩
abbrev S2048x1024 : Shape := ⟨2, ![2048, 1024]⟩
abbrev S2048x256 : Shape := ⟨2, ![2048, 256]⟩
abbrev S2048x4x64 : Shape := ⟨3, ![2048, 4, 64]⟩
abbrev S4x2048x2048 : Shape := ⟨3, ![4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048 : Shape := ⟨2, ![4, 2048]⟩
abbrev S2048x4 : Shape := ⟨2, ![2048, 4]⟩
abbrev S2048x128 : Shape := ⟨2, ![2048, 128]⟩
abbrev S512x256 : Shape := ⟨2, ![512, 256]⟩
abbrev S512x128 : Shape := ⟨2, ![512, 128]⟩
abbrev S1x128 : Shape := ⟨2, ![1, 128]⟩
abbrev S512x1 : Shape := ⟨2, ![512, 1]⟩
abbrev S128x128 : Shape := ⟨2, ![128, 128]⟩
abbrev S128x256 : Shape := ⟨2, ![128, 256]⟩
abbrev S512 : Shape := ⟨1, ![512]⟩

abbrev nBuf : Space → Nat
  | .hbm => 46
  | .vmem => 12
  | .smem => 0
  | _ => 0

abbrev bufTy : (tb : Table) → Fin (tcTables nBuf tb) → BufTy
  | .hbm, ⟨0, _⟩ => ⟨S2048x2304, .f32⟩
  | .hbm, ⟨1, _⟩ => ⟨S2048x1024, .f32⟩
  | .hbm, ⟨2, _⟩ => ⟨S2048x256, .f32⟩
  | .hbm, ⟨3, _⟩ => ⟨S2048x4x64, .f32⟩
  | .hbm, ⟨4, _⟩ => ⟨S2048x256, .f32⟩
  | .hbm, ⟨5, _⟩ => ⟨S2048x4x64, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .i1⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S_, .f32⟩
  | .hbm, ⟨34, _⟩ => ⟨S4x2048x2048, .i1⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S2048x4, .f32⟩
  | .hbm, ⟨40, _⟩ => ⟨S_, .i32⟩
  | .hbm, ⟨41, _⟩ => ⟨S_, .f32⟩
  | .hbm, ⟨42, _⟩ => ⟨S2048x128, .f32⟩
  | .hbm, ⟨43, _⟩ => ⟨S2048x256, .f32⟩
  | .hbm, ⟨44, _⟩ => ⟨S2048x256, .f32⟩
  | .hbm, ⟨45, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S2048x256, .f32⟩
  | .local _ .vmem, ⟨11, _⟩ => ⟨S2048x256, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_call2_v0 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

@[reducible] def k0_t1_loop (i : grid0.Coords) : Scf.Loop 32 :=
  let c0_i32_21 : BitVec 32 := 0#32
  let arg0 : BitVec 32 := BitVec.ofNat 32 (i 0).val
  let c4_i32 : BitVec 32 := 4#32
  let v76 : BitVec 32 := Scalar.muli arg0 c4_i32
  let v77 : BitVec 32 := Scalar.subi v76 c0_i32_21
  let c1_i32 : BitVec 32 := 1#32
  let v79 : BitVec 32 := Scalar.divsi v77 c1_i32
  let v80 : BitVec 32 := Scalar.muli v79 c1_i32
  let v81 : BitVec 32 := Scalar.addi c0_i32_21 v80
  let c1_i32_22 : BitVec 32 := 1#32
  ⟨c0_i32_21, v81, c1_i32_22⟩
def k0_mult1 (i : grid0.Coords) (k0_t1 : Fin (k0_t1_loop i).trips) : BitVec 32 :=
  let c0_i32_21 : BitVec 32 := 0#32
  let c1_i32_22 : BitVec 32 := 1#32
  let arg9 : BitVec 32 := Scf.iv c0_i32_21 c1_i32_22 k0_t1
  let c128_i32_358 : BitVec 32 := 128#32
  let v1246 : BitVec 32 := Scalar.muli arg9 c128_i32_358
  v1246
def k0_off1 (i : grid0.Coords) (k0_t1 : Fin (k0_t1_loop i).trips) : Fin 2 → Nat :=
  let c0_i32_21 : BitVec 32 := 0#32
  let c1_i32_22 : BitVec 32 := 1#32
  let arg9 : BitVec 32 := Scf.iv c0_i32_21 c1_i32_22 k0_t1
  let c128_i32_358 : BitVec 32 := 128#32
  let v1246 : BitVec 32 := Scalar.muli arg9 c128_i32_358
  let v1247 : BitVec 32 := v1246
  let v1248 : Index := Scalar.indexCast v1247
  let c0_359 : Index := 0#32
  ![v1248.toNat, 0]
@[reducible] def k0_t2_loop (i : grid0.Coords) : Scf.Loop 32 :=
  let c0_i32_21 : BitVec 32 := 0#32
  let arg0 : BitVec 32 := BitVec.ofNat 32 (i 0).val
  let c4_i32 : BitVec 32 := 4#32
  let v76 : BitVec 32 := Scalar.muli arg0 c4_i32
  let v77 : BitVec 32 := Scalar.subi v76 c0_i32_21
  let c1_i32 : BitVec 32 := 1#32
  let v79 : BitVec 32 := Scalar.divsi v77 c1_i32
  let v80 : BitVec 32 := Scalar.muli v79 c1_i32
  let v81 : BitVec 32 := Scalar.addi c0_i32_21 v80
  let v78 : BitVec 32 := Scalar.addi c0_i32_21 v77
  let c1_i32_23 : BitVec 32 := 1#32
  ⟨v81, v78, c1_i32_23⟩
def k0_mult2 (i : grid0.Coords) (k0_t2 : Fin (k0_t2_loop i).trips) : BitVec 32 :=
  let c0_i32_21 : BitVec 32 := 0#32
  let arg0 : BitVec 32 := BitVec.ofNat 32 (i 0).val
  let c4_i32 : BitVec 32 := 4#32
  let v76 : BitVec 32 := Scalar.muli arg0 c4_i32
  let v77 : BitVec 32 := Scalar.subi v76 c0_i32_21
  let c1_i32 : BitVec 32 := 1#32
  let v79 : BitVec 32 := Scalar.divsi v77 c1_i32
  let v80 : BitVec 32 := Scalar.muli v79 c1_i32
  let v81 : BitVec 32 := Scalar.addi c0_i32_21 v80
  let c1_i32_23 : BitVec 32 := 1#32
  let arg9 : BitVec 32 := Scf.iv v81 c1_i32_23 k0_t2
  let c128_i32_358 : BitVec 32 := 128#32
  let v1246 : BitVec 32 := Scalar.muli arg9 c128_i32_358
  v1246
def k0_off2 (i : grid0.Coords) (k0_t2 : Fin (k0_t2_loop i).trips) : Fin 2 → Nat :=
  let c0_i32_21 : BitVec 32 := 0#32
  let arg0 : BitVec 32 := BitVec.ofNat 32 (i 0).val
  let c4_i32 : BitVec 32 := 4#32
  let v76 : BitVec 32 := Scalar.muli arg0 c4_i32
  let v77 : BitVec 32 := Scalar.subi v76 c0_i32_21
  let c1_i32 : BitVec 32 := 1#32
  let v79 : BitVec 32 := Scalar.divsi v77 c1_i32
  let v80 : BitVec 32 := Scalar.muli v79 c1_i32
  let v81 : BitVec 32 := Scalar.addi c0_i32_21 v80
  let c1_i32_23 : BitVec 32 := 1#32
  let arg9 : BitVec 32 := Scf.iv v81 c1_i32_23 k0_t2
  let c128_i32_358 : BitVec 32 := 128#32
  let v1246 : BitVec 32 := Scalar.muli arg9 c128_i32_358
  let v1247 : BitVec 32 := v1246
  let v1248 : Index := Scalar.indexCast v1247
  let c0_359 : Index := 0#32
  ![v1248.toNat, 0]
def k0_mult3 (i : grid0.Coords) : BitVec 32 :=
  let arg0 : BitVec 32 := BitVec.ofNat 32 (i 0).val
  let c4_i32_24 : BitVec 32 := 4#32
  let v86 : BitVec 32 := Scalar.muli arg0 c4_i32_24
  let c0_i32_25 : BitVec 32 := 0#32
  let v87 : BitVec 32 := Scalar.addi v86 c0_i32_25
  let c128_i32 : BitVec 32 := 128#32
  let v91 : BitVec 32 := Scalar.muli v87 c128_i32
  v91
def k0_off3 (i : grid0.Coords) (c0_i32_25 : BitVec 32) : Fin 2 → Nat :=
  let arg0 : BitVec 32 := BitVec.ofNat 32 (i 0).val
  let c4_i32_24 : BitVec 32 := 4#32
  let v86 : BitVec 32 := Scalar.muli arg0 c4_i32_24
  let v87 : BitVec 32 := Scalar.addi v86 c0_i32_25
  let c128_i32 : BitVec 32 := 128#32
  let v91 : BitVec 32 := Scalar.muli v87 c128_i32
  let v92 : BitVec 32 := v91
  let v93 : Index := Scalar.indexCast v92
  let c0_27 : Index := 0#32
  ![v93.toNat, 0]
def k0_mult4 (i : grid0.Coords) : BitVec 32 :=
  let arg0 : BitVec 32 := BitVec.ofNat 32 (i 0).val
  let c4_i32_109 : BitVec 32 := 4#32
  let v381 : BitVec 32 := Scalar.muli arg0 c4_i32_109
  let c1_i32_110 : BitVec 32 := 1#32
  let v382 : BitVec 32 := Scalar.addi v381 c1_i32_110
  let c128_i32_112 : BitVec 32 := 128#32
  let v386 : BitVec 32 := Scalar.muli v382 c128_i32_112
  v386
def k0_mult5 (i : grid0.Coords) : BitVec 32 :=
  let arg0 : BitVec 32 := BitVec.ofNat 32 (i 0).val
  let c4_i32_195 : BitVec 32 := 4#32
  let v676 : BitVec 32 := Scalar.muli arg0 c4_i32_195
  let c2_i32 : BitVec 32 := 2#32
  let v677 : BitVec 32 := Scalar.addi v676 c2_i32
  let c128_i32_196 : BitVec 32 := 128#32
  let v681 : BitVec 32 := Scalar.muli v677 c128_i32_196
  v681
def k0_mult6 (i : grid0.Coords) : BitVec 32 :=
  let arg0 : BitVec 32 := BitVec.ofNat 32 (i 0).val
  let c4_i32_279 : BitVec 32 := 4#32
  let v971 : BitVec 32 := Scalar.muli arg0 c4_i32_279
  let c3_i32 : BitVec 32 := 3#32
  let v972 : BitVec 32 := Scalar.addi v971 c3_i32
  let c128_i32_280 : BitVec 32 := 128#32
  let v976 : BitVec 32 := Scalar.muli v972 c128_i32_280
  v976
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x2304 : Shape := ⟨2, ![2048, 2304]⟩
abbrev S2048x1024 : Shape := ⟨2, ![2048, 1024]⟩
abbrev S2048x256 : Shape := ⟨2, ![2048, 256]⟩
abbrev S2048x4x64 : Shape := ⟨3, ![2048, 4, 64]⟩
abbrev S4x2048x2048 : Shape := ⟨3, ![4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x64x2048 : Shape := ⟨3, ![4, 64, 2048]⟩
abbrev S4x2048x64 : Shape := ⟨3, ![4, 2048, 64]⟩

abbrev nBuf : Space → Nat
  | .hbm => 171
  | .vmem => 0
  | .smem => 0
  | _ => 0

abbrev hbmTy0_0 (i : Nat) : BufTy := match i % 128 with
  | 0 => ⟨S2048x2304, .f32⟩
  | 1 => ⟨S2048x1024, .f32⟩
  | 2 => ⟨S2048x256, .f32⟩
  | 3 => ⟨S2048x256, .f32⟩
  | 4 => ⟨S2048x256, .f32⟩
  | 5 => ⟨S2048x4x64, .f32⟩
  | 6 => ⟨S2048x4x64, .f32⟩
  | 7 => ⟨S2048x4x64, .f32⟩
  | 8 => ⟨S4x2048x2048, .f32⟩
  | 9 => ⟨S_, .f32⟩
  | 10 => ⟨S4x2048x2048, .f32⟩
  | 11 => ⟨S4x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S_, .f32⟩
  | 20 => ⟨S4x2048x2048, .f32⟩
  | 21 => ⟨S4x2048x2048, .f32⟩
  | 22 => ⟨S4x2048x2048, .f32⟩
  | 23 => ⟨S4x2048x2048, .f32⟩
  | 24 => ⟨S4x2048x2048, .i1⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S_, .f32⟩
  | 34 => ⟨S4x2048x2048, .f32⟩
  | 35 => ⟨S4x2048x2048, .i1⟩
  | 36 => ⟨S_, .f32⟩
  | 37 => ⟨S4x2048x2048, .f32⟩
  | 38 => ⟨S4x2048x2048, .f32⟩
  | 39 => ⟨S_, .f32⟩
  | 40 => ⟨S4x2048x2048, .f32⟩
  | 41 => ⟨S4x2048x2048, .i1⟩
  | 42 => ⟨S_, .f32⟩
  | 43 => ⟨S4x2048x2048, .f32⟩
  | 44 => ⟨S4x2048x2048, .f32⟩
  | 45 => ⟨S4x2048x2048, .f32⟩
  | 46 => ⟨S4x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S4x2048x2048, .f32⟩
  | 55 => ⟨S4x2048x2048, .i1⟩
  | 56 => ⟨S_, .f32⟩
  | 57 => ⟨S4x2048x2048, .f32⟩
  | 58 => ⟨S4x2048x2048, .f32⟩
  | 59 => ⟨S4x2048x2048, .f32⟩
  | 60 => ⟨S4x2048x2048, .f32⟩
  | 61 => ⟨S4x2048x2048, .f32⟩
  | 62 => ⟨S_, .f32⟩
  | 63 => ⟨S4x2048x2048, .f32⟩
  | 64 => ⟨S4x2048x2048, .f32⟩
  | 65 => ⟨S4x2048x2048, .f32⟩
  | 66 => ⟨S_, .f32⟩
  | 67 => ⟨S_, .f32⟩
  | 68 => ⟨S4x2048x2048, .i1⟩
  | 69 => ⟨S4x2048x2048, .f32⟩
  | 70 => ⟨S4x2048x2048, .f32⟩
  | 71 => ⟨S_, .f32⟩
  | 72 => ⟨S4x2048x2048, .f32⟩
  | 73 => ⟨S_, .f32⟩
  | 74 => ⟨S_, .f32⟩
  | 75 => ⟨S4x2048x2048, .f32⟩
  | 76 => ⟨S4x2048x2048, .f32⟩
  | 77 => ⟨S4x2048x2048, .f32⟩
  | 78 => ⟨S_, .f32⟩
  | 79 => ⟨S4x2048x2048, .f32⟩
  | 80 => ⟨S4x2048x2048, .f32⟩
  | 81 => ⟨S4x2048x2048, .f32⟩
  | 82 => ⟨S4x2048x2048, .f32⟩
  | 83 => ⟨S4x2048x2048, .i1⟩
  | 84 => ⟨S4x2048x2048, .f32⟩
  | 85 => ⟨S4x2048x2048, .f32⟩
  | 86 => ⟨S4x2048x2048, .f32⟩
  | 87 => ⟨S4x2048x2048, .f32⟩
  | 88 => ⟨S4x2048x2048, .f32⟩
  | 89 => ⟨S4x2048x2048, .f32⟩
  | 90 => ⟨S4x2048x2048, .f32⟩
  | 91 => ⟨S4x2048x2048, .f32⟩
  | 92 => ⟨S_, .f32⟩
  | 93 => ⟨S4x2048x2048, .f32⟩
  | 94 => ⟨S4x2048x2048, .i1⟩
  | 95 => ⟨S_, .f32⟩
  | 96 => ⟨S4x2048x2048, .f32⟩
  | 97 => ⟨S4x2048x2048, .f32⟩
  | 98 => ⟨S_, .f32⟩
  | 99 => ⟨S4x2048x2048, .f32⟩
  | 100 => ⟨S4x2048x2048, .i1⟩
  | 101 => ⟨S_, .f32⟩
  | 102 => ⟨S4x2048x2048, .f32⟩
  | 103 => ⟨S4x2048x2048, .f32⟩
  | 104 => ⟨S4x2048x2048, .f32⟩
  | 105 => ⟨S4x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S4x2048x2048, .f32⟩
  | 114 => ⟨S4x2048x2048, .i1⟩
  | 115 => ⟨S_, .f32⟩
  | 116 => ⟨S4x2048x2048, .f32⟩
  | 117 => ⟨S4x2048x2048, .f32⟩
  | 118 => ⟨S4x2048x2048, .f32⟩
  | 119 => ⟨S4x2048x2048, .f32⟩
  | 120 => ⟨S4x2048x2048, .f32⟩
  | 121 => ⟨S_, .f32⟩
  | 122 => ⟨S4x2048x2048, .f32⟩
  | 123 => ⟨S4x2048x2048, .f32⟩
  | 124 => ⟨S4x2048x2048, .f32⟩
  | 125 => ⟨S4x2048x2048, .f32⟩
  | 126 => ⟨S4x2048x2048, .f32⟩
  | 127 => ⟨S_, .f32⟩
  | _ => ⟨S2048x2304, .f32⟩

abbrev hbmTy0_1 (i : Nat) : BufTy := match i % 128 with
  | 0 => ⟨S_, .f32⟩
  | 1 => ⟨S4x2048x2048, .i1⟩
  | 2 => ⟨S4x2048x2048, .f32⟩
  | 3 => ⟨S4x2048x2048, .f32⟩
  | 4 => ⟨S_, .f32⟩
  | 5 => ⟨S4x2048x2048, .f32⟩
  | 6 => ⟨S4x64x2048, .f32⟩
  | 7 => ⟨S2048x4x64, .f32⟩
  | 8 => ⟨S2048x256, .f32⟩
  | 9 => ⟨S2048x256, .f32⟩
  | 10 => ⟨S2048x4x64, .f32⟩
  | 11 => ⟨S4x64x2048, .f32⟩
  | 12 => ⟨S4x2048x2048, .f32⟩
  | 13 => ⟨S4x64x2048, .f32⟩
  | 14 => ⟨S2048x4x64, .f32⟩
  | 15 => ⟨S_, .f32⟩
  | 16 => ⟨S4x2048x2048, .f32⟩
  | 17 => ⟨S4x2048x2048, .f32⟩
  | 18 => ⟨S4x2048x2048, .f32⟩
  | 19 => ⟨S4x2048x2048, .f32⟩
  | 20 => ⟨S4x2048x2048, .f32⟩
  | 21 => ⟨S4x2048x2048, .f32⟩
  | 22 => ⟨S4x2048x2048, .f32⟩
  | 23 => ⟨S_, .f32⟩
  | 24 => ⟨S_, .f32⟩
  | 25 => ⟨S4x2048x2048, .f32⟩
  | 26 => ⟨S4x2048x2048, .f32⟩
  | 27 => ⟨S_, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S_, .f32⟩
  | 34 => ⟨S4x2048x2048, .f32⟩
  | 35 => ⟨S4x2048x2048, .f32⟩
  | 36 => ⟨S4x2048x64, .f32⟩
  | 37 => ⟨S2048x4x64, .f32⟩
  | 38 => ⟨S4x2048x64, .f32⟩
  | 39 => ⟨S2048x4x64, .f32⟩
  | 40 => ⟨S2048x256, .f32⟩
  | 41 => ⟨S2048x256, .f32⟩
  | 42 => ⟨S2048x256, .f32⟩
  | _ => ⟨S2048x2304, .f32⟩

abbrev hbmTy (i : Nat) : BufTy := match i / 128 with
  | 0 => hbmTy0_0 i
  | 1 => hbmTy0_1 i
  | _ => ⟨S2048x2304, .f32⟩

abbrev bufTy : (tb : Table) → Fin (tcTables nBuf tb) → BufTy
  | .hbm, ⟨i, _⟩ => hbmTy i
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16_0 : Ref sig .tc := ⟨.hbm, 32, rfl⟩
abbrev main_call0_cst_0 : Ref sig .tc := ⟨.hbm, 33, rfl⟩
abbrev main_call0_v13 : Ref sig .tc := ⟨.hbm, 34, rfl⟩
abbrev main_call0_v14 : Ref sig .tc := ⟨.hbm, 35, rfl⟩
abbrev main_call0_cst_1 : Ref sig .tc := ⟨.hbm, 36, rfl⟩
abbrev main_call0_v15 : Ref sig .tc := ⟨.hbm, 37, rfl⟩
abbrev main_call0_v16 : Ref sig .tc := ⟨.hbm, 38, rfl⟩
abbrev main_call0_cst_2 : Ref sig .tc := ⟨.hbm, 39, rfl⟩
abbrev main_call0_v17 : Ref sig .tc := ⟨.hbm, 40, rfl⟩
abbrev main_call0_v18 : Ref sig .tc := ⟨.hbm, 41, rfl⟩
abbrev main_call0_cst_3 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_v16_1 : Ref sig .tc := ⟨.hbm, 46, rfl⟩
abbrev main_call0_cst_4 : Ref sig .tc := ⟨.hbm, 47, rfl⟩
abbrev main_call0_cst_5 : Ref sig .tc := ⟨.hbm, 48, rfl⟩
abbrev main_call0_v23 : Ref sig .tc := ⟨.hbm, 49, rfl⟩
abbrev main_call0_cst_6 : Ref sig .tc := ⟨.hbm, 50, rfl⟩
abbrev main_call0_cst_7 : Ref sig .tc := ⟨.hbm, 51, rfl⟩
abbrev main_call0_v24 : Ref sig .tc := ⟨.hbm, 52, rfl⟩
abbrev main_call0_cst_8 : Ref sig .tc := ⟨.hbm, 53, rfl⟩
abbrev main_call0_v25 : Ref sig .tc := ⟨.hbm, 54, rfl⟩
abbrev main_call0_v26 : Ref sig .tc := ⟨.hbm, 55, rfl⟩
abbrev main_call0_cst_9 : Ref sig .tc := ⟨.hbm, 56, rfl⟩
abbrev main_call0_v27 : Ref sig .tc := ⟨.hbm, 57, rfl⟩
abbrev main_call0_v28 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_cst_10 : Ref sig .tc := ⟨.hbm, 62, rfl⟩
abbrev main_call0_v32 : Ref sig .tc := ⟨.hbm, 63, rfl⟩
abbrev main_v16_2 : Ref sig .tc := ⟨.hbm, 64, rfl⟩
abbrev main_v17 : Ref sig .tc := ⟨.hbm, 65, rfl⟩
abbrev main_cst_0 : Ref sig .tc := ⟨.hbm, 66, rfl⟩
abbrev main_call1_v0 : Ref sig .tc := ⟨.hbm, 67, rfl⟩
abbrev main_v18_1 : Ref sig .tc := ⟨.hbm, 68, rfl⟩
abbrev main_call1_v2 : Ref sig .tc := ⟨.hbm, 69, rfl⟩
abbrev main_v18_0 : Ref sig .tc := ⟨.hbm, 70, rfl⟩
abbrev main_call1_cst : Ref sig .tc := ⟨.hbm, 71, rfl⟩
abbrev main_v18_2 : Ref sig .tc := ⟨.hbm, 72, rfl⟩
abbrev main_call2_cst : Ref sig .tc := ⟨.hbm, 73, rfl⟩
abbrev main_call2_v0 : Ref sig .tc := ⟨.hbm, 74, rfl⟩
abbrev main_v19 : Ref sig .tc := ⟨.hbm, 75, rfl⟩
abbrev main_v20 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v21_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v21_2 : Ref sig .tc := ⟨.hbm, 123, rfl⟩
abbrev main_v21_0 : Ref sig .tc := ⟨.hbm, 124, rfl⟩
abbrev main_v22 : Ref sig .tc := ⟨.hbm, 125, rfl⟩
abbrev main_v23 : Ref sig .tc := ⟨.hbm, 126, rfl⟩
abbrev main_cst_1 : Ref sig .tc := ⟨.hbm, 127, rfl⟩
abbrev main_call4_v0 : Ref sig .tc := ⟨.hbm, 128, rfl⟩
abbrev main_v24_1 : Ref sig .tc := ⟨.hbm, 129, rfl⟩
abbrev main_call4_v2 : Ref sig .tc := ⟨.hbm, 130, rfl⟩
abbrev main_v24_0 : Ref sig .tc := ⟨.hbm, 131, rfl⟩
abbrev main_call4_cst : Ref sig .tc := ⟨.hbm, 132, rfl⟩
abbrev main_v24_2 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_call5_cst : Ref sig .tc := ⟨.hbm, 143, rfl⟩
abbrev main_call5_v0 : Ref sig .tc := ⟨.hbm, 144, rfl⟩
abbrev main_v34 : Ref sig .tc := ⟨.hbm, 145, rfl⟩
abbrev main_v35 : Ref sig .tc := ⟨.hbm, 146, rfl⟩
abbrev main_call6_v0 : Ref sig .tc := ⟨.hbm, 147, rfl⟩
abbrev main_call6_v1 : Ref sig .tc := ⟨.hbm, 148, rfl⟩
abbrev main_v36 : Ref sig .tc := ⟨.hbm, 149, rfl⟩
abbrev main_v37 : Ref sig .tc := ⟨.hbm, 150, rfl⟩
abbrev main_call7_cst : Ref sig .tc := ⟨.hbm, 151, rfl⟩
abbrev main_call7_v0 : Ref sig .tc := ⟨.hbm, 152, rfl⟩
abbrev main_v38 : Ref sig .tc := ⟨.hbm, 153, rfl⟩
abbrev main_v39 : Ref sig .tc := ⟨.hbm, 154, rfl⟩
abbrev main_call8_cst : Ref sig .tc := ⟨.hbm, 155, rfl⟩
abbrev main_call8_v0 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_cst_2 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩
abbrev S1024x2816 : Shape := ⟨2, ![1024, 2816]⟩
abbrev S2816x512 : Shape := ⟨2, ![2816, 512]⟩
abbrev S1024x512 : Shape := ⟨2, ![1024, 512]⟩
abbrev S2048x256 : Shape := ⟨2, ![2048, 256]⟩
abbrev S256x1024 : Shape := ⟨2, ![256, 1024]⟩
abbrev S512x2816 : Shape := ⟨2, ![512, 2816]⟩
abbrev S512x512 : Shape := ⟨2, ![512, 512]⟩

abbrev nBuf : Space → Nat
  | .hbm => 15
  | .vmem => 55
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S2048x1024, .bf16⟩
  | .hbm, ⟨5, _⟩ => ⟨S2048x2816, .bf16⟩
  | .hbm, ⟨6, _⟩ => ⟨S2048x2816, .bf16⟩
  | .hbm, ⟨7, _⟩ => ⟨S2048x2816, .bf16⟩
  | .hbm, ⟨8, _⟩ => ⟨S2048x1024, .f32⟩
  | .hbm, ⟨9, _⟩ => ⟨S2048x2816, .bf16⟩
  | .hbm, ⟨10, _⟩ => ⟨S2048x2816, .bf16⟩
  | .hbm, ⟨11, _⟩ => ⟨S2816x1024, .bf16⟩
  | .hbm, ⟨12, _⟩ => ⟨S2816x1024, .bf16⟩
  | .hbm, ⟨13, _⟩ => ⟨S2816x1024, .bf16⟩
  | .hbm, ⟨14, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1024x2816, .bf16⟩
  | .local _ .vmem, ⟨13, _⟩ => ⟨S1024x2816, .bf16⟩
  | .local _ .vmem, ⟨14, _⟩ => ⟨S2816x512, .bf16⟩
  | .local _ .vmem, ⟨15, _⟩ => ⟨S2816x512, .bf16⟩
  | .local _ .vmem, ⟨16, _⟩ => ⟨S1024x512, .f32⟩
  | .local _ .vmem, ⟨17, _⟩ => ⟨S1024x512, .f32⟩
  | .local _ .vmem, ⟨18, _⟩ => ⟨S512x1024, .bf16⟩
  | .local _ .vmem, ⟨19, _⟩ => ⟨S512x1024, .bf16⟩
  | .local _ .vmem, ⟨20, _⟩ => ⟨S1408x1024, .bf16⟩
  | .local _ .vmem, ⟨21, _⟩ => ⟨S1408x1024, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1408, .bf16⟩
  | .local _ .vmem, ⟨30, _⟩ => ⟨S2048x256, .bf16⟩
  | .local _ .vmem, ⟨31, _⟩ => ⟨S2048x256, .bf16⟩
  | .local _ .vmem, ⟨32, _⟩ => ⟨S2048x1024, .bf16⟩
  | .local _ .vmem, ⟨33, _⟩ => ⟨S256x1024, .bf16⟩
  | .local _ .vmem, ⟨34, _⟩ => ⟨S256x1024, .bf16⟩
  | .local _ .vmem, ⟨35, _⟩ => ⟨S2048x256, .bf16⟩
  | .local _ .vmem, ⟨36, _⟩ => ⟨S2048x256, .bf16⟩
  | .local _ .vmem, ⟨37, _⟩ => ⟨S2048x1024, .bf16⟩
  | .local _ .vmem, ⟨38, _⟩ => ⟨S256x1024, .bf16⟩
  | .local _ .vmem, ⟨39, _⟩ => ⟨S256x1024, .bf16⟩
  | .local _ .vmem, ⟨40, _⟩ => ⟨S2048x256, .bf16⟩
  | .local _ .vmem, ⟨41, _⟩ => ⟨S2048x256, .bf16⟩
  | .local _ .vmem, ⟨42, _⟩ => ⟨S2048x1024, .bf16⟩
  | .local _ .vmem, ⟨43, _⟩ => ⟨S256x1024, .bf16⟩
  | .local _ .vmem, ⟨44, _⟩ => ⟨S256x1024, .bf16⟩
  | .local _ .vmem, ⟨45, _⟩ => ⟨S512x2816, .bf16⟩
  | .local _ .vmem, ⟨46, _⟩ => ⟨S512x2816, .bf16⟩
  | .local _ .vmem, ⟨47, _⟩ => ⟨S2816x512, .bf16⟩
  | .local _ .vmem, ⟨48, _⟩ => ⟨S2816x512, .bf16⟩
  | .local _ .vmem, ⟨49, _⟩ => ⟨S512x2816, .bf16⟩
  | .local _ .vmem, ⟨50, _⟩ => ⟨S512x2816, .bf16⟩
  | .local _ .vmem, ⟨51, _⟩ => ⟨S2816x512, .bf16⟩
  | .local _ .vmem, ⟨52, _⟩ => ⟨S2816x512, .bf16⟩
  | .local _ .vmem, ⟨53, _⟩ => ⟨S512x512, .f32⟩
  | .local _ .vmem, ⟨54, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc6_stg4_0 : Ref sig .tc := ⟨.vmem, 53, rfl⟩
abbrev cc6_stg4_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52
abbrev cc6_sem4_0 : DmaSem sig := 53
abbrev cc6_sem4_1 : DmaSem sig := 54

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2816x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![1, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2816x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S512x2816 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S2816x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S512x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]
-- ==== Reference2Ideal.lean ====
abbrev S2048x1024 : Shape := ⟨2, ![2048, 1024]⟩
abbrev S2816x1024 : Shape := ⟨2, ![2816, 1024]⟩
abbrev S1024x2816 : Shape := ⟨2, ![1024, 2816]⟩
abbrev S2048x2816 : Shape := ⟨2, ![2048, 2816]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S2048x1024, .bf16⟩
  | .hbm, ⟨5, _⟩ => ⟨S2048x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2048x1024, .f32⟩
  | .hbm, ⟨10, _⟩ => ⟨S1024x2816, .f32⟩
  | .hbm, ⟨11, _⟩ => ⟨S1024x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x1024, .f32⟩
  | .hbm, ⟨29, _⟩ => ⟨S1024x2816, .f32⟩
  | .hbm, ⟨30, _⟩ => ⟨S2816x1024, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2816x1024, .f32⟩
  | .hbm, ⟨35, _⟩ => ⟨S1024x2816, .f32⟩
  | .hbm, ⟨36, _⟩ => ⟨S2048x1024, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2816x1024, .f32⟩
  | .hbm, ⟨42, _⟩ => ⟨S1024x2816, .f32⟩
  | .hbm, ⟨43, _⟩ => ⟨S2048x1024, .f32⟩
  | .hbm, ⟨44, _⟩ => ⟨S2048x1024, .f32⟩
  | .hbm, ⟨45, _⟩ => ⟨S2816x1024, .f32⟩
  | .hbm, ⟨46, _⟩ => ⟨S2816x1024, .f32⟩
  | .hbm, ⟨47, _⟩ => ⟨S2816x1024, .bf16⟩
  | .hbm, ⟨48, _⟩ => ⟨S2816x1024, .bf16⟩
  | .hbm, ⟨49, _⟩ => ⟨S2816x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v8_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v8_1 : Ref sig .tc := ⟨.hbm, 24, rfl⟩
abbrev main_v8_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel3.lean ====
abbrev S2048x1024 : Shape := ⟨2, ![2048, 1024]⟩
abbrev S1024x1024 : Shape := ⟨2, ![1024, 1024]⟩
abbrev S2048x256 : Shape := ⟨2, ![2048, 256]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩
abbrev S512x1024 : Shape := ⟨2, ![512, 1024]⟩
abbrev S2048x512 : Shape := ⟨2, ![2048, 512]⟩

abbrev nBuf : Space → Nat
  | .hbm => 13
  | .vmem => 42
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x256, .bf16⟩
  | .hbm, ⟨3, _⟩ => ⟨S4x256x256, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048x1024, .bf16⟩
  | .hbm, ⟨10, _⟩ => ⟨S4x256x256, .bf16⟩
  | .hbm, ⟨11, _⟩ => ⟨S1024x1024, .bf16⟩
  | .hbm, ⟨12, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x256, .bf16⟩
  | .local _ .vmem, ⟨6, _⟩ => ⟨S1024x256, .bf16⟩
  | .local _ .vmem, ⟨7, _⟩ => ⟨S1x256x256, .bf16⟩
  | .local _ .vmem, ⟨8, _⟩ => ⟨S1x256x256, .bf16⟩
  | .local _ .vmem, ⟨9, _⟩ => ⟨S1024x256, .f32⟩
  | .local _ .vmem, ⟨10, _⟩ => ⟨S1024x256, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S1x256x256, .bf16⟩
  | .local _ .vmem, ⟨31, _⟩ => ⟨S1x256x256, .bf16⟩
  | .local _ .vmem, ⟨32, _⟩ => ⟨S2048x512, .bf16⟩
  | .local _ .vmem, ⟨33, _⟩ => ⟨S2048x512, .bf16⟩
  | .local _ .vmem, ⟨34, _⟩ => ⟨S2048x1024, .bf16⟩
  | .local _ .vmem, ⟨35, _⟩ => ⟨S512x1024, .bf16⟩
  | .local _ .vmem, ⟨36, _⟩ => ⟨S512x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .f32⟩
  | .local _ .vmem, ⟨41, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .vmem S2048x256 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x256x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== Reference3Ideal.lean ====
abbrev S2048x1024 : Shape := ⟨2, ![2048, 1024]⟩
abbrev S1024x1024 : Shape := ⟨2, ![1024, 1024]⟩
abbrev S2048x256 : Shape := ⟨2, ![2048, 256]⟩
abbrev S4x256x256 : Shape := ⟨3, ![4, 256, 256]⟩
abbrev S256x4x256 : Shape := ⟨3, ![256, 4, 256]⟩
abbrev S256x1024 : Shape := ⟨2, ![256, 1024]⟩
abbrev S_ : Shape := ⟨0, ![]⟩
abbrev S1024x256 : Shape := ⟨2, ![1024, 256]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x256, .bf16⟩
  | .hbm, ⟨3, _⟩ => ⟨S4x256x256, .bf16⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S2048x256, .f32⟩
  | .hbm, ⟨8, _⟩ => ⟨S4x256x256, .f32⟩
  | .hbm, ⟨9, _⟩ => ⟨S256x4x256, .f32⟩
  | .hbm, ⟨10, _⟩ => ⟨S256x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1024x256, .f32⟩
  | .hbm, ⟨29, _⟩ => ⟨S256x1024, .f32⟩
  | .hbm, ⟨30, _⟩ => ⟨S2048x1024, .f32⟩
  | .hbm, ⟨31, _⟩ => ⟨S1024x1024, .f32⟩
  | .hbm, ⟨32, _⟩ => ⟨S1024x1024, .f32⟩
  | .hbm, ⟨33, _⟩ => ⟨S2048x1024, .f32⟩
  | .hbm, ⟨34, _⟩ => ⟨S256x4x256, .f32⟩
  | .hbm, ⟨35, _⟩ => ⟨S4x256x256, .f32⟩
  | .hbm, ⟨36, _⟩ => ⟨S1024x1024, .bf16⟩
  | .hbm, ⟨37, _⟩ => ⟨S4x256x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel4.lean ====
abbrev S2048x1024 : Shape := ⟨2, ![2048, 1024]⟩
abbrev S2304x1024 : Shape := ⟨2, ![2304, 1024]⟩
abbrev S2048x2304 : Shape := ⟨2, ![2048, 2304]⟩
abbrev S1024x1024 : Shape := ⟨2, ![1024, 1024]⟩
abbrev S2048x384 : Shape := ⟨2, ![2048, 384]⟩
abbrev S1024x384 : Shape := ⟨2, ![1024, 384]⟩
abbrev S2048x256 : Shape := ⟨2, ![2048, 256]⟩
abbrev S256x1536 : Shape := ⟨2, ![256, 1536]⟩
abbrev S2048x1536 : Shape := ⟨2, ![2048, 1536]⟩
abbrev S768x1024 : Shape := ⟨2, ![768, 1024]⟩
abbrev S1024x768 : Shape := ⟨2, ![1024, 768]⟩
abbrev S1024x256 : Shape := ⟨2, ![1024, 256]⟩
abbrev S256x768 : Shape := ⟨2, ![256, 768]⟩
abbrev S2048x512 : Shape := ⟨2, ![2048, 512]⟩
abbrev S512x1024 : Shape := ⟨2, ![512, 1024]⟩
abbrev S512x384 : Shape := ⟨2, ![512, 384]⟩
abbrev S2048x768 : Shape := ⟨2, ![2048, 768]⟩
abbrev S1024x1536 : Shape := ⟨2, ![1024, 1536]⟩
abbrev S384x1024 : Shape := ⟨2, ![384, 1024]⟩
abbrev S1024x2304 : Shape := ⟨2, ![1024, 2304]⟩

abbrev nBuf : Space → Nat
  | .hbm => 24
  | .vmem => 62
  | .smem => 0
  | _ => 0

abbrev bufTy : (tb : Table) → Fin (tcTables nBuf tb) → BufTy
  | .hbm, ⟨0, _⟩ => ⟨S2048x1024, .bf16⟩
  | .hbm, ⟨1, _⟩ => ⟨S2304x1024, .bf16⟩
  | .hbm, ⟨2, _⟩ => ⟨S2048x2304, .bf16⟩
  | .hbm, ⟨3, _⟩ => ⟨S2048x1024, .bf16⟩
  | .hbm, ⟨4, _⟩ => ⟨S1024x1024, .bf16⟩
  | .hbm, ⟨5, _⟩ => ⟨S2048x1024, .bf16⟩
  | .hbm, ⟨6, _⟩ => ⟨S2048x384, .bf16⟩
  | .hbm, ⟨7, _⟩ => ⟨S1024x384, .bf16⟩
  | .hbm, ⟨8, _⟩ => ⟨S2048x1024, .bf16⟩
  | .hbm, ⟨9, _⟩ => ⟨S2048x256, .bf16⟩
  | .hbm, ⟨10, _⟩ => ⟨S256x1536, .bf16⟩
  | .hbm, ⟨11, _⟩ => ⟨S2048x1536, .bf16⟩
  | .hbm, ⟨12, _⟩ => ⟨S2048x2304, .f32⟩
  | .hbm, ⟨13, _⟩ => ⟨S2048x1024, .f32⟩
  | .hbm, ⟨14, _⟩ => ⟨S2048x1536, .f32⟩
  | .hbm, ⟨15, _⟩ => ⟨S2048x1024, .f32⟩
  | .hbm, ⟨16, _⟩ => ⟨S2048x1024, .f32⟩
  | .hbm, ⟨17, _⟩ => ⟨S1024x1024, .bf16⟩
  | .hbm, ⟨18, _⟩ => ⟨S1024x384, .bf16⟩
  | .hbm, ⟨19, _⟩ => ⟨S2048x384, .f32⟩
  | .hbm, ⟨20, _⟩ => ⟨S256x1536, .bf16⟩
  | .hbm, ⟨21, _⟩ => ⟨S2048x256, .f32⟩
  | .hbm, ⟨22, _⟩ => ⟨S2304x1024, .bf16⟩
  | .hbm, ⟨23, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x384, .bf16⟩
  | .local _ .vmem, ⟨7, _⟩ => ⟨S1024x384, .bf16⟩
  | .local _ .vmem, ⟨8, _⟩ => ⟨S1024x384, .bf16⟩
  | .local _ .vmem, ⟨9, _⟩ => ⟨S1024x1024, .f32⟩
  | .local _ .vmem, ⟨10, _⟩ => ⟨S1024x1024, .f32⟩
  | .local _ .vmem, ⟨11, _⟩ => ⟨S1024x256, .bf16⟩
  | .local _ .vmem, ⟨12, _⟩ => ⟨S1024x256, .bf16⟩
  | .local _ .vmem, ⟨13, _⟩ => ⟨S256x768, .bf16⟩
  | .local _ .vmem, ⟨14, _⟩ => ⟨S256x768, .bf16⟩
  | .local _ .vmem, ⟨15, _⟩ => ⟨S1024x768, .f32⟩
  | .local _ .vmem, ⟨16, _⟩ => ⟨S1024x768, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .f32⟩
  | .local _ .vmem, ⟨26, _⟩ => ⟨S1024x1024, .f32⟩
  | .local _ .vmem, ⟨27, _⟩ => ⟨S2048x512, .bf16⟩
  | .local _ .vmem, ⟨28, _⟩ => ⟨S2048x512, .bf16⟩
  | .local _ .vmem, ⟨29, _⟩ => ⟨S2048x1024, .bf16⟩
  | .local _ .vmem, ⟨30, _⟩ => ⟨S512x1024, .bf16⟩
  | .local _ .vmem, ⟨31, _⟩ => ⟨S512x1024, .bf16⟩
  | .local _ .vmem, ⟨32, _⟩ => ⟨S2048x512, .bf16⟩
  | .local _ .vmem, ⟨33, _⟩ => ⟨S2048x512, .bf16⟩
  | .local _ .vmem, ⟨34, _⟩ => ⟨S2048x384, .bf16⟩
  | .local _ .vmem, ⟨35, _⟩ => ⟨S512x384, .bf16⟩
  | .local _ .vmem, ⟨36, _⟩ => ⟨S512x384, .bf16⟩
  | .local _ .vmem, ⟨37, _⟩ => ⟨S1024x1024, .bf16⟩
  | .local _ .vmem, ⟨38, _⟩ => ⟨S1024x1024, .bf16⟩
  | .local _ .vmem, ⟨39, _⟩ => ⟨S1024x384, .bf16⟩
  | .local _ .vmem, ⟨40, _⟩ => ⟨S1024x384, .f32⟩
  | .local _ .vmem, ⟨41, _⟩ => ⟨S1024x384, .f32⟩
  | .local _ .vmem, ⟨42, _⟩ => ⟨S2048x256, .bf16⟩
  | .local _ .vmem, ⟨43, _⟩ => ⟨S2048x768, .bf16⟩
  | .local _ .vmem, ⟨44, _⟩ => ⟨S2048x768, .bf16⟩
  | .local _ .vmem, ⟨45, _⟩ => ⟨S256x768, .bf16⟩
  | .local _ .vmem, ⟨46, _⟩ => ⟨S256x768, .bf16⟩
  | .local _ .vmem, ⟨47, _⟩ => ⟨S1024x1536, .bf16⟩
  | .local _ .vmem, ⟨48, _⟩ => ⟨S1024x1536, .bf16⟩
  | .local _ .vmem, ⟨49, _⟩ => ⟨S256x1536, .bf16⟩
  | .local _ .vmem, ⟨50, _⟩ => ⟨S1024x256, .f32⟩
  | .local _ .vmem, ⟨51, _⟩ => ⟨S1024x256, .f32⟩
  | .local _ .vmem, ⟨52, _⟩ => ⟨S2048x384, .bf16⟩
  | .local _ .vmem, ⟨53, _⟩ => ⟨S2048x384, .bf16⟩
  | .local _ .vmem, ⟨54, _⟩ => ⟨S2048x1024, .bf16⟩
  | .local _ .vmem, ⟨55, _⟩ => ⟨S384x1024, .bf16⟩
  | .local _ .vmem, ⟨56, _⟩ => ⟨S384x1024, .bf16⟩
  | .local _ .vmem, ⟨57, _⟩ => ⟨S1024x2304, .bf16⟩
  | .local _ .vmem, ⟨58, _⟩ => ⟨S1024x2304, .bf16⟩
  | .local _ .vmem, ⟨59, _⟩ => ⟨S2304x1024, .bf16⟩
  | .local _ .vmem, ⟨60, _⟩ => ⟨S1024x1024, .f32⟩
  | .local _ .vmem, ⟨61, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg1_0 : Ref sig .tc := ⟨.vmem, 43, rfl⟩
abbrev cc8_stg1_1 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg2_1 : Ref sig .tc := ⟨.vmem, 51, rfl⟩
abbrev cc10_stg0_0 : Ref sig .tc := ⟨.vmem, 52, rfl⟩
abbrev cc10_stg0_1 : Ref sig .tc := ⟨.vmem, 53, rfl⟩
abbrev cc10_stg1_0 : Ref sig .tc := ⟨.vmem, 54, rfl⟩
abbrev cc10_stg2_0 : Ref sig .tc := ⟨.vmem, 55, rfl⟩
abbrev cc10_stg2_1 : Ref sig .tc := ⟨.vmem, 56, rfl⟩
abbrev cc11_stg0_0 : Ref sig .tc := ⟨.vmem, 57, rfl⟩
abbrev cc11_stg0_1 : Ref sig .tc := ⟨.vmem, 58, rfl⟩
abbrev cc11_stg1_0 : Ref sig .tc := ⟨.vmem, 59, rfl⟩
abbrev cc11_stg2_0 : Ref sig .tc := ⟨.vmem, 60, rfl⟩
abbrev cc11_stg2_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem1_0 : DmaSem sig := 43
abbrev cc8_sem1_1 : DmaSem sig := 44
abbrev cc8_sem2_0 : DmaSem sig := 45
abbrev cc8_sem2_1 : DmaSem sig := 46
abbrev cc9_sem0_0 : DmaSem sig := 47
abbrev cc9_sem0_1 : DmaSem sig := 48
abbrev cc9_sem1_0 : DmaSem sig := 49
abbrev cc9_sem2_0 : DmaSem sig := 50
abbrev cc9_sem2_1 : DmaSem sig := 51
abbrev cc10_sem0_0 : DmaSem sig := 52
abbrev cc10_sem0_1 : DmaSem sig := 53
abbrev cc10_sem1_0 : DmaSem sig := 54
abbrev cc10_sem2_0 : DmaSem sig := 55
abbrev cc10_sem2_1 : DmaSem sig := 56
abbrev cc11_sem0_0 : DmaSem sig := 57
abbrev cc11_sem0_1 : DmaSem sig := 58
abbrev cc11_sem1_0 : DmaSem sig := 59
abbrev cc11_sem2_0 : DmaSem sig := 60
abbrev cc11_sem2_1 : DmaSem sig := 61

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S256x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S2048x384 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S512x384 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 1 → Memref sig .tc .vmem S1024x384 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 2 → Memref sig .tc .vmem S1024x384 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage8_0 : Fin 1 → Memref sig .tc .vmem S2048x256 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, true]

abbrev stage8_1 : Fin 2 → Memref sig .tc .vmem S2048x768 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S256x768 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S1024x1536 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 1 → Memref sig .tc .vmem S256x1536 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true, false]

abbrev stage9_2 : Fin 2 → Memref sig .tc .vmem S1024x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![1, 6], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage10_0 : Fin 2 → Memref sig .tc .vmem S2048x384 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 1 → Memref sig .tc .vmem S2048x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true, false]

abbrev stage10_2 : Fin 2 → Memref sig .tc .vmem S384x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 2], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 2 → Memref sig .tc .vmem S1024x2304 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 1 → Memref sig .tc .vmem S2304x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]
-- ==== Reference4Ideal.lean ====
abbrev S2048x1024 : Shape := ⟨2, ![2048, 1024]⟩
abbrev S2304x1024 : Shape := ⟨2, ![2304, 1024]⟩
abbrev S2048x2304 : Shape := ⟨2, ![2048, 2304]⟩
abbrev S1024x1024 : Shape := ⟨2, ![1024, 1024]⟩
abbrev S2048x384 : Shape := ⟨2, ![2048, 384]⟩
abbrev S1024x384 : Shape := ⟨2, ![1024, 384]⟩
abbrev S2048x256 : Shape := ⟨2, ![2048, 256]⟩
abbrev S256x1536 : Shape := ⟨2, ![256, 1536]⟩
abbrev S2048x1536 : Shape := ⟨2, ![2048, 1536]⟩
abbrev S1024x2304 : Shape := ⟨2, ![1024, 2304]⟩
abbrev S384x1024 : Shape := ⟨2, ![384, 1024]⟩
abbrev S1536x256 : Shape := ⟨2, ![1536, 256]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2304x1024, .bf16⟩
  | .hbm, ⟨2, _⟩ => ⟨S2048x2304, .bf16⟩
  | .hbm, ⟨3, _⟩ => ⟨S2048x1024, .bf16⟩
  | .hbm, ⟨4, _⟩ => ⟨S1024x1024, .bf16⟩
  | .hbm, ⟨5, _⟩ => ⟨S2048x1024, .bf16⟩
  | .hbm, ⟨6, _⟩ => ⟨S2048x384, .bf16⟩
  | .hbm, ⟨7, _⟩ => ⟨S1024x384, .bf16⟩
  | .hbm, ⟨8, _⟩ => ⟨S2048x1024, .bf16⟩
  | .hbm, ⟨9, _⟩ => ⟨S2048x256, .bf16⟩
  | .hbm, ⟨10, _⟩ => ⟨S256x1536, .bf16⟩
  | .hbm, ⟨11, _⟩ => ⟨S2048x1536, .bf16⟩
  | .hbm, ⟨12, _⟩ => ⟨S2048x1024, .f32⟩
  | .hbm, ⟨13, _⟩ => ⟨S2304x1024, .f32⟩
  | .hbm, ⟨14, _⟩ => ⟨S2048x2304, .f32⟩
  | .hbm, ⟨15, _⟩ => ⟨S2048x1024, .f32⟩
  | .hbm, ⟨16, _⟩ => ⟨S1024x1024, .f32⟩
  | .hbm, ⟨17, _⟩ => ⟨S2048x1024, .f32⟩
  | .hbm, ⟨18, _⟩ => ⟨S2048x384, .f32⟩
  | .hbm, ⟨19, _⟩ => ⟨S1024x384, .f32⟩
  | .hbm, ⟨20, _⟩ => ⟨S2048x1024, .f32⟩
  | .hbm, ⟨21, _⟩ => ⟨S2048x256, .f32⟩
  | .hbm, ⟨22, _⟩ => ⟨S256x1536, .f32⟩
  | .hbm, ⟨23, _⟩ => ⟨S2048x1536, .f32⟩
  | .hbm, ⟨24, _⟩ => ⟨S1024x2304, .f32⟩
  | .hbm, ⟨25, _⟩ => ⟨S2048x2304, .f32⟩
  | .hbm, ⟨26, _⟩ => ⟨S384x1024, .f32⟩
  | .hbm, ⟨27, _⟩ => ⟨S2048x1024, .f32⟩
  | .hbm, ⟨28, _⟩ => ⟨S2048x1536, .f32⟩
  | .hbm, ⟨29, _⟩ => ⟨S2048x1024, .f32⟩
  | .hbm, ⟨30, _⟩ => ⟨S2304x1024, .f32⟩
  | .hbm, ⟨31, _⟩ => ⟨S1024x2304, .f32⟩
  | .hbm, ⟨32, _⟩ => ⟨S2048x1024, .f32⟩
  | .hbm, ⟨33, _⟩ => ⟨S1024x384, .f32⟩
  | .hbm, ⟨34, _⟩ => ⟨S384x1024, .f32⟩
  | .hbm, ⟨35, _⟩ => ⟨S2048x384, .f32⟩
  | .hbm, ⟨36, _⟩ => ⟨S1536x256, .f32⟩
  | .hbm, ⟨37, _⟩ => ⟨S256x1536, .f32⟩
  | .hbm, ⟨38, _⟩ => ⟨S2048x256, .f32⟩
  | .hbm, ⟨39, _⟩ => ⟨S1024x1024, .f32⟩
  | .hbm, ⟨40, _⟩ => ⟨S1024x1024, .f32⟩
  | .hbm, ⟨41, _⟩ => ⟨S2048x1024, .f32⟩
  | .hbm, ⟨42, _⟩ => ⟨S1024x1024, .bf16⟩
  | .hbm, ⟨43, _⟩ => ⟨S1024x384, .f32⟩
  | .hbm, ⟨44, _⟩ => ⟨S1024x384, .bf16⟩
  | .hbm, ⟨45, _⟩ => ⟨S256x1536, .bf16⟩
  | .hbm, ⟨46, _⟩ => ⟨S2304x1024, .f32⟩
  | .hbm, ⟨47, _⟩ => ⟨S2304x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel5.lean ====
abbrev S2048x2304 : Shape := ⟨2, ![2048, 2304]⟩
abbrev S3x256 : Shape := ⟨2, ![3, 256]⟩
abbrev S2048x1024 : Shape := ⟨2, ![2048, 1024]⟩
abbrev S2048x256 : Shape := ⟨2, ![2048, 256]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 8
  | .vmem => 28
  | .smem => 0
  | _ => 0

abbrev bufTy : (tb : Table) → Fin (tcTables nBuf tb) → BufTy
  | .hbm, ⟨0, _⟩ => ⟨S2048x2304, .f32⟩
  | .hbm, ⟨1, _⟩ => ⟨S3x256, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S3x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S3x128, .f32⟩
  | .local _ .vmem, ⟨17, _⟩ => ⟨S3x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S3x128, .f32⟩
  | .local _ .vmem, ⟨27, _⟩ => ⟨S3x128, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference5Ideal.lean ====
abbrev S2048x2304 : Shape := ⟨2, ![2048, 2304]⟩
abbrev S3x256 : Shape := ⟨2, ![3, 256]⟩
abbrev S2048x1024 : Shape := ⟨2, ![2048, 1024]⟩
abbrev S2048x256 : Shape := ⟨2, ![2048, 256]⟩
abbrev S1x256 : Shape := ⟨2, ![1, 256]⟩
abbrev S_ : Shape := ⟨0, ![]⟩
abbrev S2x256 : Shape := ⟨2, ![2, 256]⟩
abbrev S2046x256 : Shape := ⟨2, ![2046, 256]⟩
abbrev S2047x256 : Shape := ⟨2, ![2047, 256]⟩
abbrev S256 : Shape := ⟨1, ![256]⟩

abbrev nBuf : Space → Nat
  | .hbm => 72
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S3x256, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S1x256, .f32⟩
  | .hbm, ⟨8, _⟩ => ⟨S_, .f32⟩
  | .hbm, ⟨9, _⟩ => ⟨S2x256, .f32⟩
  | .hbm, ⟨10, _⟩ => ⟨S2046x256, .f32⟩
  | .hbm, ⟨11, _⟩ => ⟨S2048x256, .f32⟩
  | .hbm, ⟨12, _⟩ => ⟨S_, .f32⟩
  | .hbm, ⟨13, _⟩ => ⟨S2x256, .f32⟩
  | .hbm, ⟨14, _⟩ => ⟨S2048x256, .f32⟩
  | .hbm, ⟨15, _⟩ => ⟨S2048x256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S2047x256, .f32⟩
  | .hbm, ⟨20, _⟩ => ⟨S2048x256, .f32⟩
  | .hbm, ⟨21, _⟩ => ⟨S_, .f32⟩
  | .hbm, ⟨22, _⟩ => ⟨S1x256, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S1x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S256, .f32⟩
  | .hbm, ⟨39, _⟩ => ⟨S1x256, .f32⟩
  | .hbm, ⟨40, _⟩ => ⟨S_, .f32⟩
  | .hbm, ⟨41, _⟩ => ⟨S3x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S_, .f32⟩
  | .hbm, ⟨46, _⟩ => ⟨S256, .f32⟩
  | .hbm, ⟨47, _⟩ => ⟨S1x256, .f32⟩
  | .hbm, ⟨48, _⟩ => ⟨S1x256, .f32⟩
  | .hbm, ⟨49, _⟩ => ⟨S2047x256, .f32⟩
  | .hbm, ⟨50, _⟩ => ⟨S_, .f32⟩
  | .hbm, ⟨51, _⟩ => ⟨S2048x256, .f32⟩
  | .hbm, ⟨52, _⟩ => ⟨S2048x256, .f32⟩
  | .hbm, ⟨53, _⟩ => ⟨S_, .f32⟩
  | .hbm, ⟨54, _⟩ => ⟨S3x256, .f32⟩
  | .hbm, ⟨55, _⟩ => ⟨S3x256, .f32⟩
  | .hbm, ⟨56, _⟩ => ⟨S2048x256, .f32⟩
  | .hbm, ⟨57, _⟩ => ⟨S2048x256, .f32⟩
  | .hbm, ⟨58, _⟩ => ⟨S2048x256, .f32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S2x256, .f32⟩
  | .hbm, ⟨63, _⟩ => ⟨S2046x256, .f32⟩
  | .hbm, ⟨64, _⟩ => ⟨S_, .f32⟩
  | .hbm, ⟨65, _⟩ => ⟨S2048x256, .f32⟩
  | .hbm, ⟨66, _⟩ => ⟨S2048x256, .f32⟩
  | .hbm, ⟨67, _⟩ => ⟨S_, .f32⟩
  | .hbm, ⟨68, _⟩ => ⟨S3x256, .f32⟩
  | .hbm, ⟨69, _⟩ => ⟨S3x256, .f32⟩
  | .hbm, ⟨70, _⟩ => ⟨S2048x256, .f32⟩
  | .hbm, ⟨71, _⟩ => ⟨S2048x256, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S2048x384 : Shape := ⟨2, ![2048, 384]⟩
abbrev S1x384 : Shape := ⟨2, ![1, 384]⟩
abbrev S2048x256 : Shape := ⟨2, ![2048, 256]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩
abbrev S512x384 : Shape := ⟨2, ![512, 384]⟩
abbrev S512x256 : Shape := ⟨2, ![512, 256]⟩

abbrev nBuf : Space → Nat
  | .hbm => 16
  | .vmem => 42
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x384, .f32⟩
  | .hbm, ⟨5, _⟩ => ⟨S1x384, .f32⟩
  | .hbm, ⟨6, _⟩ => ⟨S2048x256, .f32⟩
  | .hbm, ⟨7, _⟩ => ⟨S1x256, .f32⟩
  | .hbm, ⟨8, _⟩ => ⟨S2048x1024, .bf16⟩
  | .hbm, ⟨9, _⟩ => ⟨S2048x384, .bf16⟩
  | .hbm, ⟨10, _⟩ => ⟨S2048x256, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x384, .f32⟩
  | .local _ .vmem, ⟨6, _⟩ => ⟨S512x384, .f32⟩
  | .local _ .vmem, ⟨7, _⟩ => ⟨S1x384, .f32⟩
  | .local _ .vmem, ⟨8, _⟩ => ⟨S512x384, .bf16⟩
  | .local _ .vmem, ⟨9, _⟩ => ⟨S512x384, .bf16⟩
  | .local _ .vmem, ⟨10, _⟩ => ⟨S512x256, .f32⟩
  | .local _ .vmem, ⟨11, _⟩ => ⟨S512x256, .f32⟩
  | .local _ .vmem, ⟨12, _⟩ => ⟨S1x256, .f32⟩
  | .local _ .vmem, ⟨13, _⟩ => ⟨S512x256, .bf16⟩
  | .local _ .vmem, ⟨14, _⟩ => ⟨S512x256, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S1x1024, .f32⟩
  | .local _ .vmem, ⟨40, _⟩ => ⟨S512x1024, .f32⟩
  | .local _ .vmem, ⟨41, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc4_stg5_0 : Ref sig .tc := ⟨.vmem, 33, rfl⟩
abbrev cc4_stg5_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc3_sem4_1 : DmaSem sig := 22
abbrev cc3_sem5_0 : DmaSem sig := 23
abbrev cc3_sem5_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem4_0 : DmaSem sig := 31
abbrev cc4_sem4_1 : DmaSem sig := 32
abbrev cc4_sem5_0 : DmaSem sig := 33
abbrev cc4_sem5_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]
-- ==== Reference6Ideal.lean ====
abbrev S2048x1024 : Shape := ⟨2, ![2048, 1024]⟩
abbrev S1x1024 : Shape := ⟨2, ![1, 1024]⟩
abbrev S2048x384 : Shape := ⟨2, ![2048, 384]⟩
abbrev S1x384 : Shape := ⟨2, ![1, 384]⟩
abbrev S2048x256 : Shape := ⟨2, ![2048, 256]⟩
abbrev S1x256 : Shape := ⟨2, ![1, 256]⟩
abbrev S_ : Shape := ⟨0, ![]⟩
abbrev S2048 : Shape := ⟨1, ![2048]⟩
abbrev S2048x1 : Shape := ⟨2, ![2048, 1]⟩

abbrev nBuf : Space → Nat
  | .hbm => 123
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x384, .f32⟩
  | .hbm, ⟨5, _⟩ => ⟨S1x384, .f32⟩
  | .hbm, ⟨6, _⟩ => ⟨S2048x256, .f32⟩
  | .hbm, ⟨7, _⟩ => ⟨S1x256, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | .hbm, ⟨59, _⟩ => ⟨S2048x384, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1, .f32⟩
  | .hbm, ⟨70, _⟩ => ⟨S2048x384, .f32⟩
  | .hbm, ⟨71, _⟩ => ⟨S2048x384, .f32⟩
  | .hbm, ⟨72, _⟩ => ⟨S2048x384, .f32⟩
  | .hbm, ⟨73, _⟩ => ⟨S2048x384, .f32⟩
  | .hbm, ⟨74, _⟩ => ⟨S2048x384, .bf16⟩
  | .hbm, ⟨75, _⟩ => ⟨S2048x256, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x1, .f32⟩
  | .hbm, ⟨86, _⟩ => ⟨S2048x256, .f32⟩
  | .hbm, ⟨87, _⟩ => ⟨S2048x256, .f32⟩
  | .hbm, ⟨88, _⟩ => ⟨S2048x256, .f32⟩
  | .hbm, ⟨89, _⟩ => ⟨S2048x256, .f32⟩
  | .hbm, ⟨90, _⟩ => ⟨S2048x256, .bf16⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S2048x1, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S2048x1024, .bf16⟩
  | .hbm, ⟨107, _⟩ => ⟨S2048x1024, .f32⟩
  | .hbm, ⟨108, _⟩ => ⟨S_, .f32⟩
  | .hbm, ⟨109, _⟩ => ⟨S2048, .f32⟩
  | .hbm, ⟨110, _⟩ => ⟨S2048x1, .f32⟩
  | .hbm, ⟨111, _⟩ => ⟨S_, .f32⟩
  | .hbm, ⟨112, _⟩ => ⟨S2048x1, .f32⟩
  | .hbm, ⟨113, _⟩ => ⟨S2048x1, .f32⟩
  | .hbm, ⟨114, _⟩ => ⟨S_, .f32⟩
  | .hbm, ⟨115, _⟩ => ⟨S2048x1, .f32⟩
  | .hbm, ⟨116, _⟩ => ⟨S2048x1, .f32⟩
  | .hbm, ⟨117, _⟩ => ⟨S2048x1, .f32⟩
  | .hbm, ⟨118, _⟩ => ⟨S2048x1024, .f32⟩
  | .hbm, ⟨119, _⟩ => ⟨S2048x1024, .f32⟩
  | .hbm, ⟨120, _⟩ => ⟨S2048x1024, .f32⟩
  | .hbm, ⟨121, _⟩ => ⟨S2048x1024, .f32⟩
  | .hbm, ⟨122, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_cst_19 : Ref sig .tc := ⟨.hbm, 111, rfl⟩
abbrev main_v83 : Ref sig .tc := ⟨.hbm, 112, rfl⟩
abbrev main_v84 : Ref sig .tc := ⟨.hbm, 113, rfl⟩
abbrev main_cst_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== Proof.Finite.lean ====
/-
  What the precondition gives: the entries the call reads are real numbers.
-/
module

public import proofs.«01_k».proof.Pre_finite
public import Idealize.ShloMosaic.Lib.ReduceAll
public import Idealize.ShloMosaic.Lib.Pointwise
public import Idealize.ShloMosaic.Lib.Pipeline.ValueKit

@[expose] public section

noncomputable section

namespace Cert.Pre_finite

open Idealize.ShloMosaic

/-- The function's side conditions. -/
instance facts : Facts where
  slices_S2048x2304_S2048x768_0_0 := by decide
  bcast_S_S2048x768 := by decide
  reducesTo_S2048x768_S_d0_1 := by decide
  h_S_ := by decide
  slices_S2048x1024_S2048x256_0_0 := by decide
  bcast_S_S2048x256 := by decide
  reducesTo_S2048x256_S_d0_1 := by decide

/-- Below infinity in absolute value: a real number. -/
theorem real_of_abs_lt {x : EReal} (h : max x (-x) < ⊤) : x = (x.toReal : EReal) := by
  refine (EReal.coe_toReal ?_ ?_).symm
  · rintro rfl; simp at h
  · rintro rfl; simp at h

/-- One entry's test. -/
theorem real_of_bit {x : EReal} (e : BitVec.ofBool (decide ((FloatOps.absf (F := Ideal) (φ := .f32) x : EReal) < Ideal.ofBits .f32 2139095040#32)) = 1#1) :
    x = (x.toReal : EReal) := by
  refine real_of_abs_lt ?_
  have hi : Ideal.ofBits .f32 2139095040#32 = (⊤ : EReal) := by simp [Ideal.ofBits, Ideal.ieee]
  rw [hi] at e
  by_contra hn
  rw [decide_eq_false (show ¬((FloatOps.absf (F := Ideal) (φ := .f32) x : EReal) < ⊤) from hn)] at e
  exact absurd e (by decide)

/-- What both blocks' tests give, entry by entry. -/
theorem real_of_fn {a : FVec Ideal S2048x2304 .f32} {b : FVec Ideal S2048x1024 .f32} (h : fn (F := Ideal) a b = fun _ => 1#1) :
    (∀ i : S2048x2304.Idx, (i 1).val < 768 → a i = (((a i : EReal).toReal : ℝ) : EReal))
    ∧ (∀ i : S2048x1024.Idx, (i 1).val < 256 → b i = (((b i : EReal).toReal : ℝ) : EReal)) := by
  have hh := congrFun h (fun a => a.elim0)
  unfold fn at hh
  dsimp only at hh
  obtain ⟨ha, hb⟩ := IntOp.andi_eq_one.1 hh
  refine ⟨fun i hi => ?_, fun i hi => ?_⟩
  · have e := Host.reduce_andi_all _ _ _ _ _ ha (ix2 (i 0) (⟨(i 1).val, hi⟩ : Fin 768))
    pointwise at e
    exact real_of_bit e
  · have e := Host.reduce_andi_all _ _ _ _ _ hb (ix2 (i 0) (⟨(i 1).val, hi⟩ : Fin 256))
    pointwise at e
    exact real_of_bit e

end Cert.Pre_finite
-- ==== Proof.Finite2.lean ====
/-
  What the feed-forward layer's precondition gives: every argument's entries are real numbers.
-/
module

public import proofs.«01_k».proof.Pre_finite2
public import proofs.«01_k».proof.Proof.Finite

@[expose] public section

noncomputable section

namespace Cert.Pre_finite2

open Idealize.ShloMosaic

/-- The function's side conditions. -/
instance facts : Facts where
  bitsLt_bf16_f32 := by decide
  bcast_S_S2048x1024 := by decide
  reducesTo_S2048x1024_S_d0_1 := by decide
  h_S_ := by decide
  bcast_S_S2816x1024 := by decide
  reducesTo_S2816x1024_S_d0_1 := by decide

/-- The test of one array of the first shape. -/
theorem real_of_rows {a : FVec Ideal S2048x1024 .bf16}
    (h : Host.reduce IntOp.andi (cmpf .olt (Host.absf (extf .f32 a facts.bitsLt_bf16_f32)) (broadcastInDim S2048x1024 ![] facts.bcast_S_S2048x1024 (constant S_ .f32 0x7F800000#32)))
      (constantI S_ 1 1#1) facts.reducesTo_S2048x1024_S_d0_1 facts.h_S_ (fun a => a.elim0) = 1#1) (i : S2048x1024.Idx) :
    ∃ r : ℝ, a i = (r : EReal) := by
  have e := Host.reduce_andi_all _ _ _ _ _ h i
  pointwise at e
  exact ⟨_, Cert.Pre_finite.real_of_bit e⟩

/-- The test of one array of the second shape. -/
theorem real_of_weights {a : FVec Ideal S2816x1024 .bf16}
    (h : Host.reduce IntOp.andi (cmpf .olt (Host.absf (extf .f32 a facts.bitsLt_bf16_f32)) (broadcastInDim S2816x1024 ![] facts.bcast_S_S2816x1024 (constant S_ .f32 0x7F800000#32)))
      (constantI S_ 1 1#1) facts.reducesTo_S2816x1024_S_d0_1 facts.h_S_ (fun a => a.elim0) = 1#1) (i : S2816x1024.Idx) :
    ∃ r : ℝ, a i = (r : EReal) := by
  have e := Host.reduce_andi_all _ _ _ _ _ h i
  pointwise at e
  exact ⟨_, Cert.Pre_finite.real_of_bit e⟩

/-- What the five tests give. -/
theorem real_of_fn {a e : FVec Ideal S2048x1024 .bf16} {b c d : FVec Ideal S2816x1024 .bf16} (h : fn (F := Ideal) a b c d e = fun _ => 1#1) :
    (∀ i, ∃ r : ℝ, a i = (r : EReal)) ∧ (∀ i, ∃ r : ℝ, b i = (r : EReal)) ∧ (∀ i, ∃ r : ℝ, c i = (r : EReal))
      ∧ (∀ i, ∃ r : ℝ, d i = (r : EReal)) ∧ (∀ i, ∃ r : ℝ, e i = (r : EReal)) := by
  have hh := congrFun h (fun a => a.elim0)
  unfold fn fn_part1 at hh
  dsimp only at hh
  obtain ⟨h1, he⟩ := IntOp.andi_eq_one.1 hh
  obtain ⟨h2, h3⟩ := IntOp.andi_eq_one.1 h1
  obtain ⟨ha, hb⟩ := IntOp.andi_eq_one.1 h2
  obtain ⟨hc, hd⟩ := IntOp.andi_eq_one.1 h3
  exact ⟨real_of_rows ha, real_of_weights hb, real_of_weights hc, real_of_weights hd, real_of_rows he⟩

end Cert.Pre_finite2

end
-- ==== Proof.Mats.lean ====
/-
  Products of whole matrices, and the logistic function, over the real numbers and the two infinities.
-/
module

public import Idealize.ShloMosaic.Lib.Pointwise
public import Idealize.ShloMosaic.PureOps.Ideal

@[expose] public section

noncomputable section

namespace Cert.Mats

open Idealize.ShloMosaic

/-- A matrix with entries among the real numbers and the two infinities. -/
abbrev M (A B : ℕ) := (⟨2, ![A, B]⟩ : Shape).Idx → EReal

/-- The rows of one matrix against the rows of another. -/
def nt {A B K : ℕ} (x : M A K) (w : M B K) : M A B := fun i => ∑ k : Fin K, x (ix2 (i 0) k) * w (ix2 (i 1) k)

/-- The rows of one matrix against the columns of another. -/
def nn {A B K : ℕ} (x : M A K) (w : M K B) : M A B := fun i => ∑ k : Fin K, x (ix2 (i 0) k) * w (ix2 k (i 1))

/-- The columns of one matrix against the columns of another. -/
def tn {A B K : ℕ} (x : M K A) (w : M K B) : M A B := fun i => ∑ k : Fin K, x (ix2 k (i 0)) * w (ix2 k (i 1))

/-- The logistic function, by the hyperbolic tangent. -/
def sg (v : EReal) : EReal := Ideal.ofBits .f32 0x3F000000#32 * Ideal.tanh (Ideal.ofBits .f32 0x3F000000#32 * v) + Ideal.ofBits .f32 0x3F000000#32

/-- The sum of two matrices. -/
def plus {A B : ℕ} (x y : M A B) : M A B := fun i => x i + y i

/-- The constant one half. -/
theorem half : Ideal.ofBits .f32 0x3F000000#32 = ((1 / 2 : ℝ) : EReal) := by
  simp [Ideal.ofBits, Ideal.ieee]
  rw [← EReal.coe_mul]
  norm_num

/-- The constant one. -/
theorem one : (FloatOps.ofBits (F := Ideal) .f32 0x3F800000#32 : EReal) = ((1 : ℝ) : EReal) := by
  show Ideal.ofBits .f32 0x3F800000#32 = _
  simp [Ideal.ofBits, Ideal.ieee]
  rw [← EReal.coe_mul, ← EReal.coe_one]
  norm_num

/-- The logistic function by the hyperbolic tangent and by the exponential. -/
theorem tanh_half (x : ℝ) : 1 / 2 * Real.tanh (1 / 2 * x) + 1 / 2 = 1 / (1 + Real.exp (-x)) := by
  have e : Real.exp (-x) = Real.exp (-(1 / 2 * x)) * Real.exp (-(1 / 2 * x)) := by rw [← Real.exp_add]; ring_nf
  have u : Real.exp (1 / 2 * x) * Real.exp (-(1 / 2 * x)) = 1 := by rw [← Real.exp_add, add_neg_cancel, Real.exp_zero]
  rw [Real.tanh_eq_sinh_div_cosh, Real.sinh_eq, Real.cosh_eq, e]
  have p := Real.exp_pos (1 / 2 * x)
  have q := Real.exp_pos (-(1 / 2 * x))
  generalize Real.exp (1 / 2 * x) = a at *
  generalize Real.exp (-(1 / 2 * x)) = b at *
  have h1 : a + b ≠ 0 := by positivity
  have h2 : 1 + b * b ≠ 0 := by positivity
  field_simp
  linear_combination (2 * b) * u

theorem sg_coe (x : ℝ) : sg (x : EReal) = ((1 / (1 + Real.exp (-x)) : ℝ) : EReal) := by
  unfold sg
  rw [half, ← EReal.coe_mul, Ideal.tanh_coe, ← EReal.coe_mul, ← EReal.coe_add, tanh_half]

end Cert.Mats

end
-- ==== Proof.Ffn.lean ====
/-
  The feed-forward layer's calls, each over arrays: what a call leaves in its output array is one product of its input
  arrays, or arithmetic at each entry.
-/
module

public import proofs.«01_k».proof.Proof.Gen.Kernel2Ideal.Frame
public import proofs.«01_k».proof.Proof.Mats
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.Mats

/-- The layer's inner values, from the gate's products and the others. -/
def act {A B : ℕ} (g u : M A B) : M A B := fun i => g i * sg (g i) * u i

/-- The gradient of the gate's products, from that of the inner values. -/
def dgate {A B : ℕ} (d g u : M A B) : M A B := fun i => d i * u i * (sg (g i) * (1 + g i * (1 - sg (g i))))

/-- The gradient of the other products. -/
def dup {A B : ℕ} (d g : M A B) : M A B := fun i => d i * (g i * sg (g i))

theorem idx0 : ∀ t : Fin cfg0.N, win0_0.index t = ![(grid0.coords t 1).val, 0] ∧ win0_1.index t = ![(grid0.coords t 0).val, 0]
    ∧ win0_2.index t = ![(grid0.coords t 0).val, 0] ∧ win0_3.index t = ![(grid0.coords t 1).val, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

theorem idx1 : ∀ t : Fin cfg1.N, win1_0.index t = ![(grid1.coords t 1).val, 0] ∧ win1_1.index t = ![0, (grid1.coords t 0).val]
    ∧ win1_2.index t = ![(grid1.coords t 1).val, (grid1.coords t 0).val] :=
  (by decide +kernel : ∀ t : Fin grid1.N, _)

theorem idx2 : ∀ t : Fin cfg2.N, win2_0.index t = ![(grid2.coords t 1).val, 0] ∧ win2_1.index t = ![(grid2.coords t 0).val, 0]
    ∧ win2_2.index t = ![(grid2.coords t 1).val, (grid2.coords t 0).val] ∧ win2_3.index t = ![(grid2.coords t 1).val, (grid2.coords t 0).val]
    ∧ win2_4.index t = ![(grid2.coords t 1).val, (grid2.coords t 0).val] ∧ win2_5.index t = ![(grid2.coords t 1).val, (grid2.coords t 0).val] :=
  (by decide +kernel : ∀ t : Fin grid2.N, _)

theorem idx3 : ∀ t : Fin cfg3.N, win3_0.index t = ![0, (grid3.coords t 1).val] ∧ win3_1.index t = ![0, (grid3.coords t 0).val]
    ∧ win3_2.index t = ![(grid3.coords t 1).val, (grid3.coords t 0).val] :=
  (by decide +kernel : ∀ t : Fin grid3.N, _)

theorem idx4 : ∀ t : Fin cfg4.N, win4_0.index t = ![0, (grid4.coords t 1).val] ∧ win4_1.index t = ![0, (grid4.coords t 0).val]
    ∧ win4_2.index t = ![(grid4.coords t 1).val, (grid4.coords t 0).val] :=
  (by decide +kernel : ∀ t : Fin grid4.N, _)

theorem idx5 : ∀ t : Fin cfg5.N, win5_0.index t = ![0, (grid5.coords t 1).val] ∧ win5_1.index t = ![0, (grid5.coords t 0).val]
    ∧ win5_2.index t = ![(grid5.coords t 1).val, (grid5.coords t 0).val] :=
  (by decide +kernel : ∀ t : Fin grid5.N, _)

theorem idx6 : ∀ t : Fin cfg6.N, win6_0.index t = ![(grid6.coords t 1).val, 0] ∧ win6_1.index t = ![0, (grid6.coords t 0).val]
    ∧ win6_2.index t = ![(grid6.coords t 1).val, 0] ∧ win6_3.index t = ![0, (grid6.coords t 0).val]
    ∧ win6_4.index t = ![(grid6.coords t 1).val, (grid6.coords t 0).val] :=
  (by decide +kernel : ∀ t : Fin grid6.N, _)

variable (V : (c : Dev nD) → (b : Ref sig .tc) → Buf (Elt Ideal) ((c : Thread nD τ).loc b)) (c : Dev nD)

/-- The gate's products. -/
theorem gate : (dat0 V c).arrAt 3 cfg0.N = nt (V c main_arg0) (V c main_arg1) := by
  refine (dat0 V c).arrAt_eq_of_covers 3 _ (by decide +kernel) fun t _ y => ?_
  blk_simp
  rw [after0_3]; frame_out
  pointwise [k0_pay3, k0_pay1, nt]
  blk_point [iblk0, idx0 t]

/-- The other products. -/
theorem up : (dat0 V c).arrAt 4 cfg0.N = nt (V c main_arg0) (V c main_arg2) := by
  refine (dat0 V c).arrAt_eq_of_covers 4 _ (by decide +kernel) fun t _ y => ?_
  blk_simp
  rw [after0_4]; frame_out
  pointwise [k0_pay4, k0_pay2, nt]
  blk_point [iblk0, idx0 t]

/-- The inner values. -/
theorem inner : (dat0 V c).arrAt 5 cfg0.N = act (nt (V c main_arg0) (V c main_arg1)) (nt (V c main_arg0) (V c main_arg2)) := by
  refine (dat0 V c).arrAt_eq_of_covers 5 _ (by decide +kernel) fun t _ y => ?_
  blk_simp
  rw [after0_5]; frame_out
  pointwise [k0_pay5, k0_pay2, k0_pay1, act, sg, nt]
  blk_point [iblk0, idx0 t]

/-- The layer's output. -/
theorem out : (dat1 V c).arrAt 2 cfg1.N = nn (V c main_v0_2) (V c main_arg3) := by
  refine (dat1 V c).arrAt_eq_of_covers 2 _ (by decide +kernel) fun t _ y => ?_
  blk_simp
  rw [after1_2]; frame_out
  pointwise [k1_pay1, nn]
  blk_point [iblk1, idx1 t]

/-- The gradient of the gate's products. -/
theorem gate_grad : (dat2 V c).arrAt 4 cfg2.N = dgate (nt (V c main_arg4) (V c main_arg3)) (V c main_v0_0) (V c main_v0_1) := by
  refine (dat2 V c).arrAt_eq_of_covers 4 _ (by decide +kernel) fun t _ y => ?_
  blk_simp
  rw [after2_4]; frame_out
  pointwise [k2_pay4, k2_pay3, k2_pay2, k2_pay1, dgate, sg, nt]
  blk_point [iblk2, idx2 t]

/-- The gradient of the other products. -/
theorem up_grad : (dat2 V c).arrAt 5 cfg2.N = dup (nt (V c main_arg4) (V c main_arg3)) (V c main_v0_0) := by
  refine (dat2 V c).arrAt_eq_of_covers 5 _ (by decide +kernel) fun t _ y => ?_
  blk_simp
  rw [after2_5]; frame_out
  pointwise [k2_pay5, k2_pay3, k2_pay2, k2_pay1, dup, sg, nt]
  blk_point [iblk2, idx2 t]

/-- The gradient of the gate's weights. -/
theorem gate_weights : (dat3 V c).arrAt 2 cfg3.N = tn (V c main_v2_0) (V c main_arg0) := by
  refine (dat3 V c).arrAt_eq_of_covers 2 _ (by decide +kernel) fun t _ y => ?_
  blk_simp
  rw [after3_2]; frame_out
  pointwise [k3_pay1, tn]
  blk_point [iblk3, idx3 t]

/-- The gradient of the other products' weights. -/
theorem up_weights : (dat4 V c).arrAt 2 cfg4.N = tn (V c main_v2_1) (V c main_arg0) := by
  refine (dat4 V c).arrAt_eq_of_covers 2 _ (by decide +kernel) fun t _ y => ?_
  blk_simp
  rw [after4_2]; frame_out
  pointwise [k4_pay1, tn]
  blk_point [iblk4, idx4 t]

/-- The gradient of the output's weights. -/
theorem out_weights : (dat5 V c).arrAt 2 cfg5.N = tn (V c main_v0_2) (V c main_arg4) := by
  refine (dat5 V c).arrAt_eq_of_covers 2 _ (by decide +kernel) fun t _ y => ?_
  blk_simp
  rw [after5_2]; frame_out
  pointwise [k5_pay1, tn]
  blk_point [iblk5, idx5 t]

/-- The gradient of the layer's input. -/
theorem input : (dat6 V c).arrAt 4 cfg6.N = plus (nn (V c main_v2_0) (V c main_arg1)) (nn (V c main_v2_1) (V c main_arg2)) := by
  refine (dat6 V c).arrAt_eq_of_covers 4 _ (by decide +kernel) fun t _ y => ?_
  blk_simp
  rw [after6_4]; frame_out
  pointwise [k6_pay1, plus, nn]
  blk_point [iblk6, idx6 t]

end Cert.Kernel2Ideal.Ffn

end
-- ==== Proof.FfnRun.lean ====
/-
  The feed-forward layer's run: what each array holds where a call finds it, and the five results after the last call.
-/
module

public import proofs.«01_k».proof.Proof.Ffn

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.Mats
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg) (c : Dev nD)

/-- The gate's products, from the arguments. -/
def gM : M 2048 2816 := nt (m (c.tc.loc main_arg0)) (m (c.tc.loc main_arg1))
/-- The other products. -/
def uM : M 2048 2816 := nt (m (c.tc.loc main_arg0)) (m (c.tc.loc main_arg2))
/-- The gradient of the inner values. -/
def dM : M 2048 2816 := nt (m (c.tc.loc main_arg4)) (m (c.tc.loc main_arg3))

theorem at_v0_0 : W1 m ρ c (Proc.devRef .tc main_v0_0) = gM m c := (W1_arr m ρ c 3).trans (gate (V0 m ρ) c)
theorem at_v0_1 : W1 m ρ c (Proc.devRef .tc main_v0_1) = uM m c := (W1_arr m ρ c 4).trans (up (V0 m ρ) c)
theorem at_v0_2 : W1 m ρ c (Proc.devRef .tc main_v0_2) = act (gM m c) (uM m c) := (W1_arr m ρ c 5).trans (inner (V0 m ρ) c)

/-- The layer's output. -/
def yM : M 2048 1024 := nn (act (gM m c) (uM m c)) (m (c.tc.loc main_arg3))
/-- The gradient of the gate's products. -/
def dgM : M 2048 2816 := dgate (dM m c) (gM m c) (uM m c)
/-- The gradient of the other products. -/
def duM : M 2048 2816 := dup (dM m c) (gM m c)

theorem at_v1 : W2 m ρ c (Proc.devRef .tc main_v1) = yM m c := by
  refine (W2_arr m ρ c 2).trans ((out (V1 m ρ) c).trans ?_)
  show nn (W1 m ρ c (Proc.devRef .tc main_v0_2)) (W1 m ρ c (Proc.devRef .tc main_arg3)) = _
  rw [at_v0_2, W1_args m ρ c main_arg3 (by decide)]
  rfl

theorem at_v2_0 : W3 m ρ c (Proc.devRef .tc main_v2_0) = dgM m c := by
  refine (W3_arr m ρ c 4).trans ((gate_grad (V2 m ρ) c).trans ?_)
  show dgate (nt (W2 m ρ c (Proc.devRef .tc main_arg4)) (W2 m ρ c (Proc.devRef .tc main_arg3))) (W2 m ρ c (Proc.devRef .tc main_v0_0))
    (W2 m ρ c (Proc.devRef .tc main_v0_1)) = _
  rw [W2_args m ρ c main_arg4 (by decide), W2_args m ρ c main_arg3 (by decide), W2_of m ρ c main_v0_0 (by decide +kernel),
    W2_of m ρ c main_v0_1 (by decide +kernel), at_v0_0, at_v0_1]
  rfl

theorem at_v2_1 : W3 m ρ c (Proc.devRef .tc main_v2_1) = duM m c := by
  refine (W3_arr m ρ c 5).trans ((up_grad (V2 m ρ) c).trans ?_)
  show dup (nt (W2 m ρ c (Proc.devRef .tc main_arg4)) (W2 m ρ c (Proc.devRef .tc main_arg3))) (W2 m ρ c (Proc.devRef .tc main_v0_0)) = _
  rw [W2_args m ρ c main_arg4 (by decide), W2_args m ρ c main_arg3 (by decide), W2_of m ρ c main_v0_0 (by decide +kernel), at_v0_0]
  rfl

theorem at_v3 : W4 m ρ c (Proc.devRef .tc main_v3) = tn (dgM m c) (m (c.tc.loc main_arg0)) := by
  refine (W4_arr m ρ c 2).trans ((gate_weights (V3 m ρ) c).trans ?_)
  show tn (W3 m ρ c (Proc.devRef .tc main_v2_0)) (W3 m ρ c (Proc.devRef .tc main_arg0)) = _
  rw [at_v2_0, W3_args m ρ c main_arg0 (by decide)]

theorem at_v4 : W5 m ρ c (Proc.devRef .tc main_v4) = tn (duM m c) (m (c.tc.loc main_arg0)) := by
  refine (W5_arr m ρ c 2).trans ((up_weights (V4 m ρ) c).trans ?_)
  show tn (W4 m ρ c (Proc.devRef .tc main_v2_1)) (W4 m ρ c (Proc.devRef .tc main_arg0)) = _
  rw [W4_of m ρ c main_v2_1 (by decide +kernel), at_v2_1, W4_args m ρ c main_arg0 (by decide)]

theorem at_v5 : W6 m ρ c (Proc.devRef .tc main_v5) = tn (act (gM m c) (uM m c)) (m (c.tc.loc main_arg4)) := by
  refine (W6_arr m ρ c 2).trans ((out_weights (V5 m ρ) c).trans ?_)
  show tn (W5 m ρ c (Proc.devRef .tc main_v0_2)) (W5 m ρ c (Proc.devRef .tc main_arg4)) = _
  rw [W5_of m ρ c main_v0_2 (by decide +kernel), W4_of m ρ c main_v0_2 (by decide +kernel), W3_of m ρ c main_v0_2 (by decide +kernel),
    W2_of m ρ c main_v0_2 (by decide +kernel), at_v0_2, W5_args m ρ c main_arg4 (by decide)]

theorem at_v6 : W7 m ρ c (Proc.devRef .tc main_v6) = plus (nn (dgM m c) (m (c.tc.loc main_arg1))) (nn (duM m c) (m (c.tc.loc main_arg2))) := by
  refine (W7_arr m ρ c 4).trans ((input (V6 m ρ) c).trans ?_)
  show plus (nn (W6 m ρ c (Proc.devRef .tc main_v2_0)) (W6 m ρ c (Proc.devRef .tc main_arg1)))
    (nn (W6 m ρ c (Proc.devRef .tc main_v2_1)) (W6 m ρ c (Proc.devRef .tc main_arg2))) = _
  rw [W6_of m ρ c main_v2_0 (by decide +kernel), W5_of m ρ c main_v2_0 (by decide +kernel), W4_of m ρ c main_v2_0 (by decide +kernel), at_v2_0,
    W6_of m ρ c main_v2_1 (by decide +kernel), W5_of m ρ c main_v2_1 (by decide +kernel), W4_of m ρ c main_v2_1 (by decide +kernel), at_v2_1,
    W6_args m ρ c main_arg1 (by decide), W6_args m ρ c main_arg2 (by decide)]

/-- After the last call. -/
theorem end_v1 : W7 m ρ c (Proc.devRef .tc main_v1) = yM m c := by
  rw [W7_of m ρ c main_v1 (by decide +kernel), W6_of m ρ c main_v1 (by decide +kernel), W5_of m ρ c main_v1 (by decide +kernel),
    W4_of m ρ c main_v1 (by decide +kernel), W3_of m ρ c main_v1 (by decide +kernel), at_v1]

theorem end_v3 : W7 m ρ c (Proc.devRef .tc main_v3) = tn (dgM m c) (m (c.tc.loc main_arg0)) := by
  rw [W7_of m ρ c main_v3 (by decide +kernel), W6_of m ρ c main_v3 (by decide +kernel), W5_of m ρ c main_v3 (by decide +kernel), at_v3]

theorem end_v4 : W7 m ρ c (Proc.devRef .tc main_v4) = tn (duM m c) (m (c.tc.loc main_arg0)) := by
  rw [W7_of m ρ c main_v4 (by decide +kernel), W6_of m ρ c main_v4 (by decide +kernel), at_v4]

theorem end_v5 : W7 m ρ c (Proc.devRef .tc main_v5) = tn (act (gM m c) (uM m c)) (m (c.tc.loc main_arg4)) := by
  rw [W7_of m ρ c main_v5 (by decide +kernel), at_v5]

local notation "𝕄" => MT nD τ sig Unit (Elt Ideal) ℕ (UR sig nD τ) ℕ

set_option backward.isDefEq.respectTransparency.types false in
/-- The run: the five results, and the arguments as they were. -/
theorem run : θ_run defs (onTc (τ := τ) (main (F := Ideal))) ⟨m, fun _ => 0, ρ⟩ (fun r => ∀ c : Dev nD,
      r.2.mem ((c.tc : Thread nD τ).loc main_v1) = yM m c
      ∧ r.2.mem ((c.tc : Thread nD τ).loc main_v6) = plus (nn (dgM m c) (m (c.tc.loc main_arg1))) (nn (duM m c) (m (c.tc.loc main_arg2)))
      ∧ r.2.mem ((c.tc : Thread nD τ).loc main_v3) = tn (dgM m c) (m (c.tc.loc main_arg0))
      ∧ r.2.mem ((c.tc : Thread nD τ).loc main_v4) = tn (duM m c) (m (c.tc.loc main_arg0))
      ∧ r.2.mem ((c.tc : Thread nD τ).loc main_v5) = tn (act (gM m c) (uM m c)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨(h c _ (mem_uc main_v1 (by decide))).trans (end_v1 m ρ c),
       (h c _ (mem_uc main_v6 (by decide))).trans (at_v6 m ρ c),
       (h c _ (mem_uc main_v3 (by decide))).trans (end_v3 m ρ c),
       (h c _ (mem_uc main_v4 (by decide))).trans (end_v4 m ρ c),
       (h c _ (mem_uc main_v5 (by decide))).trans (end_v5 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Kernel2Ideal.Ffn

end
-- ==== Proof.Sums.lean ====
/-
  Running sums along the last axis, over the real numbers.

  The host takes a running sum as a window sum over the padded axis: forwards the window holds the entries up to and
  including its own, backwards those from its own on.
-/
module

public import Idealize.ShloMosaic.Lib.Pipeline.ValueKit
public import Idealize.ShloMosaic.Lib.Pointwise

@[expose] public section

noncomputable section

namespace Cert.Sums

open Idealize.ShloMosaic
open Finset (range)

/-- A fold of additions is the start plus the sum. -/
theorem foldl_sum {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- A sum over positions, of entries that are real. -/
theorem sum_real {M : ℕ} (f : ℕ → ℝ) (g : Fin M → EReal) (h : ∀ a, g a = ((f a : ℝ) : EReal)) :
    ∑ a, g a = ((∑ a ∈ range M, f a : ℝ) : EReal) := by
  rw [Finset.sum_congr rfl fun a _ => h a, ← Fin.sum_univ_eq_sum_range f M]
  induction (Finset.univ : Finset (Fin M)) using Finset.induction_on with
  | empty => simp
  | insert a s ha ih => rw [Finset.sum_insert ha, Finset.sum_insert ha, ih, EReal.coe_add]

theorem numel_row (N : ℕ) : (⟨3, ![1, 1, N]⟩ : Shape).numel = N := by
  simp [Shape.numel, Fin.prod_univ_three]

/-- A position of a `1 × 1 × N` window is the number of its entry. -/
theorem row_pos {N : ℕ} (n : Fin (⟨3, ![1, 1, N]⟩ : Shape).numel) :
    ((⟨3, ![1, 1, N]⟩ : Shape).rowMajor.symm n 0).val = 0 ∧ ((⟨3, ![1, 1, N]⟩ : Shape).rowMajor.symm n 1).val = 0 ∧
      ((⟨3, ![1, 1, N]⟩ : Shape).rowMajor.symm n 2).val = n.val := by
  generalize hw : (⟨3, ![1, 1, N]⟩ : Shape).rowMajor.symm n = w
  have hn : n = (⟨3, ![1, 1, N]⟩ : Shape).rowMajor w := by rw [← hw, Equiv.apply_symm_apply]
  have h0 : (w 0).val = 0 := Nat.lt_one_iff.1 (w 0).isLt
  have h1 : (w 1).val = 0 := Nat.lt_one_iff.1 (w 1).isLt
  refine ⟨h0, h1, ?_⟩
  have hv := Shape.rowMajor_val_three w
  rw [hn, hv, h0, h1]
  simp

/-- The window sum at an index, where the row's entries are real. -/
theorem window {A B N lo hi : ℕ} (x : (⟨3, ![A, B, N]⟩ : Shape).Idx → EReal)
    (h : (⟨3, ![A, B, N]⟩ : Shape).ReduceWindows (![1, 1, N] : Fin 3 → Nat) ![1, 1, 1] ![0, 0, lo] ![0, 0, hi] ⟨3, ![A, B, N]⟩)
    (j : (⟨3, ![A, B, N]⟩ : Shape).Idx) (f : ℕ → ℝ)
    (hx : ∀ i : (⟨3, ![A, B, N]⟩ : Shape).Idx, i 0 = j 0 → i 1 = j 1 → x i = ((f (i 2).val : ℝ) : EReal)) :
    Ideal.hostReduceWindowAdd (![1, 1, N] : Fin 3 → Nat) ![1, 1, 1] ![0, 0, lo] ![0, 0, hi] h x 0 j
      = ((∑ w ∈ range N, (if lo ≤ (j 2).val + w ∧ (j 2).val + w - lo < N then f ((j 2).val + w - lo) else 0) : ℝ) : EReal) := by
  unfold Ideal.hostReduceWindowAdd Host.reduceWindow
  have hj0 : (j 0).val < A := (j 0).isLt
  have hj1 : (j 1).val < B := (j 1).isLt
  refine (foldl_sum _ _ _).trans ?_
  rw [zero_add, ← Fin.sum_univ_def]
  refine (sum_real (fun w => if lo ≤ (j 2).val + w ∧ (j 2).val + w - lo < N then f ((j 2).val + w - lo) else 0) _ fun n => ?_).trans
    (by rw [numel_row])
  obtain ⟨h0, h1, h2⟩ := row_pos n
  dsimp only
  split
  · next hin =>
    have hq := hin 2
    change lo ≤ (j 2).val * 1 + ((⟨3, ![1, 1, N]⟩ : Shape).rowMajor.symm n 2).val ∧
      (j 2).val * 1 + ((⟨3, ![1, 1, N]⟩ : Shape).rowMajor.symm n 2).val - lo < N at hq
    rw [h2, Nat.mul_one] at hq
    rw [if_pos hq, hx]
    · show ((f ((j 2).val * 1 + ((⟨3, ![1, 1, N]⟩ : Shape).rowMajor.symm n 2).val - lo) : ℝ) : EReal) = _
      rw [h2, Nat.mul_one]
    · refine Fin.ext ?_
      show (j 0).val * 1 + ((⟨3, ![1, 1, N]⟩ : Shape).rowMajor.symm n 0).val - 0 = (j 0).val
      rw [h0]; omega
    · refine Fin.ext ?_
      show (j 1).val * 1 + ((⟨3, ![1, 1, N]⟩ : Shape).rowMajor.symm n 1).val - 0 = (j 1).val
      rw [h1]; omega
  · next hin =>
    rw [if_neg fun hq => hin fun a => ?_]
    · exact EReal.coe_zero.symm
    · match a with
      | ⟨0, _⟩ =>
        show 0 ≤ (j 0).val * 1 + ((⟨3, ![1, 1, N]⟩ : Shape).rowMajor.symm n 0).val ∧
          (j 0).val * 1 + ((⟨3, ![1, 1, N]⟩ : Shape).rowMajor.symm n 0).val - 0 < A
        rw [h0]; omega
      | ⟨1, _⟩ =>
        show 0 ≤ (j 1).val * 1 + ((⟨3, ![1, 1, N]⟩ : Shape).rowMajor.symm n 1).val ∧
          (j 1).val * 1 + ((⟨3, ![1, 1, N]⟩ : Shape).rowMajor.symm n 1).val - 0 < B
        rw [h1]; omega
      | ⟨2, _⟩ =>
        show lo ≤ (j 2).val * 1 + ((⟨3, ![1, 1, N]⟩ : Shape).rowMajor.symm n 2).val ∧
          (j 2).val * 1 + ((⟨3, ![1, 1, N]⟩ : Shape).rowMajor.symm n 2).val - lo < N
        rw [h2, Nat.mul_one]; exact hq

/-- The entries from position `j` on. -/
theorem suffix_sum (f : ℕ → ℝ) (N j : ℕ) (hj : j ≤ N) :
    ∑ w ∈ range N, (if 0 ≤ j + w ∧ j + w - 0 < N then f (j + w - 0) else 0) = ∑ b ∈ range N, f b - ∑ b ∈ range j, f b := by
  obtain ⟨m, rfl⟩ := Nat.exists_eq_add_of_le hj
  rw [Finset.sum_range_add f j m, add_sub_cancel_left, show j + m = m + j by omega, Finset.sum_range_add _ m j,
    Finset.sum_eq_zero (s := range j) (fun w _ => if_neg (by omega)), add_zero]
  exact Finset.sum_congr rfl fun w hw => if_pos (by have := Finset.mem_range.1 hw; omega)

/-- The entries up to and including position `j`. -/
theorem prefix_sum (f : ℕ → ℝ) (N j : ℕ) (hj : j ≤ N) :
    ∑ w ∈ range (N + 1), (if N ≤ j + w ∧ j + w - N < N + 1 then f (j + w - N) else 0) = ∑ b ∈ range (j + 1), f b := by
  rw [show N + 1 = (N - j) + (j + 1) by omega, Finset.sum_range_add _ (N - j) (j + 1),
    Finset.sum_eq_zero (s := range (N - j)) (fun w hw => if_neg (by have := Finset.mem_range.1 hw; omega)), zero_add]
  refine Finset.sum_congr rfl fun w hw => ?_
  have hw := Finset.mem_range.1 hw
  rw [if_pos (by omega), show j + (N - j + w) - N = w by omega]

end Cert.Sums
-- ==== Proof.FfnRef.lean ====
/-
  The reference's output and gradients, as products of its arguments.
-/
module

public import proofs.«01_k».proof.Proof.Ffn
public import proofs.«01_k».proof.Proof.Sums
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read Idealize.ShloMosaic Idealize.ShloMosaic.TcCoe Idealize.SL.Sem Cert.Mats
open Cert.Kernel2Ideal.Ffn (act dgate dup)

/-- Every entry a real number. -/
def Re {A B : ℕ} (x : M A B) : Prop := ∀ i, ∃ r : ℝ, x i = (r : EReal)

theorem sum_re {K : ℕ} (f : Fin K → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  exact (map_sum (⟨⟨((↑) : ℝ → EReal), EReal.coe_zero⟩, EReal.coe_add⟩ : ℝ →+ EReal) g Finset.univ).symm

theorem nt_re {A B K : ℕ} {x : M A K} {w : M B K} (hx : Re x) (hw : Re w) : Re (nt x w) := fun i =>
  sum_re _ fun k => by
    obtain ⟨a, ha⟩ := hx (ix2 (i 0) k)
    obtain ⟨b, hb⟩ := hw (ix2 (i 1) k)
    exact ⟨a * b, by rw [ha, hb, EReal.coe_mul]⟩

variable (x0 x4 : (⟨S2048x1024, .bf16⟩ : BufTy).Contents (Elt Ideal)) (x1 x2 x3 : (⟨S2816x1024, .bf16⟩ : BufTy).Contents (Elt Ideal))

theorem v7 : val_main_v7 (F := Ideal) x0 x1 = nt x0 x1 := by
  funext i
  pointwise [val_main_v7, val_main_v0, val_main_v5, val_main_v1, nt]

theorem v9 : val_main_v9 (F := Ideal) x0 x2 = nt x0 x2 := by
  funext i
  pointwise [val_main_v9, val_main_v0, val_main_v6, val_main_v2, nt]

theorem v14 : val_main_v14 (F := Ideal) x3 x4 = nt x4 x3 := by
  funext i
  pointwise [val_main_v14, val_main_v4, val_main_v3, nt]

/-- The reference's logistic function is the kernel's. -/
theorem v8_2 (h0 : Re x0) (h1 : Re x1) (i : S2048x2816.Idx) : val_main_v8_2 (F := Ideal) x0 x1 i = sg (nt x0 x1 i) := by
  simp only [val_main_v8_2_apply, val_main_call0_v4_apply, val_main_call0_v3_apply, val_main_call0_v2_apply, val_main_call0_v1_apply,
    val_main_call0_v0_apply, val_main_call0_cst_apply, val_main_call0_cst_0_apply, v7]
  obtain ⟨g, hg⟩ := nt_re h0 h1 i
  rw [hg, sg_coe, one]
  show Ideal.div ((1 : ℝ) : EReal) (((1 : ℝ) : EReal) + Ideal.exp (-(g : EReal))) = _
  rw [← EReal.coe_neg, Ideal.exp_coe, ← EReal.coe_add, Ideal.div_coe (by positivity), ← EReal.coe_mul, one_mul]

theorem v10 (h0 : Re x0) (h1 : Re x1) : val_main_v10 (F := Ideal) x0 x1 x2 = act (nt x0 x1) (nt x0 x2) := by
  funext i
  rw [val_main_v10_apply, val_main_v8_0_apply, v8_2 x0 x1 h0 h1, v7, v9]
  rfl

theorem v15 (h0 : Re x0) (h1 : Re x1) : val_main_v15 (F := Ideal) x0 x1 x3 x4 = dup (nt x4 x3) (nt x0 x1) := by
  funext i
  rw [val_main_v15_apply, val_main_v8_0_apply, v8_2 x0 x1 h0 h1, v7, v14]
  exact mul_comm (G := EReal) _ _

theorem v20 (h0 : Re x0) (h1 : Re x1) (h2 : Re x2) (h3 : Re x3) (h4 : Re x4) :
    val_main_v20 (F := Ideal) x0 x1 x2 x3 x4 = dgate (nt x4 x3) (nt x0 x1) (nt x0 x2) := by
  funext i
  simp only [val_main_v20_apply, val_main_call1_v0_apply, val_main_call1_v1_apply, val_main_call1_v2_apply, val_main_v16_apply, val_main_v8_1_apply,
    val_main_call0_v7_apply, val_main_call0_v6_apply, val_main_call0_cst_1_apply]
  rw [v8_2 x0 x1 h0 h1, v7, v9, v14, one]
  obtain ⟨d, hd⟩ := nt_re h4 h3 i
  obtain ⟨g, hg⟩ := nt_re h0 h1 i
  obtain ⟨u, hu⟩ := nt_re h0 h2 i
  unfold dgate
  rw [hd, hg, hu, sg_coe]
  generalize 1 / (1 + Real.exp (-g)) = s
  show (d : EReal) * u * s + g * (d * u) * (s * (((1 : ℝ) : EReal) - s)) = d * u * (s * (1 + g * (1 - s)))
  rw [← EReal.coe_one]
  simp only [← EReal.coe_mul, ← EReal.coe_sub, ← EReal.coe_add]
  exact congrArg _ (by ring)

theorem v11 : val_main_v11 (F := Ideal) x0 x1 x2 x3 = nn (val_main_v10 (F := Ideal) x0 x1 x2) x3 := by
  funext i
  pointwise [val_main_v11, val_main_v3, nn]

theorem v29 : val_main_v29 (F := Ideal) x0 x1 x2 x4 = tn (val_main_v10 (F := Ideal) x0 x1 x2) x4 := by
  funext i
  pointwise [val_main_v29, val_main_v13, val_main_v12, val_main_v4, tn]
  exact Finset.sum_congr rfl fun k _ => mul_comm (G := EReal) _ _

theorem v24 : val_main_v24 (F := Ideal) x0 x1 x2 x3 x4
    = plus (nn (val_main_v20 (F := Ideal) x0 x1 x2 x3 x4) x1) (nn (val_main_v15 (F := Ideal) x0 x1 x3 x4) x2) := by
  funext i
  pointwise [val_main_v24, val_main_v19, val_main_v23, val_main_v5, val_main_v6, val_main_v1, val_main_v2, nn, plus]
  exact add_comm (G := EReal) _ _

theorem v27 : val_main_v27 (F := Ideal) x0 x1 x2 x3 x4 = tn (val_main_v20 (F := Ideal) x0 x1 x2 x3 x4) x0 := by
  funext i
  pointwise [val_main_v27, val_main_v26, val_main_v22, val_main_v21, val_main_v0, tn]

theorem v28 : val_main_v28 (F := Ideal) x0 x1 x3 x4 = tn (val_main_v15 (F := Ideal) x0 x1 x3 x4) x0 := by
  funext i
  pointwise [val_main_v28, val_main_v25, val_main_v18, val_main_v17, val_main_v0, tn]

end Cert.Reference2Ideal.Ffn

end
-- ==== Proof.Ple.lean ====
/-
  The per-layer embedding's calls, each over arrays.
-/
module

public import proofs.«01_k».proof.Proof.Gen.Kernel3Ideal.Frame
public import proofs.«01_k».proof.Proof.Mats
public import Idealize.ShloMosaic.Lib.Pipeline.ValueKit

@[expose] public section

set_option maxRecDepth 16384

noncomputable section

namespace Cert.Kernel3Ideal.Ple

open Cert.Kernel3Ideal Cert.Kernel3Ideal.Gen Idealize.ShloMosaic Idealize.ShloMosaic.TcCoe Idealize.SL.Sem Cert.Mats

/-- A stack of matrices. -/
abbrev T (A B C : ℕ) := (⟨3, ![A, B, C]⟩ : Shape).Idx → EReal

/-- The rows of a matrix against the columns of a stack of four, side by side. -/
def stack {A K : ℕ} (p : M A K) (w : T 4 K 256) : M A 1024 := fun i =>
  ∑ k : Fin K, p (ix2 (i 0) k) * w (ix3 (⟨(i 1).val / 256, by have : (i 1).val < 1024 := (i 1).isLt; omega⟩ : Fin 4) k
    (⟨(i 1).val % 256, by omega⟩ : Fin 256))

/-- The columns of one matrix against those of another, cut into a stack of four. -/
def cut {A K : ℕ} (p : M A K) (d : M A 1024) : T 4 K 256 := fun i =>
  ∑ k : Fin A, p (ix2 k (i 1)) * d (ix2 k (⟨(i 0).val * 256 + (i 2).val, by
    have h0 : (i 0).val < 4 := (i 0).isLt
    have h2 : (i 2).val < 256 := (i 2).isLt
    omega⟩ : Fin 1024))

/-- One matrix gated by the logistic function of another. -/
def emb {A B : ℕ} (g q : M A B) : M A B := fun i => sg (g i) * q i

/-- What the gate receives. -/
def dgate {A B : ℕ} (d g q : M A B) : M A B := fun i => d i * q i * sg (g i) * (Ideal.ofBits .f32 0x3F800000#32 - sg (g i))

variable (V : (c : Dev nD) → (b : Ref sig .tc) → Buf (Elt Ideal) ((c : Thread nD τ).loc b)) (c : Dev nD)

theorem idx0 : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- The gate before its logistic function. -/
theorem gate : (dat0 V c).arrAt 2 cfg0.N = nn (V c main_arg0) (V c main_arg1) := by
  refine (dat0 V c).arrAt_eq_of_covers 2 _ (by decide +kernel) fun t _ y => ?_
  blk_simp
  rw [after0_2]; frame_out
  pointwise [k0_pay1, nn]
  blk_point [iblk0, idx0 t]

theorem idx1 : ∀ t : Fin cfg1.N, win1_0.index t = ![(grid1.coords t 1).val, 0] ∧ win1_1.index t = ![(grid1.coords t 0).val, 0, 0]
    ∧ win1_2.index t = ![(grid1.coords t 1).val, (grid1.coords t 0).val] :=
  (by decide +kernel : ∀ t : Fin grid1.N, _)

/-- The projection of the embedding, by the four column blocks of its weights. -/
theorem proj : (dat1 V c).arrAt 2 cfg1.N = stack (V c main_arg2) (V c main_arg3) := by
  refine (dat1 V c).arrAt_eq_of_covers 2 _ (by decide +kernel) fun t _ y => ?_
  blk_simp
  rw [after1_2]; frame_out
  pointwise [k1_pay1, stack]
  blk_point [iblk1, idx1 t]

theorem idx2 : ∀ t : Fin cfg2.N, win2_0.index t = ![(grid2.coords t 0).val, 0] ∧ win2_1.index t = ![(grid2.coords t 0).val, 0]
    ∧ win2_2.index t = ![(grid2.coords t 0).val, 0] :=
  (by decide +kernel : ∀ t : Fin grid2.N, _)

/-- The gated projection. -/
theorem mul : (dat2 V c).arrAt 2 cfg2.N = emb (V c main_v0) (V c main_v1) := by
  refine (dat2 V c).arrAt_eq_of_covers 2 _ (by decide +kernel) fun t _ y => ?_
  blk_simp
  rw [after2_2]; frame_out
  pointwise [k2_pay1, emb, sg]
  blk_point [iblk2, idx2 t]

theorem idx3 : ∀ t : Fin cfg3.N, win3_0.index t = ![(grid3.coords t 0).val, 0] ∧ win3_1.index t = ![(grid3.coords t 0).val, 0]
    ∧ win3_2.index t = ![(grid3.coords t 0).val, 0] ∧ win3_3.index t = ![(grid3.coords t 0).val, 0] ∧ win3_4.index t = ![(grid3.coords t 0).val, 0] :=
  (by decide +kernel : ∀ t : Fin grid3.N, _)

/-- What the gate receives. -/
theorem back_gate : (dat3 V c).arrAt 3 cfg3.N = dgate (V c main_arg4) (V c main_v0) (V c main_v1) := by
  refine (dat3 V c).arrAt_eq_of_covers 3 _ (by decide +kernel) fun t _ y => ?_
  blk_simp
  rw [after3_3]; frame_out
  pointwise [k3_pay2, k3_pay1, dgate, sg]
  blk_point [iblk3, idx3 t]

/-- What the projection receives. -/
theorem back_proj : (dat3 V c).arrAt 4 cfg3.N = emb (V c main_v0) (V c main_arg4) := by
  refine (dat3 V c).arrAt_eq_of_covers 4 _ (by decide +kernel) fun t _ y => ?_
  blk_simp
  rw [after3_4]; frame_out
  pointwise [k3_pay3, k3_pay1, emb, sg]
  blk_point [iblk3, idx3 t]

theorem idx4 : ∀ t : Fin cfg4.N, win4_0.index t = ![0, 0] ∧ win4_1.index t = ![0, (grid4.coords t 0).val]
    ∧ win4_2.index t = ![(grid4.coords t 0).val, 0, 0] :=
  (by decide +kernel : ∀ t : Fin grid4.N, _)

/-- The gradient of the projection's weights, in their four column blocks. -/
theorem grad_proj : (dat4 V c).arrAt 2 cfg4.N = cut (V c main_arg2) (V c main_v3_1) := by
  refine (dat4 V c).arrAt_eq_of_covers 2 _ (by decide +kernel) fun t _ y => ?_
  blk_simp
  rw [after4_2]; frame_out
  pointwise [k4_pay1, cut]
  blk_point [iblk4, idx4 t]

theorem idx5 : ∀ t : Fin cfg5.N, win5_0.index t = ![0, (grid5.coords t 1).val] ∧ win5_1.index t = ![0, (grid5.coords t 0).val]
    ∧ win5_2.index t = ![(grid5.coords t 1).val, (grid5.coords t 0).val] :=
  (by decide +kernel : ∀ t : Fin grid5.N, _)

/-- The gradient of the gate's weights. -/
theorem grad_gate : (dat5 V c).arrAt 2 cfg5.N = tn (V c main_arg0) (V c main_v3_0) := by
  refine (dat5 V c).arrAt_eq_of_covers 2 _ (by decide +kernel) fun t _ y => ?_
  blk_simp
  rw [after5_2]; frame_out
  pointwise [k5_pay1, tn]
  blk_point [iblk5, idx5 t]

theorem idx6 : ∀ t : Fin cfg6.N, win6_0.index t = ![(grid6.coords t 1).val, 0] ∧ win6_1.index t = ![(grid6.coords t 0).val, 0]
    ∧ win6_2.index t = ![(grid6.coords t 1).val, (grid6.coords t 0).val] :=
  (by decide +kernel : ∀ t : Fin grid6.N, _)

/-- The gradient of the gate's input. -/
theorem grad_in : (dat6 V c).arrAt 2 cfg6.N = nt (V c main_v3_0) (V c main_arg1) := by
  refine (dat6 V c).arrAt_eq_of_covers 2 _ (by decide +kernel) fun t _ y => ?_
  blk_simp
  rw [after6_2]; frame_out
  pointwise [k6_pay1, nt]
  blk_point [iblk6, idx6 t]

end Cert.Kernel3Ideal.Ple

end
-- ==== Proof.PleRun.lean ====
/-
  The per-layer embedding's run: what each result holds after the last call.
-/
module

public import proofs.«01_k».proof.Proof.Ple

@[expose] public section

set_option maxRecDepth 16384

noncomputable section

namespace Cert.Kernel3Ideal.Ple

open Cert.Kernel3Ideal Cert.Kernel3Ideal.Gen Idealize.ShloMosaic Idealize.ShloMosaic.TcCoe Idealize.SL.Sem Cert.Mats
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg) (c : Dev nD)

theorem at_gate : W1 m ρ c (Proc.devRef .tc main_v0) = nn (m (c.tc.loc main_arg0)) (m (c.tc.loc main_arg1)) := by
  refine (W1_arr m ρ c 2).trans ((gate (V0 m ρ) c).trans ?_)
  show nn (W0 m ρ c (Proc.devRef .tc main_arg0)) (W0 m ρ c (Proc.devRef .tc main_arg1)) = _
  rw [W0_args m ρ c main_arg0 (by decide), W0_args m ρ c main_arg1 (by decide)]

theorem at_proj : W2 m ρ c (Proc.devRef .tc main_v1) = stack (m (c.tc.loc main_arg2)) (m (c.tc.loc main_arg3)) := by
  refine (W2_arr m ρ c 2).trans ((proj (V1 m ρ) c).trans ?_)
  show stack (W1 m ρ c (Proc.devRef .tc main_arg2)) (W1 m ρ c (Proc.devRef .tc main_arg3)) = _
  rw [W1_args m ρ c main_arg2 (by decide), W1_args m ρ c main_arg3 (by decide)]

theorem end_e : W7 m ρ c (Proc.devRef .tc main_v2) =
    emb (nn (m (c.tc.loc main_arg0)) (m (c.tc.loc main_arg1))) (stack (m (c.tc.loc main_arg2)) (m (c.tc.loc main_arg3))) := by
  rw [W7_of m ρ c main_v2 (by decide +kernel), W6_of m ρ c main_v2 (by decide +kernel), W5_of m ρ c main_v2 (by decide +kernel),
    W4_of m ρ c main_v2 (by decide +kernel)]
  refine (W3_arr m ρ c 2).trans ((mul (V2 m ρ) c).trans ?_)
  show emb (W2 m ρ c (Proc.devRef .tc main_v0)) (W2 m ρ c (Proc.devRef .tc main_v1)) = _
  rw [W2_of m ρ c main_v0 (by decide +kernel), at_gate, at_proj]

theorem at_dgate : W4 m ρ c (Proc.devRef .tc main_v3_0) =
    dgate (m (c.tc.loc main_arg4)) (nn (m (c.tc.loc main_arg0)) (m (c.tc.loc main_arg1))) (stack (m (c.tc.loc main_arg2)) (m (c.tc.loc main_arg3))) := by
  refine (W4_arr m ρ c 3).trans ((back_gate (V3 m ρ) c).trans ?_)
  show dgate (W3 m ρ c (Proc.devRef .tc main_arg4)) (W3 m ρ c (Proc.devRef .tc main_v0)) (W3 m ρ c (Proc.devRef .tc main_v1)) = _
  rw [W3_args m ρ c main_arg4 (by decide), W3_of m ρ c main_v0 (by decide +kernel), W2_of m ρ c main_v0 (by decide +kernel),
    W3_of m ρ c main_v1 (by decide +kernel), at_gate, at_proj]

theorem at_dproj : W4 m ρ c (Proc.devRef .tc main_v3_1) = emb (nn (m (c.tc.loc main_arg0)) (m (c.tc.loc main_arg1))) (m (c.tc.loc main_arg4)) := by
  refine (W4_arr m ρ c 4).trans ((back_proj (V3 m ρ) c).trans ?_)
  show emb (W3 m ρ c (Proc.devRef .tc main_v0)) (W3 m ρ c (Proc.devRef .tc main_arg4)) = _
  rw [W3_args m ρ c main_arg4 (by decide), W3_of m ρ c main_v0 (by decide +kernel), W2_of m ρ c main_v0 (by decide +kernel), at_gate]

theorem end_dwproj : W7 m ρ c (Proc.devRef .tc main_v4) =
    cut (m (c.tc.loc main_arg2)) (emb (nn (m (c.tc.loc main_arg0)) (m (c.tc.loc main_arg1))) (m (c.tc.loc main_arg4))) := by
  rw [W7_of m ρ c main_v4 (by decide +kernel), W6_of m ρ c main_v4 (by decide +kernel)]
  refine (W5_arr m ρ c 2).trans ((grad_proj (V4 m ρ) c).trans ?_)
  show cut (W4 m ρ c (Proc.devRef .tc main_arg2)) (W4 m ρ c (Proc.devRef .tc main_v3_1)) = _
  rw [W4_args m ρ c main_arg2 (by decide), at_dproj]

theorem end_dwgate : W7 m ρ c (Proc.devRef .tc main_v5) =
    tn (m (c.tc.loc main_arg0)) (dgate (m (c.tc.loc main_arg4)) (nn (m (c.tc.loc main_arg0)) (m (c.tc.loc main_arg1))) (stack (m (c.tc.loc main_arg2)) (m (c.tc.loc main_arg3)))) := by
  rw [W7_of m ρ c main_v5 (by decide +kernel)]
  refine (W6_arr m ρ c 2).trans ((grad_gate (V5 m ρ) c).trans ?_)
  show tn (W5 m ρ c (Proc.devRef .tc main_arg0)) (W5 m ρ c (Proc.devRef .tc main_v3_0)) = _
  rw [W5_args m ρ c main_arg0 (by decide), W5_of m ρ c main_v3_0 (by decide +kernel), at_dgate]

theorem end_dh : W7 m ρ c (Proc.devRef .tc main_v6) =
    nt (dgate (m (c.tc.loc main_arg4)) (nn (m (c.tc.loc main_arg0)) (m (c.tc.loc main_arg1))) (stack (m (c.tc.loc main_arg2)) (m (c.tc.loc main_arg3)))) (m (c.tc.loc main_arg1)) := by
  refine (W7_arr m ρ c 2).trans ((grad_in (V6 m ρ) c).trans ?_)
  show nt (W6 m ρ c (Proc.devRef .tc main_v3_0)) (W6 m ρ c (Proc.devRef .tc main_arg1)) = _
  rw [W6_args m ρ c main_arg1 (by decide), W6_of m ρ c main_v3_0 (by decide +kernel), W5_of m ρ c main_v3_0 (by decide +kernel), at_dgate]

local notation "𝕄" => MT nD τ sig Unit (Elt Ideal) ℕ (UR sig nD τ) ℕ

set_option backward.isDefEq.respectTransparency.types false in
/-- The run: the gated projection and its three gradients, and the arguments as they were. -/
theorem run : θ_run defs (onTc (τ := τ) (main (F := Ideal))) ⟨m, fun _ => 0, ρ⟩ (fun r => ∀ c : Dev nD,
      r.2.mem ((c.tc : Thread nD τ).loc main_v2) = emb (nn (m (c.tc.loc main_arg0)) (m (c.tc.loc main_arg1))) (stack (m (c.tc.loc main_arg2)) (m (c.tc.loc main_arg3)))
      ∧ r.2.mem ((c.tc : Thread nD τ).loc main_v6) =
        nt (dgate (m (c.tc.loc main_arg4)) (nn (m (c.tc.loc main_arg0)) (m (c.tc.loc main_arg1))) (stack (m (c.tc.loc main_arg2)) (m (c.tc.loc main_arg3)))) (m (c.tc.loc main_arg1))
      ∧ r.2.mem ((c.tc : Thread nD τ).loc main_v5) =
        tn (m (c.tc.loc main_arg0)) (dgate (m (c.tc.loc main_arg4)) (nn (m (c.tc.loc main_arg0)) (m (c.tc.loc main_arg1))) (stack (m (c.tc.loc main_arg2)) (m (c.tc.loc main_arg3))))
      ∧ r.2.mem ((c.tc : Thread nD τ).loc main_v4) =
        cut (m (c.tc.loc main_arg2)) (emb (nn (m (c.tc.loc main_arg0)) (m (c.tc.loc main_arg1))) (m (c.tc.loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨(h c _ (mem_uc main_v2 (by decide))).trans (end_e m ρ c),
       (h c _ (mem_uc main_v6 (by decide))).trans (end_dh m ρ c),
       (h c _ (mem_uc main_v5 (by decide))).trans (end_dwgate m ρ c),
       (h c _ (mem_uc main_v4 (by decide))).trans (end_dwproj m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Kernel3Ideal.Ple

end
-- ==== Proof.PleRef.lean ====
/-
  The per-layer embedding's reference: its output and gradients as products of its arguments.
-/
module

public import proofs.«01_k».proof.Proof.Ple
public import proofs.«01_k».proof.Proof.Gen.Reference3Ideal.Read

@[expose] public section

set_option maxRecDepth 16384

noncomputable section

namespace Cert.Reference3Ideal.Ple

open Cert.Reference3Ideal Cert.Reference3Ideal.Gen Cert.Reference3Ideal.Read Idealize.ShloMosaic Idealize.ShloMosaic.TcCoe Idealize.SL.Sem Cert.Mats
open Cert.Kernel3Ideal.Ple (emb dgate stack cut)

/-- The logistic function by the hyperbolic tangent and by the exponential, at the infinities too. -/
theorem sg_eq (x : EReal) : Ideal.div ((1 : ℝ) : EReal) (((1 : ℝ) : EReal) + Ideal.exp (-x)) = sg x := by
  induction x using EReal.rec with
  | coe r => rw [sg_coe, ← EReal.coe_neg, Ideal.exp_coe, ← EReal.coe_add, Ideal.div_coe (by positivity), ← EReal.coe_mul, one_mul]
  | top =>
    unfold sg
    rw [half, EReal.neg_top, Ideal.exp_bot, add_zero, EReal.coe_mul_top_of_pos (by norm_num), Ideal.tanh_top, mul_one, ← EReal.coe_add,
      Ideal.div_coe one_ne_zero, ← EReal.coe_mul]
    norm_num
  | bot =>
    unfold sg
    rw [half, EReal.neg_bot, Ideal.exp_top, EReal.coe_add_top, EReal.coe_mul_bot_of_pos (by norm_num), Ideal.tanh_bot,
      Ideal.div, if_neg EReal.top_ne_zero, EReal.inv_top, mul_zero, ← EReal.coe_one, ← EReal.coe_neg, ← EReal.coe_mul, ← EReal.coe_add]
    norm_num

variable (x0 : (⟨S2048x1024, .bf16⟩ : BufTy).Contents (Elt Ideal)) (x1 : (⟨S1024x1024, .bf16⟩ : BufTy).Contents (Elt Ideal))
  (x2 : (⟨S2048x256, .bf16⟩ : BufTy).Contents (Elt Ideal)) (x3 : (⟨S4x256x256, .bf16⟩ : BufTy).Contents (Elt Ideal))
  (x4 : (⟨S2048x1024, .f32⟩ : BufTy).Contents (Elt Ideal))

theorem v6 : val_main_v6 (F := Ideal) x0 x1 = nn x0 x1 := by
  funext i
  pointwise [val_main_v6, val_main_v0, val_main_v1, nn]

theorem v16 : val_main_v16 (F := Ideal) x2 x3 = stack x2 x3 := by
  funext i
  pointwise [val_main_v16, val_main_v2, val_main_v5, val_main_v4, val_main_v3, stack]

theorem v12 (i : S2048x1024.Idx) : val_main_v12 (F := Ideal) x0 x1 i = sg (nn x0 x1 i) := by
  simp only [val_main_v12_apply, val_main_v11_apply, val_main_v10_apply, val_main_v9_apply, val_main_v8_apply, val_main_v7_apply,
    val_main_cst_apply, val_main_cst_0_apply, v6]
  rw [one]
  exact sg_eq _

theorem v17 : val_main_v17 (F := Ideal) x0 x1 x2 x3 = emb (nn x0 x1) (stack x2 x3) := by
  funext i
  rw [val_main_v17_apply, v12, v16]
  rfl

theorem v18 : val_main_v18 (F := Ideal) x0 x1 x4 = emb (nn x0 x1) x4 := by
  funext i
  rw [val_main_v18_apply, v12]
  rfl

theorem v22 : val_main_v22 (F := Ideal) x0 x1 x2 x3 x4 = dgate x4 (nn x0 x1) (stack x2 x3) := by
  funext i
  simp only [val_main_v22_apply, val_main_v19_apply, val_main_v15_apply, val_main_v14_apply, val_main_v13_apply, val_main_cst_1_apply, v12, v16]
  exact (mul_assoc (G := EReal) _ _ _).symm

theorem v25 : val_main_v25 (F := Ideal) x0 x1 x2 x3 x4 = nt (val_main_v22 (F := Ideal) x0 x1 x2 x3 x4) x1 := by
  funext i
  pointwise [val_main_v25, val_main_v1, nt]

theorem v28 : val_main_v28 (F := Ideal) x0 x1 x2 x3 x4 = tn x0 (val_main_v22 (F := Ideal) x0 x1 x2 x3 x4) := by
  funext i
  pointwise [val_main_v28, val_main_v24, val_main_v23, val_main_v0, tn]
  exact Finset.sum_congr rfl fun k _ => mul_comm (G := EReal) _ _

theorem v29 : val_main_v29 (F := Ideal) x0 x1 x2 x4 = cut x2 (val_main_v18 (F := Ideal) x0 x1 x4) := by
  funext i
  pointwise [val_main_v29, val_main_v27, val_main_v26, val_main_v21, val_main_v20, val_main_v2, cut]
  exact Finset.sum_congr rfl fun k _ => mul_comm (G := EReal) _ _

end Cert.Reference3Ideal.Ple

end
-- ==== Proof.Proj.lean ====
/-
  The projections' calls, each over arrays: what a call leaves in its output array is one product of its input arrays.
-/
module

public import proofs.«01_k».proof.Proof.Gen.Kernel4Ideal.Frame
public import proofs.«01_k».proof.Proof.Mats
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Idealize.SL.Sem Cert.Mats

variable (V : (c : Dev nD) → (b : Ref sig .tc) → Buf (Elt Ideal) ((c : Thread nD τ).loc b)) (c : Dev nD)

theorem idx0 : ∀ t : Fin cfg0.N, win0_0.index t = ![(grid0.coords t 1).val, 0] ∧ win0_1.index t = ![(grid0.coords t 0).val, 0]
    ∧ win0_2.index t = ![(grid0.coords t 1).val, (grid0.coords t 0).val] :=
  (by decide +kernel : ∀ t : Fin grid0.N, _)

/-- The projection into the mixer. -/
theorem call0 : (dat0 V c).arrAt 2 cfg0.N = nt (V c main_arg0) (V c main_arg1) := by
  refine (dat0 V c).arrAt_eq_of_covers 2 _ (by decide +kernel) fun t _ y => ?_
  blk_simp
  rw [after0_2]; frame_out
  pointwise [k0_pay1, nt]
  blk_point [iblk0, idx0 t]

theorem idx1 : ∀ t : Fin cfg1.N, win1_0.index t = ![(grid1.coords t 1).val, 0] ∧ win1_1.index t = ![(grid1.coords t 0).val, 0]
    ∧ win1_2.index t = ![(grid1.coords t 1).val, (grid1.coords t 0).val] :=
  (by decide +kernel : ∀ t : Fin grid1.N, _)

/-- The latent attention's queries. -/
theorem call1 : (dat1 V c).arrAt 2 cfg1.N = nt (V c main_arg6) (V c main_arg7) := by
  refine (dat1 V c).arrAt_eq_of_covers 2 _ (by decide +kernel) fun t _ y => ?_
  blk_simp
  rw [after1_2]; frame_out
  pointwise [k1_pay1, nt]
  blk_point [iblk1, idx1 t]

theorem idx2 : ∀ t : Fin cfg2.N, win2_0.index t = ![(grid2.coords t 1).val, 0] ∧ win2_1.index t = ![0, (grid2.coords t 0).val]
    ∧ win2_2.index t = ![(grid2.coords t 1).val, (grid2.coords t 0).val] :=
  (by decide +kernel : ∀ t : Fin grid2.N, _)

/-- The latent attention's keys and values. -/
theorem call2 : (dat2 V c).arrAt 2 cfg2.N = nn (V c main_arg9) (V c main_arg10) := by
  refine (dat2 V c).arrAt_eq_of_covers 2 _ (by decide +kernel) fun t _ y => ?_
  blk_simp
  rw [after2_2]; frame_out
  pointwise [k2_pay1, nn]
  blk_point [iblk2, idx2 t]

theorem idx3 : ∀ t : Fin cfg3.N, win3_0.index t = ![(grid3.coords t 1).val, 0] ∧ win3_1.index t = ![0, (grid3.coords t 0).val]
    ∧ win3_2.index t = ![(grid3.coords t 1).val, (grid3.coords t 0).val] :=
  (by decide +kernel : ∀ t : Fin grid3.N, _)

/-- The projection out of the mixer. -/
theorem call3 : (dat3 V c).arrAt 2 cfg3.N = nn (V c main_arg3) (V c main_arg4) := by
  refine (dat3 V c).arrAt_eq_of_covers 2 _ (by decide +kernel) fun t _ y => ?_
  blk_simp
  rw [after3_2]; frame_out
  pointwise [k3_pay1, nn]
  blk_point [iblk3, idx3 t]

theorem idx4 : ∀ t : Fin cfg4.N, win4_0.index t = ![(grid4.coords t 1).val, 0] ∧ win4_1.index t = ![(grid4.coords t 0).val, 0]
    ∧ win4_2.index t = ![(grid4.coords t 1).val, (grid4.coords t 0).val] :=
  (by decide +kernel : ∀ t : Fin grid4.N, _)

/-- The gradient of the mixer's output. -/
theorem call4 : (dat4 V c).arrAt 2 cfg4.N = nt (V c main_arg5) (V c main_arg4) := by
  refine (dat4 V c).arrAt_eq_of_covers 2 _ (by decide +kernel) fun t _ y => ?_
  blk_simp
  rw [after4_2]; frame_out
  pointwise [k4_pay1, nt]
  blk_point [iblk4, idx4 t]

theorem idx5 : ∀ t : Fin cfg5.N, win5_0.index t = ![0, (grid5.coords t 1).val] ∧ win5_1.index t = ![0, (grid5.coords t 0).val]
    ∧ win5_2.index t = ![(grid5.coords t 1).val, (grid5.coords t 0).val] :=
  (by decide +kernel : ∀ t : Fin grid5.N, _)

/-- The gradient of the weights out of the mixer. -/
theorem call5 : (dat5 V c).arrAt 2 cfg5.N = tn (V c main_arg3) (V c main_arg5) := by
  refine (dat5 V c).arrAt_eq_of_covers 2 _ (by decide +kernel) fun t _ y => ?_
  blk_simp
  rw [after5_2]; frame_out
  pointwise [k5_pay1, tn]
  blk_point [iblk5, idx5 t]

theorem idx6 : ∀ t : Fin cfg6.N, win6_0.index t = ![0, (grid6.coords t 1).val] ∧ win6_1.index t = ![0, (grid6.coords t 0).val]
    ∧ win6_2.index t = ![(grid6.coords t 1).val, (grid6.coords t 0).val] :=
  (by decide +kernel : ∀ t : Fin grid6.N, _)

/-- The gradient of the queries' weights. -/
theorem call6 : (dat6 V c).arrAt 2 cfg6.N = tn (V c main_arg8) (V c main_arg6) := by
  refine (dat6 V c).arrAt_eq_of_covers 2 _ (by decide +kernel) fun t _ y => ?_
  blk_simp
  rw [after6_2]; frame_out
  pointwise [k6_pay1, tn]
  blk_point [iblk6, idx6 t]

theorem idx7 : ∀ t : Fin cfg7.N, win7_0.index t = ![(grid7.coords t 1).val, 0] ∧ win7_1.index t = ![0, (grid7.coords t 0).val]
    ∧ win7_2.index t = ![(grid7.coords t 1).val, (grid7.coords t 0).val] :=
  (by decide +kernel : ∀ t : Fin grid7.N, _)

/-- The gradient of the queries' latent. -/
theorem call7 : (dat7 V c).arrAt 2 cfg7.N = nn (V c main_arg8) (V c main_arg7) := by
  refine (dat7 V c).arrAt_eq_of_covers 2 _ (by decide +kernel) fun t _ y => ?_
  blk_simp
  rw [after7_2]; frame_out
  pointwise [k7_pay1, nn]
  blk_point [iblk7, idx7 t]

theorem idx8 : ∀ t : Fin cfg8.N, win8_0.index t = ![0, (grid8.coords t 1).val] ∧ win8_1.index t = ![0, (grid8.coords t 0).val]
    ∧ win8_2.index t = ![(grid8.coords t 1).val, (grid8.coords t 0).val] :=
  (by decide +kernel : ∀ t : Fin grid8.N, _)

/-- The gradient of the keys' and values' weights. -/
theorem call8 : (dat8 V c).arrAt 2 cfg8.N = tn (V c main_arg9) (V c main_arg11) := by
  refine (dat8 V c).arrAt_eq_of_covers 2 _ (by decide +kernel) fun t _ y => ?_
  blk_simp
  rw [after8_2]; frame_out
  pointwise [k8_pay1, tn]
  blk_point [iblk8, idx8 t]

theorem idx9 : ∀ t : Fin cfg9.N, win9_0.index t = ![(grid9.coords t 1).val, 0] ∧ win9_1.index t = ![(grid9.coords t 0).val, 0]
    ∧ win9_2.index t = ![(grid9.coords t 1).val, (grid9.coords t 0).val] :=
  (by decide +kernel : ∀ t : Fin grid9.N, _)

/-- The gradient of the keys' and values' latent. -/
theorem call9 : (dat9 V c).arrAt 2 cfg9.N = nt (V c main_arg11) (V c main_arg10) := by
  refine (dat9 V c).arrAt_eq_of_covers 2 _ (by decide +kernel) fun t _ y => ?_
  blk_simp
  rw [after9_2]; frame_out
  pointwise [k9_pay1, nt]
  blk_point [iblk9, idx9 t]

theorem idx10 : ∀ t : Fin cfg10.N, win10_0.index t = ![0, (grid10.coords t 1).val] ∧ win10_1.index t = ![0, (grid10.coords t 0).val]
    ∧ win10_2.index t = ![(grid10.coords t 1).val, (grid10.coords t 0).val] :=
  (by decide +kernel : ∀ t : Fin grid10.N, _)

/-- The gradient of the weights into the mixer. -/
theorem call10 : (dat10 V c).arrAt 2 cfg10.N = tn (V c main_arg2) (V c main_arg0) := by
  refine (dat10 V c).arrAt_eq_of_covers 2 _ (by decide +kernel) fun t _ y => ?_
  blk_simp
  rw [after10_2]; frame_out
  pointwise [k10_pay1, tn]
  blk_point [iblk10, idx10 t]

theorem idx11 : ∀ t : Fin cfg11.N, win11_0.index t = ![(grid11.coords t 1).val, 0] ∧ win11_1.index t = ![0, (grid11.coords t 0).val]
    ∧ win11_2.index t = ![(grid11.coords t 1).val, (grid11.coords t 0).val] :=
  (by decide +kernel : ∀ t : Fin grid11.N, _)

/-- The gradient of the mixer's input. -/
theorem call11 : (dat11 V c).arrAt 2 cfg11.N = nn (V c main_arg2) (V c main_arg1) := by
  refine (dat11 V c).arrAt_eq_of_covers 2 _ (by decide +kernel) fun t _ y => ?_
  blk_simp
  rw [after11_2]; frame_out
  pointwise [k11_pay1, nn]
  blk_point [iblk11, idx11 t]

end Cert.Kernel4Ideal.Proj

end
-- ==== Proof.ProjRun.lean ====
/-
  The projections' run: what each result holds after the last call.
-/
module

public import proofs.«01_k».proof.Proof.Proj

@[expose] public section

set_option maxRecDepth 16384

noncomputable section

namespace Cert.Kernel4Ideal.Proj

open Cert.Kernel4Ideal Cert.Kernel4Ideal.Gen Idealize.ShloMosaic Idealize.ShloMosaic.TcCoe Idealize.SL.Sem Cert.Mats
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg) (c : Dev nD)

theorem end_v0 : W12 m ρ c (Proc.devRef .tc main_v0) = nt (m (c.tc.loc main_arg0)) (m (c.tc.loc main_arg1)) := by
  rw [W12_of m ρ c main_v0 (by decide +kernel), W11_of m ρ c main_v0 (by decide +kernel), W10_of m ρ c main_v0 (by decide +kernel),
    W9_of m ρ c main_v0 (by decide +kernel), W8_of m ρ c main_v0 (by decide +kernel), W7_of m ρ c main_v0 (by decide +kernel),
    W6_of m ρ c main_v0 (by decide +kernel), W5_of m ρ c main_v0 (by decide +kernel), W4_of m ρ c main_v0 (by decide +kernel),
    W3_of m ρ c main_v0 (by decide +kernel), W2_of m ρ c main_v0 (by decide +kernel)]
  refine (W1_arr m ρ c 2).trans ((call0 (V0 m ρ) c).trans ?_)
  show nt (W0 m ρ c (Proc.devRef .tc main_arg0)) (W0 m ρ c (Proc.devRef .tc main_arg1)) = _
  rw [W0_args m ρ c main_arg0 (by decide), W0_args m ρ c main_arg1 (by decide)]

theorem end_v1 : W12 m ρ c (Proc.devRef .tc main_v1) = nt (m (c.tc.loc main_arg6)) (m (c.tc.loc main_arg7)) := by
  rw [W12_of m ρ c main_v1 (by decide +kernel), W11_of m ρ c main_v1 (by decide +kernel), W10_of m ρ c main_v1 (by decide +kernel),
    W9_of m ρ c main_v1 (by decide +kernel), W8_of m ρ c main_v1 (by decide +kernel), W7_of m ρ c main_v1 (by decide +kernel),
    W6_of m ρ c main_v1 (by decide +kernel), W5_of m ρ c main_v1 (by decide +kernel), W4_of m ρ c main_v1 (by decide +kernel),
    W3_of m ρ c main_v1 (by decide +kernel)]
  refine (W2_arr m ρ c 2).trans ((call1 (V1 m ρ) c).trans ?_)
  show nt (W1 m ρ c (Proc.devRef .tc main_arg6)) (W1 m ρ c (Proc.devRef .tc main_arg7)) = _
  rw [W1_args m ρ c main_arg6 (by decide), W1_args m ρ c main_arg7 (by decide)]

theorem end_v2 : W12 m ρ c (Proc.devRef .tc main_v2) = nn (m (c.tc.loc main_arg9)) (m (c.tc.loc main_arg10)) := by
  rw [W12_of m ρ c main_v2 (by decide +kernel), W11_of m ρ c main_v2 (by decide +kernel), W10_of m ρ c main_v2 (by decide +kernel),
    W9_of m ρ c main_v2 (by decide +kernel), W8_of m ρ c main_v2 (by decide +kernel), W7_of m ρ c main_v2 (by decide +kernel),
    W6_of m ρ c main_v2 (by decide +kernel), W5_of m ρ c main_v2 (by decide +kernel), W4_of m ρ c main_v2 (by decide +kernel)]
  refine (W3_arr m ρ c 2).trans ((call2 (V2 m ρ) c).trans ?_)
  show nn (W2 m ρ c (Proc.devRef .tc main_arg9)) (W2 m ρ c (Proc.devRef .tc main_arg10)) = _
  rw [W2_args m ρ c main_arg9 (by decide), W2_args m ρ c main_arg10 (by decide)]

theorem end_v3 : W12 m ρ c (Proc.devRef .tc main_v3) = nn (m (c.tc.loc main_arg3)) (m (c.tc.loc main_arg4)) := by
  rw [W12_of m ρ c main_v3 (by decide +kernel), W11_of m ρ c main_v3 (by decide +kernel), W10_of m ρ c main_v3 (by decide +kernel),
    W9_of m ρ c main_v3 (by decide +kernel), W8_of m ρ c main_v3 (by decide +kernel), W7_of m ρ c main_v3 (by decide +kernel),
    W6_of m ρ c main_v3 (by decide +kernel), W5_of m ρ c main_v3 (by decide +kernel)]
  refine (W4_arr m ρ c 2).trans ((call3 (V3 m ρ) c).trans ?_)
  show nn (W3 m ρ c (Proc.devRef .tc main_arg3)) (W3 m ρ c (Proc.devRef .tc main_arg4)) = _
  rw [W3_args m ρ c main_arg3 (by decide), W3_args m ρ c main_arg4 (by decide)]

theorem end_v4 : W12 m ρ c (Proc.devRef .tc main_v4) = nt (m (c.tc.loc main_arg5)) (m (c.tc.loc main_arg4)) := by
  rw [W12_of m ρ c main_v4 (by decide +kernel), W11_of m ρ c main_v4 (by decide +kernel), W10_of m ρ c main_v4 (by decide +kernel),
    W9_of m ρ c main_v4 (by decide +kernel), W8_of m ρ c main_v4 (by decide +kernel), W7_of m ρ c main_v4 (by decide +kernel),
    W6_of m ρ c main_v4 (by decide +kernel)]
  refine (W5_arr m ρ c 2).trans ((call4 (V4 m ρ) c).trans ?_)
  show nt (W4 m ρ c (Proc.devRef .tc main_arg5)) (W4 m ρ c (Proc.devRef .tc main_arg4)) = _
  rw [W4_args m ρ c main_arg5 (by decide), W4_args m ρ c main_arg4 (by decide)]

theorem end_v5 : W12 m ρ c (Proc.devRef .tc main_v5) = tn (m (c.tc.loc main_arg3)) (m (c.tc.loc main_arg5)) := by
  rw [W12_of m ρ c main_v5 (by decide +kernel), W11_of m ρ c main_v5 (by decide +kernel), W10_of m ρ c main_v5 (by decide +kernel),
    W9_of m ρ c main_v5 (by decide +kernel), W8_of m ρ c main_v5 (by decide +kernel), W7_of m ρ c main_v5 (by decide +kernel)]
  refine (W6_arr m ρ c 2).trans ((call5 (V5 m ρ) c).trans ?_)
  show tn (W5 m ρ c (Proc.devRef .tc main_arg3)) (W5 m ρ c (Proc.devRef .tc main_arg5)) = _
  rw [W5_args m ρ c main_arg3 (by decide), W5_args m ρ c main_arg5 (by decide)]

theorem end_v6 : W12 m ρ c (Proc.devRef .tc main_v6) = tn (m (c.tc.loc main_arg8)) (m (c.tc.loc main_arg6)) := by
  rw [W12_of m ρ c main_v6 (by decide +kernel), W11_of m ρ c main_v6 (by decide +kernel), W10_of m ρ c main_v6 (by decide +kernel),
    W9_of m ρ c main_v6 (by decide +kernel), W8_of m ρ c main_v6 (by decide +kernel)]
  refine (W7_arr m ρ c 2).trans ((call6 (V6 m ρ) c).trans ?_)
  show tn (W6 m ρ c (Proc.devRef .tc main_arg8)) (W6 m ρ c (Proc.devRef .tc main_arg6)) = _
  rw [W6_args m ρ c main_arg8 (by decide), W6_args m ρ c main_arg6 (by decide)]

theorem end_v7 : W12 m ρ c (Proc.devRef .tc main_v7) = nn (m (c.tc.loc main_arg8)) (m (c.tc.loc main_arg7)) := by
  rw [W12_of m ρ c main_v7 (by decide +kernel), W11_of m ρ c main_v7 (by decide +kernel), W10_of m ρ c main_v7 (by decide +kernel),
    W9_of m ρ c main_v7 (by decide +kernel)]
  refine (W8_arr m ρ c 2).trans ((call7 (V7 m ρ) c).trans ?_)
  show nn (W7 m ρ c (Proc.devRef .tc main_arg8)) (W7 m ρ c (Proc.devRef .tc main_arg7)) = _
  rw [W7_args m ρ c main_arg8 (by decide), W7_args m ρ c main_arg7 (by decide)]

theorem end_v8 : W12 m ρ c (Proc.devRef .tc main_v8) = tn (m (c.tc.loc main_arg9)) (m (c.tc.loc main_arg11)) := by
  rw [W12_of m ρ c main_v8 (by decide +kernel), W11_of m ρ c main_v8 (by decide +kernel), W10_of m ρ c main_v8 (by decide +kernel)]
  refine (W9_arr m ρ c 2).trans ((call8 (V8 m ρ) c).trans ?_)
  show tn (W8 m ρ c (Proc.devRef .tc main_arg9)) (W8 m ρ c (Proc.devRef .tc main_arg11)) = _
  rw [W8_args m ρ c main_arg9 (by decide), W8_args m ρ c main_arg11 (by decide)]

theorem end_v9 : W12 m ρ c (Proc.devRef .tc main_v9) = nt (m (c.tc.loc main_arg11)) (m (c.tc.loc main_arg10)) := by
  rw [W12_of m ρ c main_v9 (by decide +kernel), W11_of m ρ c main_v9 (by decide +kernel)]
  refine (W10_arr m ρ c 2).trans ((call9 (V9 m ρ) c).trans ?_)
  show nt (W9 m ρ c (Proc.devRef .tc main_arg11)) (W9 m ρ c (Proc.devRef .tc main_arg10)) = _
  rw [W9_args m ρ c main_arg11 (by decide), W9_args m ρ c main_arg10 (by decide)]

theorem end_v10 : W12 m ρ c (Proc.devRef .tc main_v10) = tn (m (c.tc.loc main_arg2)) (m (c.tc.loc main_arg0)) := by
  rw [W12_of m ρ c main_v10 (by decide +kernel)]
  refine (W11_arr m ρ c 2).trans ((call10 (V10 m ρ) c).trans ?_)
  show tn (W10 m ρ c (Proc.devRef .tc main_arg2)) (W10 m ρ c (Proc.devRef .tc main_arg0)) = _
  rw [W10_args m ρ c main_arg2 (by decide), W10_args m ρ c main_arg0 (by decide)]

theorem end_v11 : W12 m ρ c (Proc.devRef .tc main_v11) = nn (m (c.tc.loc main_arg2)) (m (c.tc.loc main_arg1)) := by
  refine (W12_arr m ρ c 2).trans ((call11 (V11 m ρ) c).trans ?_)
  show nn (W11 m ρ c (Proc.devRef .tc main_arg2)) (W11 m ρ c (Proc.devRef .tc main_arg1)) = _
  rw [W11_args m ρ c main_arg2 (by decide), W11_args m ρ c main_arg1 (by decide)]

local notation "𝕄" => MT nD τ sig Unit (Elt Ideal) ℕ (UR sig nD τ) ℕ

set_option backward.isDefEq.respectTransparency.types false in
/-- The run: the twelve products, and the arguments as they were. -/
theorem run : θ_run defs (onTc (τ := τ) (main (F := Ideal))) ⟨m, fun _ => 0, ρ⟩ (fun r => ∀ c : Dev nD,
      r.2.mem ((c.tc : Thread nD τ).loc main_v0) = nt (m (c.tc.loc main_arg0)) (m (c.tc.loc main_arg1))
      ∧ r.2.mem ((c.tc : Thread nD τ).loc main_v1) = nt (m (c.tc.loc main_arg6)) (m (c.tc.loc main_arg7))
      ∧ r.2.mem ((c.tc : Thread nD τ).loc main_v2) = nn (m (c.tc.loc main_arg9)) (m (c.tc.loc main_arg10))
      ∧ r.2.mem ((c.tc : Thread nD τ).loc main_v3) = nn (m (c.tc.loc main_arg3)) (m (c.tc.loc main_arg4))
      ∧ r.2.mem ((c.tc : Thread nD τ).loc main_v4) = nt (m (c.tc.loc main_arg5)) (m (c.tc.loc main_arg4))
      ∧ r.2.mem ((c.tc : Thread nD τ).loc main_v5) = tn (m (c.tc.loc main_arg3)) (m (c.tc.loc main_arg5))
      ∧ r.2.mem ((c.tc : Thread nD τ).loc main_v6) = tn (m (c.tc.loc main_arg8)) (m (c.tc.loc main_arg6))
      ∧ r.2.mem ((c.tc : Thread nD τ).loc main_v7) = nn (m (c.tc.loc main_arg8)) (m (c.tc.loc main_arg7))
      ∧ r.2.mem ((c.tc : Thread nD τ).loc main_v8) = tn (m (c.tc.loc main_arg9)) (m (c.tc.loc main_arg11))
      ∧ r.2.mem ((c.tc : Thread nD τ).loc main_v9) = nt (m (c.tc.loc main_arg11)) (m (c.tc.loc main_arg10))
      ∧ r.2.mem ((c.tc : Thread nD τ).loc main_v10) = tn (m (c.tc.loc main_arg2)) (m (c.tc.loc main_arg0))
      ∧ r.2.mem ((c.tc : Thread nD τ).loc main_v11) = nn (m (c.tc.loc main_arg2)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz c =>
      ⟨(h c _ (mem_uc main_v0 (by decide))).trans (end_v0 m ρ c),
       (h c _ (mem_uc main_v1 (by decide))).trans (end_v1 m ρ c),
       (h c _ (mem_uc main_v2 (by decide))).trans (end_v2 m ρ c),
       (h c _ (mem_uc main_v3 (by decide))).trans (end_v3 m ρ c),
       (h c _ (mem_uc main_v4 (by decide))).trans (end_v4 m ρ c),
       (h c _ (mem_uc main_v5 (by decide))).trans (end_v5 m ρ c),
       (h c _ (mem_uc main_v6 (by decide))).trans (end_v6 m ρ c),
       (h c _ (mem_uc main_v7 (by decide))).trans (end_v7 m ρ c),
       (h c _ (mem_uc main_v8 (by decide))).trans (end_v8 m ρ c),
       (h c _ (mem_uc main_v9 (by decide))).trans (end_v9 m ρ c),
       (h c _ (mem_uc main_v10 (by decide))).trans (end_v10 m ρ c),
       (h c _ (mem_uc main_v11 (by decide))).trans (end_v11 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.Kernel4Ideal.Proj

end
-- ==== Proof.ProjRef.lean ====
/-
  The projections' reference: each result as one product of its arguments.
-/
module

public import proofs.«01_k».proof.Proof.Mats
public import proofs.«01_k».proof.Proof.Gen.Reference4Ideal.Read

@[expose] public section

set_option maxRecDepth 16384

noncomputable section

namespace Cert.Reference4Ideal.Proj

open Cert.Reference4Ideal Cert.Reference4Ideal.Gen Cert.Reference4Ideal.Read Idealize.ShloMosaic Idealize.ShloMosaic.TcCoe Idealize.SL.Sem Cert.Mats

variable (x0 x3 x5 x8 : (⟨S2048x1024, .bf16⟩ : BufTy).Contents (Elt Ideal))
  (x1 : (⟨S2304x1024, .bf16⟩ : BufTy).Contents (Elt Ideal))
  (x2 : (⟨S2048x2304, .bf16⟩ : BufTy).Contents (Elt Ideal))
  (x4 : (⟨S1024x1024, .bf16⟩ : BufTy).Contents (Elt Ideal))
  (x6 : (⟨S2048x384, .bf16⟩ : BufTy).Contents (Elt Ideal))
  (x7 : (⟨S1024x384, .bf16⟩ : BufTy).Contents (Elt Ideal))
  (x9 : (⟨S2048x256, .bf16⟩ : BufTy).Contents (Elt Ideal))
  (x10 : (⟨S256x1536, .bf16⟩ : BufTy).Contents (Elt Ideal))
  (x11 : (⟨S2048x1536, .bf16⟩ : BufTy).Contents (Elt Ideal))

/-- The projection into the mixer. -/
theorem v13 : val_main_v13 (F := Ideal) x0 x1 = nt x0 x1 := by
  funext i
  pointwise [val_main_v13, val_main_v0, val_main_v12, val_main_v1, nt]

/-- The latent attention's queries. -/
theorem v15 : val_main_v15 (F := Ideal) x6 x7 = nt x6 x7 := by
  funext i
  pointwise [val_main_v15, val_main_v6, val_main_v14, val_main_v7, nt]

/-- The latent attention's keys and values. -/
theorem v16 : val_main_v16 (F := Ideal) x9 x10 = nn x9 x10 := by
  funext i
  pointwise [val_main_v16, val_main_v9, val_main_v10, nn]

/-- The projection out of the mixer. -/
theorem v17 : val_main_v17 (F := Ideal) x3 x4 = nn x3 x4 := by
  funext i
  pointwise [val_main_v17, val_main_v3, val_main_v4, nn]

/-- The gradient of the mixer's output. -/
theorem v29 : val_main_v29 (F := Ideal) x4 x5 = nt x5 x4 := by
  funext i
  pointwise [val_main_v29, val_main_v5, val_main_v4, nt]

/-- The gradient of the weights out of the mixer. -/
theorem v30 : val_main_v30 (F := Ideal) x3 x5 = tn x3 x5 := by
  funext i
  pointwise [val_main_v30, val_main_v28, val_main_v27, val_main_v5, val_main_v3, tn]
  exact Finset.sum_congr rfl fun k _ => mul_comm (G := EReal) _ _

/-- The gradient of the queries' weights. -/
theorem v32 : val_main_v32 (F := Ideal) x6 x8 = tn x8 x6 := by
  funext i
  pointwise [val_main_v32, val_main_v31, val_main_v22, val_main_v21, val_main_v8, val_main_v6, tn]

/-- The gradient of the queries' latent. -/
theorem v23 : val_main_v23 (F := Ideal) x7 x8 = nn x8 x7 := by
  funext i
  pointwise [val_main_v23, val_main_v8, val_main_v14, val_main_v7, nn]

/-- The gradient of the keys' and values' weights. -/
theorem v33 : val_main_v33 (F := Ideal) x9 x11 = tn x9 x11 := by
  funext i
  pointwise [val_main_v33, val_main_v25, val_main_v24, val_main_v11, val_main_v9, tn]
  exact Finset.sum_congr rfl fun k _ => mul_comm (G := EReal) _ _

/-- The gradient of the keys' and values' latent. -/
theorem v26 : val_main_v26 (F := Ideal) x10 x11 = nt x11 x10 := by
  funext i
  pointwise [val_main_v26, val_main_v11, val_main_v10, nt]

/-- The gradient of the weights into the mixer. -/
theorem v35 : val_main_v35 (F := Ideal) x0 x2 = tn x2 x0 := by
  funext i
  pointwise [val_main_v35, val_main_v34, val_main_v19, val_main_v18, val_main_v2, val_main_v0, tn]

/-- The gradient of the mixer's input. -/
theorem v20 : val_main_v20 (F := Ideal) x1 x2 = nn x2 x1 := by
  funext i
  pointwise [val_main_v20, val_main_v2, val_main_v12, val_main_v1, nn]

end Cert.Reference4Ideal.Proj

end
-- ==== Proof.Shifts.lean ====
/-
  Rows of a matrix moved up and down, and the three taps of a causal convolution, over the real numbers and the two infinities.
-/
module

public import proofs.«01_k».proof.Proof.Mats

@[expose] public section

noncomputable section

namespace Cert.Shifts

open Idealize.ShloMosaic Cert.Mats

/-- The rows moved down by `n`, zeros above. -/
def down {C : ℕ} (n : ℕ) (x : M 2048 C) : M 2048 C := fun i =>
  if n ≤ (i 0).val then x (ix2 (⟨(i 0).val - n, lt_of_le_of_lt (Nat.sub_le _ _) (i 0).isLt⟩ : Fin 2048) (i 1)) else 0

/-- The rows moved up by `n`, zeros below. -/
def up {C : ℕ} (n : ℕ) (x : M 2048 C) : M 2048 C := fun i =>
  if (i 0).val + n < 2048 then x (ix2 (⟨((i 0).val + n) % 2048, Nat.mod_lt _ (by norm_num)⟩ : Fin 2048) (i 1)) else 0

/-- The product of two matrices, entry by entry. -/
def had {A B : ℕ} (x y : M A B) : M A B := fun i => x i * y i

/-- Three taps over the rows above. -/
def taps {C : ℕ} (w : M 3 C) (u : M 2048 C) : M 2048 C := fun i =>
  w (ix2 (0 : Fin 3) (i 1)) * down 2 u i + w (ix2 (1 : Fin 3) (i 1)) * down 1 u i + w (ix2 (2 : Fin 3) (i 1)) * u i

/-- Three taps over the rows below. -/
def taps_up {C : ℕ} (w : M 3 C) (d : M 2048 C) : M 2048 C := fun i =>
  w (ix2 (2 : Fin 3) (i 1)) * d i + w (ix2 (1 : Fin 3) (i 1)) * up 1 d i + w (ix2 (0 : Fin 3) (i 1)) * up 2 d i

/-- `B` columns of a matrix from column `o` on. -/
def cols {A N : ℕ} (B o : ℕ) (h : o + B ≤ N) (x : M A N) : M A B := fun i =>
  x (ix2 (i 0) (⟨o + (i 1).val, lt_of_lt_of_le (Nat.add_lt_add_left (i 1).isLt o) h⟩ : Fin N))

/-- The gradient of the three taps: the sums over the rows of one matrix times the rows above, of another, that the tap reads. -/
def wgrad {C : ℕ} (d u : M 2048 C) : M 3 C := fun i =>
  if (i 0).val = 0 then ∑ k : Fin 2048, d (ix2 k (i 1)) * down 2 u (ix2 k (i 1))
  else if (i 0).val = 1 then ∑ k : Fin 2048, d (ix2 k (i 1)) * down 1 u (ix2 k (i 1))
  else ∑ k : Fin 2048, d (ix2 k (i 1)) * u (ix2 k (i 1))

end Cert.Shifts

end
-- ==== Proof.Conv.lean ====
/-
  The short gated convolution's calls, each over arrays.
-/
module

public import proofs.«01_k».proof.Proof.Gen.Kernel5Ideal.Frame
public import proofs.«01_k».proof.Proof.Shifts
public import Idealize.ShloMosaic.Lib.WordCmp
public import Idealize.ShloMosaic.Lib.Pipeline.ValueKit

@[expose] public section

set_option maxRecDepth 16384

noncomputable section

namespace Cert.Kernel5Ideal.Conv

open Cert.Kernel5Ideal Cert.Kernel5Ideal.Gen Idealize.ShloMosaic Idealize.ShloMosaic.TcCoe Idealize.SL.Sem Cert.Mats Cert.Shifts

/-- A rotation downwards, the rows that came around the end set to zero. -/
theorem rot_down (n : ℕ) (hn : n < 2048) (x : FVec Ideal S2048x128 .f32) :
    select (cmpi .sge (iota .tc S2048x128 32 [0] iota_S2048x128_d0_w32) (broadcast S2048x128 (BitVec.ofNat 32 n)))
      (dynamicRotate 0 (BitVec.ofNat 32 n) none x rotates_S2048x128_d0)
      (broadcast S2048x128 (Scalar.ofBits .f32 0x00000000#32 : Ideal .f32)) = down n x := by
  funext i
  have hi : (i 0).val < 2048 := (i 0).isLt
  pointwise [down]
  rw [WordCmp.cmpi_sge_ofNat (by norm_num; omega) (by norm_num; omega),
    BitVec.toNat_ofNat, Nat.mod_eq_of_lt (show n < 2 ^ 32 by norm_num; omega)]
  by_cases h : n ≤ (i 0).val
  · have e : ((i 0).val + 2048 - n % 2048) % 2048 = (i 0).val - n := by omega
    simp only [h, decide_true, if_true, e]
    rfl
  · simp only [h, decide_false, if_false]
    rfl

/-- A rotation upwards, written as one downwards by the rest. -/
theorem rot_up (n k : ℕ) (hn : n < 2048) (hk : k = 2048 - n) (h0 : 0 < n) (x : FVec Ideal S2048x128 .f32) :
    select (cmpi .slt (iota .tc S2048x128 32 [0] iota_S2048x128_d0_w32) (broadcast S2048x128 (BitVec.ofNat 32 k)))
      (dynamicRotate 0 (BitVec.ofNat 32 k) none x rotates_S2048x128_d0)
      (broadcast S2048x128 (Scalar.ofBits .f32 0x00000000#32 : Ideal .f32)) = up n x := by
  subst hk
  funext i
  have hi : (i 0).val < 2048 := (i 0).isLt
  pointwise [up]
  rw [WordCmp.cmpi_slt_ofNat (by norm_num; omega) (by norm_num; omega),
    BitVec.toNat_ofNat, Nat.mod_eq_of_lt (show 2048 - n < 2 ^ 32 by norm_num; omega)]
  by_cases h : (i 0).val + n < 2048
  · have e : ((i 0).val + 2048 - (2048 - n) % 2048) % 2048 = ((i 0).val + n) % 2048 := by omega
    have h' : (i 0).val < 2048 - n := by omega
    simp only [h, h', decide_true, if_true, e]
    rfl
  · have h' : ¬ (i 0).val < 2048 - n := by omega
    simp only [h, h', decide_false, if_false]
    rfl

theorem pay0 (v0 v1 v26 : Vec Ideal S2048x128 .f32) (v4 : Vec Ideal S3x128 .f32) :
    k0_pay1 (F := Ideal) v0 v1 v4 v26 = had v26 (taps v4 (had v0 v1)) := by
  unfold k0_pay1
  simp only [rot_down 2 (by norm_num), rot_down 1 (by norm_num)]
  funext i
  pointwise [had, taps]
  rfl

theorem pay8 (v0 v1 : Vec Ideal S2048x128 .f32) : k1_pay8 (F := Ideal) v0 v1 = down 1 (had v0 v1) := by
  unfold k1_pay8
  simp only [rot_down 1 (by norm_num)]
  rfl

theorem pay9 (v0 v1 : Vec Ideal S2048x128 .f32) : k1_pay9 (F := Ideal) v0 v1 = down 2 (had v0 v1) := by
  unfold k1_pay9
  simp only [rot_down 2 (by norm_num)]
  rfl

theorem pay10 (v0 v1 v3 : Vec Ideal S2048x128 .f32) (v6 : Vec Ideal S3x128 .f32) :
    k1_pay10 (F := Ideal) v0 v1 v3 v6 = had v3 (taps v6 (had v0 v1)) := by
  unfold k1_pay10
  simp only [pay8, pay9]
  funext i
  pointwise [k1_pay7, had, taps]

/-- What the product of the two gates' input receives. -/
theorem pay1 (b d : Vec Ideal S2048x128 .f32) (w : Vec Ideal S3x128 .f32) :
    k1_pay1 (F := Ideal) (iota .tc S2048x128 32 [0] iota_S2048x128_d0_w32) w (k1_pay11 b d) (k1_pay12 b d w) (k1_pay13 w) k1_pay14 (k1_pay15 b d)
      = taps_up w (had d b) := by
  unfold k1_pay1 k1_pay14 k1_pay15
  simp only [rot_up 1 2047 (by norm_num) (by norm_num) (by norm_num), rot_up 2 2046 (by norm_num) (by norm_num) (by norm_num)]
  funext i
  pointwise [k1_pay11, k1_pay12, k1_pay13, had, taps_up]
  rfl

variable (V : (c : Dev nD) → (b : Ref sig .tc) → Buf (Elt Ideal) ((c : Thread nD τ).loc b)) (c : Dev nD)

theorem idx0 : ∀ t : Fin cfg0.N, win0_0.index t = ![0, 12 + (grid0.coords t 0).val] ∧ win0_1.index t = ![0, 14 + (grid0.coords t 0).val]
    ∧ win0_2.index t = ![0, 16 + (grid0.coords t 0).val] ∧ win0_3.index t = ![0, (grid0.coords t 0).val] ∧ win0_4.index t = ![0, (grid0.coords t 0).val] :=
  (by decide +kernel : ∀ t : Fin grid0.N, _)

/-- The gated convolution. -/
theorem fwd : (dat0 V c).arrAt 4 cfg0.N = had (cols 256 1536 (by norm_num) (V c main_arg0))
    (taps (V c main_arg1) (had (cols 256 1792 (by norm_num) (V c main_arg0)) (cols 256 2048 (by norm_num) (V c main_arg0)))) := by
  refine (dat0 V c).arrAt_eq_of_covers 4 _ (by decide +kernel) fun t _ y => ?_
  blk_simp
  rw [after0_4]; frame_out
  rw [pay0]
  pointwise [had, taps, down, cols]
  blk_point [iblk0, idx0 t]

theorem idx1 : ∀ t : Fin cfg1.N, win1_0.index t = ![0, 12 + (grid1.coords t 0).val] ∧ win1_1.index t = ![0, 14 + (grid1.coords t 0).val]
    ∧ win1_2.index t = ![0, 16 + (grid1.coords t 0).val] ∧ win1_3.index t = ![0, (grid1.coords t 0).val]
    ∧ win1_4.index t = ![0, 6 + (grid1.coords t 0).val] ∧ win1_5.index t = ![0, (grid1.coords t 0).val]
    ∧ win1_6.index t = ![0, (grid1.coords t 0).val] ∧ win1_7.index t = ![0, (grid1.coords t 0).val]
    ∧ win1_8.index t = ![0, (grid1.coords t 0).val] :=
  (by decide +kernel : ∀ t : Fin grid1.N, _)

/-- The gradient of the outer gate. -/
theorem grad_b : (dat1 V c).arrAt 5 cfg1.N = had (cols 256 768 (by norm_num) (V c main_arg2))
    (taps (V c main_arg1) (had (cols 256 1792 (by norm_num) (V c main_arg0)) (cols 256 2048 (by norm_num) (V c main_arg0)))) := by
  refine (dat1 V c).arrAt_eq_of_covers 5 _ (by decide +kernel) fun t _ y => ?_
  blk_simp
  rw [after1_5]; frame_out
  rw [pay10]
  pointwise [had, taps, down, cols]
  blk_point [iblk1, idx1 t]

/-- The gradient of the inner gate. -/
theorem grad_c : (dat1 V c).arrAt 6 cfg1.N = had (taps_up (V c main_arg1) (had (cols 256 768 (by norm_num) (V c main_arg2)) (cols 256 1536 (by norm_num) (V c main_arg0))))
    (cols 256 2048 (by norm_num) (V c main_arg0)) := by
  refine (dat1 V c).arrAt_eq_of_covers 6 _ (by decide +kernel) fun t _ y => ?_
  blk_simp
  rw [after1_6]; unfold_out out1_6; frame_out
  pointwise [k1_pay2]
  rw [pay1]
  pointwise [had, taps_up, up, cols]
  blk_point [iblk1, idx1 t]

/-- The gradient of the value. -/
theorem grad_h : (dat1 V c).arrAt 7 cfg1.N = had (taps_up (V c main_arg1) (had (cols 256 768 (by norm_num) (V c main_arg2)) (cols 256 1536 (by norm_num) (V c main_arg0))))
    (cols 256 1792 (by norm_num) (V c main_arg0)) := by
  refine (dat1 V c).arrAt_eq_of_covers 7 _ (by decide +kernel) fun t _ y => ?_
  blk_simp
  rw [after1_7]; unfold_out out1_7; frame_out
  pointwise [k1_pay3]
  rw [pay1]
  pointwise [had, taps_up, up, cols]
  blk_point [iblk1, idx1 t]

end Cert.Kernel5Ideal.Conv

end
-- ==== Proof.ConvW.lean ====
/-
  The short gated convolution's backward call: the gradient of its three taps, which it stores one row at a time.
-/
module

public import proofs.«01_k».proof.Proof.Conv

@[expose] public section

set_option maxRecDepth 16384

noncomputable section

namespace Cert.Kernel5Ideal.Conv

open Cert.Kernel5Ideal Cert.Kernel5Ideal.Gen Idealize.ShloMosaic Idealize.ShloMosaic.TcCoe Idealize.SL.Sem Cert.Mats Cert.Shifts

theorem pay4 (u d : FVec Ideal S2048x128 .f32) (x : S1x128.Idx) :
    k1_pay4 (F := Ideal) u d x = ∑ k : Fin 2048, d (ix2 k (x 1)) * u (ix2 k (x 1)) := by
  pointwise [k1_pay4]

theorem pay5 (u d : FVec Ideal S2048x128 .f32) (x : S1x128.Idx) :
    k1_pay5 (F := Ideal) u d x = ∑ k : Fin 2048, d (ix2 k (x 1)) * u (ix2 k (x 1)) := by
  pointwise [k1_pay5]

theorem pay6 (u d : FVec Ideal S2048x128 .f32) (x : S1x128.Idx) :
    k1_pay6 (F := Ideal) u d x = ∑ k : Fin 2048, d (ix2 k (x 1)) * u (ix2 k (x 1)) := by
  pointwise [k1_pay6]

theorem pay7 (v0 v1 : Vec Ideal S2048x128 .f32) : k1_pay7 (F := Ideal) v0 v1 = had v0 v1 := rfl

theorem pay11 (b d : Vec Ideal S2048x128 .f32) : k1_pay11 (F := Ideal) b d = had d b := rfl

/-- What one step leaves for the taps. -/
theorem out8 (x0 x1 x2 x4 : Vec Ideal S2048x128 .f32) (x3 : Vec Ideal S3x128 .f32) :
    out1_8 (F := Ideal) x0 x1 x2 x3 x4 = wgrad (had x4 x0) (had x1 x2) := by
  have l : ∀ x : Vec Ideal S2048x128 .f32, View.ld x r1_0 = x := fun x => View.ld_unit_lit' _ x (by decide)
  funext y
  unfold_out out1_8
  rw [l, l, l, l, pay7, pay8, pay9, pay11]
  canon_tiles x h using cover1_8 ..
  · have e : y 1 = x 1 := Fin.ext h1
    rw [pay6, ← e]
    unfold wgrad
    rw [if_neg (by omega), if_neg (by omega)]
  · have e : y 1 = x 1 := Fin.ext h1
    rw [pay5, ← e]
    unfold wgrad
    rw [if_neg (by omega), if_pos (by omega)]
  · have e : y 1 = x 1 := Fin.ext h1
    rw [pay4, ← e]
    unfold wgrad
    rw [if_pos (by omega)]

variable (V : (c : Dev nD) → (b : Ref sig .tc) → Buf (Elt Ideal) ((c : Thread nD τ).loc b)) (c : Dev nD)

/-- The gradient of the taps. -/
theorem grad_w : (dat1 V c).arrAt 8 cfg1.N = wgrad (had (cols 256 768 (by norm_num) (V c main_arg2)) (cols 256 1536 (by norm_num) (V c main_arg0)))
    (had (cols 256 1792 (by norm_num) (V c main_arg0)) (cols 256 2048 (by norm_num) (V c main_arg0))) := by
  refine (dat1 V c).arrAt_eq_of_covers 8 _ (by decide +kernel) fun t _ y => ?_
  blk_simp
  rw [after1_8, out8]
  pointwise [wgrad, had, down, cols]
  blk_point [iblk1, idx1 t]

end Cert.Kernel5Ideal.Conv

end
-- ==== Proof.ConvRun.lean ====
/-
  The short gated convolution's run: what each result holds after the last call.
-/
module

public import proofs.«01_k».proof.Proof.ConvW

@[expose] public section

set_option maxRecDepth 16384

noncomputable section

namespace Cert.Kernel5Ideal.Conv

open Cert.Kernel5Ideal Cert.Kernel5Ideal.Gen Idealize.ShloMosaic Idealize.ShloMosaic.TcCoe Idealize.SL.Sem Cert.Mats Cert.Shifts
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg) (c : Dev nD)

/-- The product of the inner gate and the value, which the taps read. -/
abbrev inner (z : M 2048 2304) : M 2048 256 := had (cols 256 1792 (by norm_num) z) (cols 256 2048 (by norm_num) z)

/-- What the taps' sum receives. -/
abbrev into (dy : M 2048 1024) (z : M 2048 2304) : M 2048 256 := had (cols 256 768 (by norm_num) dy) (cols 256 1536 (by norm_num) z)

theorem end_y : W2 m ρ c (Proc.devRef .tc main_v0) =
    had (cols 256 1536 (by norm_num) (m (c.tc.loc main_arg0))) (taps (m (c.tc.loc main_arg1)) (inner (m (c.tc.loc main_arg0)))) := by
  rw [W2_of m ρ c main_v0 (by decide +kernel)]
  refine (W1_arr m ρ c 4).trans ((fwd (V0 m ρ) c).trans ?_)
  show had (cols 256 1536 (by norm_num) (W0 m ρ c (Proc.devRef .tc main_arg0))) (taps (W0 m ρ c (Proc.devRef .tc main_arg1)) (inner (W0 m ρ c (Proc.devRef .tc main_arg0)))) = _
  rw [W0_args m ρ c main_arg0 (by decide), W0_args m ρ c main_arg1 (by decide)]

theorem end_b : W2 m ρ c (Proc.devRef .tc main_v1_0) =
    had (cols 256 768 (by norm_num) (m (c.tc.loc main_arg2))) (taps (m (c.tc.loc main_arg1)) (inner (m (c.tc.loc main_arg0)))) := by
  refine (W2_arr m ρ c 5).trans ((grad_b (V1 m ρ) c).trans ?_)
  show had (cols 256 768 (by norm_num) (W1 m ρ c (Proc.devRef .tc main_arg2))) (taps (W1 m ρ c (Proc.devRef .tc main_arg1)) (inner (W1 m ρ c (Proc.devRef .tc main_arg0)))) = _
  rw [W1_args m ρ c main_arg0 (by decide), W1_args m ρ c main_arg1 (by decide), W1_args m ρ c main_arg2 (by decide)]

theorem end_c : W2 m ρ c (Proc.devRef .tc main_v1_1) =
    had (taps_up (m (c.tc.loc main_arg1)) (into (m (c.tc.loc main_arg2)) (m (c.tc.loc main_arg0)))) (cols 256 2048 (by norm_num) (m (c.tc.loc main_arg0))) := by
  refine (W2_arr m ρ c 6).trans ((grad_c (V1 m ρ) c).trans ?_)
  show had (taps_up (W1 m ρ c (Proc.devRef .tc main_arg1)) (into (W1 m ρ c (Proc.devRef .tc main_arg2)) (W1 m ρ c (Proc.devRef .tc main_arg0)))) (cols 256 2048 (by norm_num) (W1 m ρ c (Proc.devRef .tc main_arg0))) = _
  rw [W1_args m ρ c main_arg0 (by decide), W1_args m ρ c main_arg1 (by decide), W1_args m ρ c main_arg2 (by decide)]

theorem end_h : W2 m ρ c (Proc.devRef .tc main_v1_2) =
    had (taps_up (m (c.tc.loc main_arg1)) (into (m (c.tc.loc main_arg2)) (m (c.tc.loc main_arg0)))) (cols 256 1792 (by norm_num) (m (c.tc.loc main_arg0))) := by
  refine (W2_arr m ρ c 7).trans ((grad_h (V1 m ρ) c).trans ?_)
  show had (taps_up (W1 m ρ c (Proc.devRef .tc main_arg1)) (into (W1 m ρ c (Proc.devRef .tc main_arg2)) (W1 m ρ c (Proc.devRef .tc main_arg0)))) (cols 256 1792 (by norm_num) (W1 m ρ c (Proc.devRef .tc main_arg0))) = _
  rw [W1_args m ρ c main_arg0 (by decide), W1_args m ρ c main_arg1 (by decide), W1_args m ρ c main_arg2 (by decide)]

theorem end_w : W2 m ρ c (Proc.devRef .tc main_v1_3) =
    wgrad (into (m (c.tc.loc main_arg2)) (m (c.tc.loc main_arg0))) (inner (m (c.tc.loc main_arg0))) := by
  refine (W2_arr m ρ c 8).trans ((grad_w (V1 m ρ) c).trans ?_)
  show wgrad (into (W1 m ρ c (Proc.devRef .tc main_arg2)) (W1 m ρ c (Proc.devRef .tc main_arg0))) (inner (W1 m ρ c (Proc.devRef .tc main_arg0))) = _
  rw [W1_args m ρ c main_arg0 (by decide), W1_args m ρ c main_arg2 (by decide)]

local notation "𝕄" => MT nD τ sig Unit (Elt Ideal) ℕ (UR sig nD τ) ℕ

set_option backward.isDefEq.respectTransparency.types false in
/-- The run: the convolution and its four gradients, and the arguments as they were. -/
theorem run : θ_run defs (onTc (τ := τ) (main (F := Ideal))) ⟨m, fun _ => 0, ρ⟩ (fun r => ∀ c : Dev nD,
      r.2.mem ((c.tc : Thread nD τ).loc main_v0) = had (cols 256 1536 (by norm_num) (m (c.tc.loc main_arg0))) (taps (m (c.tc.loc main_arg1)) (inner (m (c.tc.loc main_arg0))))
      ∧ r.2.mem ((c.tc : Thread nD τ).loc main_v1_0) =
        had (cols 256 768 (by norm_num) (m (c.tc.loc main_arg2))) (taps (m (c.tc.loc main_arg1)) (inner (m (c.tc.loc main_arg0))))
      ∧ r.2.mem ((c.tc : Thread nD τ).loc main_v1_1) =
        had (taps_up (m (c.tc.loc main_arg1)) (into (m (c.tc.loc main_arg2)) (m (c.tc.loc main_arg0)))) (cols 256 2048 (by norm_num) (m (c.tc.loc main_arg0)))
      ∧ r.2.mem ((c.tc : Thread nD τ).loc main_v1_2) =
        had (taps_up (m (c.tc.loc main_arg1)) (into (m (c.tc.loc main_arg2)) (m (c.tc.loc main_arg0)))) (cols 256 1792 (by norm_num) (m (c.tc.loc main_arg0)))
      ∧ r.2.mem ((c.tc : Thread nD τ).loc main_v1_3) = wgrad (into (m (c.tc.loc main_arg2)) (m (c.tc.loc main_arg0))) (inner (m (c.tc.loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0 (by decide))).trans (end_y m ρ c),
       (h c _ (mem_uc main_v1_0 (by decide))).trans (end_b m ρ c),
       (h c _ (mem_uc main_v1_1 (by decide))).trans (end_c m ρ c),
       (h c _ (mem_uc main_v1_2 (by decide))).trans (end_h m ρ c),
       (h c _ (mem_uc main_v1_3 (by decide))).trans (end_w m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Kernel5Ideal.Conv

end
-- ==== Proof.ConvRef.lean ====
/-
  The short gated convolution's reference: each result over its arguments.
-/
module

public import proofs.«01_k».proof.Proof.Shifts
public import proofs.«01_k».proof.Proof.Gen.Reference5Ideal.Read
public import Idealize.ShloMosaic.Lib.KernelVsHost

@[expose] public section

set_option maxRecDepth 16384

noncomputable section

namespace Cert.Reference5Ideal.Conv

open Cert.Reference5Ideal Cert.Reference5Ideal.Gen Cert.Reference5Ideal.Read Idealize.ShloMosaic Idealize.ShloMosaic.TcCoe Idealize.SL.Sem Cert.Mats Cert.Shifts

variable (x0 : (⟨S2048x2304, .f32⟩ : BufTy).Contents (Elt Ideal)) (x1 : (⟨S3x256, .f32⟩ : BufTy).Contents (Elt Ideal))
  (x2 : (⟨S2048x1024, .f32⟩ : BufTy).Contents (Elt Ideal))

theorem v0 : val_main_v0 (F := Ideal) x0 = cols 256 1536 (by norm_num) x0 := by
  funext i
  pointwise [val_main_v0, cols]

theorem v1 : val_main_v1 (F := Ideal) x0 = cols 256 1792 (by norm_num) x0 := by
  funext i
  pointwise [val_main_v1, cols]

theorem v2 : val_main_v2 (F := Ideal) x0 = cols 256 2048 (by norm_num) x0 := by
  funext i
  pointwise [val_main_v2, cols]

theorem v24 : val_main_v24 (F := Ideal) x2 = cols 256 768 (by norm_num) x2 := by
  funext i
  pointwise [val_main_v24, cols]

theorem v3 : val_main_v3 (F := Ideal) x0 = had (cols 256 1792 (by norm_num) x0) (cols 256 2048 (by norm_num) x0) := by
  unfold val_main_v3
  rw [v1, v2]
  rfl

theorem v25 : val_main_v25 (F := Ideal) x0 x2 = had (cols 256 768 (by norm_num) x2) (cols 256 1536 (by norm_num) x0) := by
  unfold val_main_v25
  rw [v0, v24]
  funext i
  exact mul_comm (G := EReal) _ _

theorem v7 : val_main_v7 (F := Ideal) x0 = down 2 (val_main_v3 (F := Ideal) x0) := by
  funext i
  unfold val_main_v7 val_main_v6
  generalize val_main_v3 (F := Ideal) x0 = u
  pointwise [val_main_v5, val_main_cst, down]
  by_cases h : (i 0).val < 2
  · rw [dif_pos h, if_neg (by omega)]
  · rw [dif_neg h]
    exact (if_pos (Nat.le_of_not_lt h)).symm

theorem v14 : val_main_v14 (F := Ideal) x0 = down 1 (val_main_v3 (F := Ideal) x0) := by
  funext i
  unfold val_main_v14 val_main_v13
  generalize val_main_v3 (F := Ideal) x0 = u
  pointwise [val_main_v12, val_main_cst_1, down]
  by_cases h : (i 0).val < 1
  · rw [dif_pos h, if_neg (by omega)]
  · rw [dif_neg h]
    exact (if_pos (Nat.le_of_not_lt h)).symm

theorem v22 : val_main_v22 (F := Ideal) x0 x1 = taps x1 (val_main_v3 (F := Ideal) x0) := by
  funext i
  unfold val_main_v22 val_main_v21 val_main_v18 val_main_v17 val_main_v10
  rw [v7, v14]
  pointwise [val_main_v20, val_main_v19, val_main_v16, val_main_v11, val_main_v9, val_main_v4, taps]

theorem v23 : val_main_v23 (F := Ideal) x0 x1 = had (cols 256 1536 (by norm_num) x0)
    (taps x1 (had (cols 256 1792 (by norm_num) x0) (cols 256 2048 (by norm_num) x0))) := by
  unfold val_main_v23
  rw [v0, v22, v3]
  rfl

theorem v26 : val_main_v26 (F := Ideal) x0 x1 x2 = had (cols 256 768 (by norm_num) x2)
    (taps x1 (had (cols 256 1792 (by norm_num) x0) (cols 256 2048 (by norm_num) x0))) := by
  unfold val_main_v26
  rw [v24, v22, v3]
  rfl

theorem v40 (i : S2048x256.Idx) : val_main_v40 (F := Ideal) x0 x1 x2 i = x1 (ix2 (1 : Fin 3) (i 1)) * up 1 (val_main_v25 (F := Ideal) x0 x2) i := by
  unfold val_main_v40 val_main_v39 val_main_v34
  generalize val_main_v25 (F := Ideal) x0 x2 = d
  by_cases h : (i 0).val + 1 < 2048
  · refine (pad_apply_of_inside (s := S2047x256) (t := S2048x256) ![0, 0] ![1, 0] ![0, 0] _ _ _ _ i (ix2 (⟨(i 0).val, by omega⟩ : Fin 2047) (i 1))
      (by intro a; fin_cases a <;> simp)).trans ?_
    pointwise [val_main_v33, val_main_v11, up]
    rw [if_pos h]
    simp only [Nat.mod_eq_of_lt h, Nat.add_comm 1]
  · refine (pad_apply_of_not_inside (s := S2047x256) (t := S2048x256) ![0, 0] ![1, 0] ![0, 0] _ _ _ _ i 0 (by simp; omega)).trans ?_
    pointwise [val_main_cst_6, up]
    rw [if_neg h, mul_zero]

theorem v51 (i : S2048x256.Idx) : val_main_v51 (F := Ideal) x0 x1 x2 i = x1 (ix2 (0 : Fin 3) (i 1)) * up 2 (val_main_v25 (F := Ideal) x0 x2) i := by
  unfold val_main_v51 val_main_v50 val_main_v45
  generalize val_main_v25 (F := Ideal) x0 x2 = d
  by_cases h : (i 0).val + 2 < 2048
  · refine (pad_apply_of_inside (s := S2046x256) (t := S2048x256) ![0, 0] ![2, 0] ![0, 0] _ _ _ _ i (ix2 (⟨(i 0).val, by omega⟩ : Fin 2046) (i 1))
      (by intro a; fin_cases a <;> simp)).trans ?_
    pointwise [val_main_v44, val_main_v4, up]
    rw [if_pos h]
    simp only [Nat.mod_eq_of_lt h, Nat.add_comm 2]
  · refine (pad_apply_of_not_inside (s := S2046x256) (t := S2048x256) ![0, 0] ![2, 0] ![0, 0] _ _ _ _ i 0 (by simp; omega)).trans ?_
    pointwise [val_main_cst_9, up]
    rw [if_neg h, mul_zero]

theorem v52 : val_main_v52 (F := Ideal) x0 x1 x2 = taps_up x1 (had (cols 256 768 (by norm_num) x2) (cols 256 1536 (by norm_num) x0)) := by
  funext i
  rw [val_main_v52_apply, val_main_v41_apply, val_main_v28_apply, v40, v51, ← v25]
  pointwise [val_main_v27, val_main_v19, taps_up]

theorem v56 : val_main_v56 (F := Ideal) x0 x1 x2 = had (taps_up x1 (had (cols 256 768 (by norm_num) x2) (cols 256 1536 (by norm_num) x0)))
    (cols 256 2048 (by norm_num) x0) := by
  unfold val_main_v56
  rw [v52, v2]
  rfl

theorem v55 : val_main_v55 (F := Ideal) x0 x1 x2 = had (taps_up x1 (had (cols 256 768 (by norm_num) x2) (cols 256 1536 (by norm_num) x0)))
    (cols 256 1792 (by norm_num) x0) := by
  unfold val_main_v55
  rw [v52, v1]
  funext i
  exact mul_comm (G := EReal) _ _

/-- A row padded to three, at the row itself. -/
theorem pad_in (lo hi : Fin S1x256.rank → ℕ) (x : FVec Ideal S1x256 .f32) (v : FVec Ideal S_ .f32) (h : S1x256.Pads lo hi ![0, 0] S3x256) (j : S3x256.Idx)
    (h0 : (j 0).val = lo 0) (h1 : lo 1 = 0) : pad S3x256 lo hi ![0, 0] x v h h_S_ j = x (ix2 (0 : Fin 1) (j 1)) := by
  refine pad_apply_of_inside (s := S1x256) (t := S3x256) lo hi ![0, 0] x v h h_S_ j (ix2 (0 : Fin 1) (j 1)) fun a => ?_
  fin_cases a
  · simpa using h0
  · simp [h1]

/-- A row padded to three, at the other rows. -/
theorem pad_out (lo hi : Fin S1x256.rank → ℕ) (x : FVec Ideal S1x256 .f32) (v : FVec Ideal S_ .f32) (h : S1x256.Pads lo hi ![0, 0] S3x256) (j : S3x256.Idx)
    (h0 : (j 0).val ≠ lo 0) : pad S3x256 lo hi ![0, 0] x v h h_S_ j = v (Shape.Idx.first h_S_) := by
  refine pad_apply_of_not_inside (s := S1x256) (t := S3x256) lo hi ![0, 0] x v h h_S_ j 0 fun ⟨a, _, b⟩ => h0 ?_
  simp at a b
  omega

theorem v48 (j : S1x256.Idx) : val_main_v48 (F := Ideal) x0 x2 j =
    ∑ k : Fin 2048, val_main_v25 (F := Ideal) x0 x2 (ix2 k (j 1)) * down 2 (val_main_v3 (F := Ideal) x0) (ix2 k (j 1)) := by
  unfold val_main_v48 val_main_v47 val_main_v46
  rw [v7]
  pointwise [val_main_cst_8]

theorem v37 (j : S1x256.Idx) : val_main_v37 (F := Ideal) x0 x2 j =
    ∑ k : Fin 2048, val_main_v25 (F := Ideal) x0 x2 (ix2 k (j 1)) * down 1 (val_main_v3 (F := Ideal) x0) (ix2 k (j 1)) := by
  unfold val_main_v37 val_main_v36 val_main_v35
  rw [v14]
  pointwise [val_main_cst_5]

theorem v31 (j : S1x256.Idx) : val_main_v31 (F := Ideal) x0 x2 j =
    ∑ k : Fin 2048, val_main_v25 (F := Ideal) x0 x2 (ix2 k (j 1)) * val_main_v3 (F := Ideal) x0 (ix2 k (j 1)) := by
  unfold val_main_v31 val_main_v30 val_main_v29
  pointwise [val_main_cst_3]

theorem v54 : val_main_v54 (F := Ideal) x0 x2 = wgrad (had (cols 256 768 (by norm_num) x2) (cols 256 1536 (by norm_num) x0))
    (had (cols 256 1792 (by norm_num) x0) (cols 256 2048 (by norm_num) x0)) := by
  funext j
  have z4 : ∀ s, val_main_cst_4 (F := Ideal) s = 0 := fun s => by pointwise [val_main_cst_4]
  have z7 : ∀ s, val_main_cst_7 (F := Ideal) s = 0 := fun s => by pointwise [val_main_cst_7]
  have z10 : ∀ s, val_main_cst_10 (F := Ideal) s = 0 := fun s => by pointwise [val_main_cst_10]
  have b : (j 0).val < 3 := (j 0).isLt
  rw [val_main_v54_apply, val_main_v43_apply, ← v25, ← v3]
  unfold val_main_v53 val_main_v42 val_main_v32 wgrad
  by_cases h0 : (j 0).val = 0
  · rw [if_pos h0, pad_out ![2, 0] ![0, 0] _ _ _ j (by simp; omega), pad_out ![1, 0] ![1, 0] _ _ _ j (by simp; omega),
      pad_in ![0, 0] ![2, 0] _ _ _ j (by simp; omega) rfl, z4, z7, v48]
    pointwise
  by_cases h1 : (j 0).val = 1
  · rw [if_neg h0, if_pos h1, pad_out ![2, 0] ![0, 0] _ _ _ j (by simp; omega), pad_in ![1, 0] ![1, 0] _ _ _ j (by simp; omega) rfl,
      pad_out ![0, 0] ![2, 0] _ _ _ j (by simp; omega), z4, z10, v37]
    pointwise
  · rw [if_neg h0, if_neg h1, pad_in ![2, 0] ![0, 0] _ _ _ j (by simp; omega) rfl, pad_out ![1, 0] ![1, 0] _ _ _ j (by simp; omega),
      pad_out ![0, 0] ![2, 0] _ _ _ j (by simp; omega), z7, z10, v31]
    pointwise

end Cert.Reference5Ideal.Conv

end
-- ==== Proof.Norms.lean ====
/-
  The root-mean-square norm of a matrix's rows, over the real numbers and the two infinities.
-/
module

public import proofs.«01_k».proof.Proof.Mats

@[expose] public section

noncomputable section

namespace Cert.Norms

open Idealize.ShloMosaic Cert.Mats

/-- The mean of a row's squares and a small constant, under the inverse square root; `w` is the row's length. -/
def rstd {A W : ℕ} (w : EReal) (x : M A W) (a : Fin A) : EReal :=
  Ideal.rsqrt (Ideal.div (∑ k : Fin W, x (ix2 a k) * x (ix2 a k)) w + Ideal.ofBits .f32 0x358637BD#32)

/-- The rows scaled by their inverse root mean square, and the columns by the gains `g`. -/
def rms {A W : ℕ} (w : EReal) (x : M A W) (g : M 1 W) : M A W := fun i => x i * rstd w x (i 0) * g (ix2 0 (i 1))

/-- The lengths of the rows. -/
abbrev w1024 : EReal := Ideal.ofBits .f32 0x44800000#32
abbrev w384 : EReal := Ideal.ofBits .f32 0x43C00000#32
abbrev w256 : EReal := Ideal.ofBits .f32 0x43800000#32

/-- A matrix and half of another. -/
def halfway {A B : ℕ} (x y : M A B) : M A B := fun i => x i + Ideal.ofBits .f32 0x3F000000#32 * y i

end Cert.Norms

end
-- ==== Proof.Norm.lean ====
/-
  The forward norms' calls, each over arrays.
-/
module

public import proofs.«01_k».proof.Proof.Gen.Kernel6Ideal.Frame
public import proofs.«01_k».proof.Proof.Norms
public import Idealize.ShloMosaic.Lib.Pipeline.ValueKit

@[expose] public section

set_option maxRecDepth 16384

noncomputable section

namespace Cert.Kernel6Ideal.Norm

open Cert.Kernel6Ideal Cert.Kernel6Ideal.Gen Idealize.ShloMosaic Idealize.ShloMosaic.TcCoe Idealize.SL.Sem Cert.Mats Cert.Norms

/-- A matrix and one times another. -/
def whole {A B : ℕ} (x y : M A B) : M A B := fun i => x i + Ideal.ofBits .f32 0x3F800000#32 * y i

theorem whole_eq {A B : ℕ} (x y : M A B) : whole x y = plus x y := by
  funext i
  have h : Ideal.ofBits .f32 0x3F800000#32 = ((1 : ℝ) : EReal) := one
  unfold whole plus
  rw [h, EReal.coe_one, one_mul]

variable (V : (c : Dev nD) → (b : Ref sig .tc) → Buf (Elt Ideal) ((c : Thread nD τ).loc b)) (c : Dev nD)

theorem idx0 : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- A matrix's norm. -/
theorem norm0 : (dat0 V c).arrAt 2 cfg0.N = rms w1024 (V c main_arg0) (V c main_arg2) := by
  refine (dat0 V c).arrAt_eq_of_covers 2 _ (by decide +kernel) fun t _ y => ?_
  blk_simp
  rw [after0_2]; frame_out
  pointwise [k0_pay1, rms, rstd]
  blk_point [iblk0, idx0 t]

theorem idx1 : ∀ t : Fin cfg1.N, win1_0.index t = ![(grid1.coords t 0).val, 0]
    ∧ win1_1.index t = ![0, 0]
    ∧ win1_2.index t = ![(grid1.coords t 0).val, 0] :=
  (by decide +kernel : ∀ t : Fin grid1.N, _)

/-- A matrix's norm. -/
theorem norm1 : (dat1 V c).arrAt 2 cfg1.N = rms w384 (V c main_arg4) (V c main_arg5) := by
  refine (dat1 V c).arrAt_eq_of_covers 2 _ (by decide +kernel) fun t _ y => ?_
  blk_simp
  rw [after1_2]; frame_out
  pointwise [k1_pay1, rms, rstd]
  blk_point [iblk1, idx1 t]

theorem idx2 : ∀ t : Fin cfg2.N, win2_0.index t = ![(grid2.coords t 0).val, 0]
    ∧ win2_1.index t = ![0, 0]
    ∧ win2_2.index t = ![(grid2.coords t 0).val, 0] :=
  (by decide +kernel : ∀ t : Fin grid2.N, _)

/-- A matrix's norm. -/
theorem norm2 : (dat2 V c).arrAt 2 cfg2.N = rms w256 (V c main_arg6) (V c main_arg7) := by
  refine (dat2 V c).arrAt_eq_of_covers 2 _ (by decide +kernel) fun t _ y => ?_
  blk_simp
  rw [after2_2]; frame_out
  pointwise [k2_pay1, rms, rstd]
  blk_point [iblk2, idx2 t]

theorem idx3 : ∀ t : Fin cfg3.N, win3_0.index t = ![(grid3.coords t 0).val, 0]
    ∧ win3_1.index t = ![(grid3.coords t 0).val, 0]
    ∧ win3_2.index t = ![0, 0]
    ∧ win3_3.index t = ![0, 0]
    ∧ win3_4.index t = ![(grid3.coords t 0).val, 0]
    ∧ win3_5.index t = ![(grid3.coords t 0).val, 0] :=
  (by decide +kernel : ∀ t : Fin grid3.N, _)

/-- The next norm. -/
theorem resid3 : (dat3 V c).arrAt 4 cfg3.N = halfway (V c main_arg0) (rms w1024 (V c main_arg1) (V c main_arg2)) := by
  refine (dat3 V c).arrAt_eq_of_covers 4 _ (by decide +kernel) fun t _ y => ?_
  blk_simp
  rw [after3_4]; frame_out
  pointwise [k3_pay1, halfway, rms, rstd]
  blk_point [iblk3, idx3 t]

/-- The next norm. -/
theorem next3 : (dat3 V c).arrAt 5 cfg3.N = rms w1024 (halfway (V c main_arg0) (rms w1024 (V c main_arg1) (V c main_arg2))) (V c main_arg3) := by
  refine (dat3 V c).arrAt_eq_of_covers 5 _ (by decide +kernel) fun t _ y => ?_
  blk_simp
  rw [after3_5]; frame_out
  pointwise [k3_pay1, k3_pay2, halfway, rms, rstd]
  blk_point [iblk3, idx3 t]

theorem idx4 : ∀ t : Fin cfg4.N, win4_0.index t = ![(grid4.coords t 0).val, 0]
    ∧ win4_1.index t = ![(grid4.coords t 0).val, 0]
    ∧ win4_2.index t = ![0, 0]
    ∧ win4_3.index t = ![0, 0]
    ∧ win4_4.index t = ![(grid4.coords t 0).val, 0]
    ∧ win4_5.index t = ![(grid4.coords t 0).val, 0] :=
  (by decide +kernel : ∀ t : Fin grid4.N, _)

/-- The next norm. -/
theorem resid4 : (dat4 V c).arrAt 4 cfg4.N = whole (V c main_arg0) (rms w1024 (V c main_arg1) (V c main_arg2)) := by
  refine (dat4 V c).arrAt_eq_of_covers 4 _ (by decide +kernel) fun t _ y => ?_
  blk_simp
  rw [after4_4]; frame_out
  pointwise [k4_pay1, whole, rms, rstd]
  blk_point [iblk4, idx4 t]

/-- The next norm. -/
theorem next4 : (dat4 V c).arrAt 5 cfg4.N = rms w1024 (whole (V c main_arg0) (rms w1024 (V c main_arg1) (V c main_arg2))) (V c main_arg3) := by
  refine (dat4 V c).arrAt_eq_of_covers 5 _ (by decide +kernel) fun t _ y => ?_
  blk_simp
  rw [after4_5]; frame_out
  pointwise [k4_pay1, k4_pay2, whole, rms, rstd]
  blk_point [iblk4, idx4 t]

theorem idx5 : ∀ t : Fin cfg5.N, win5_0.index t = ![(grid5.coords t 0).val, 0]
    ∧ win5_1.index t = ![(grid5.coords t 0).val, 0]
    ∧ win5_2.index t = ![0, 0]
    ∧ win5_3.index t = ![(grid5.coords t 0).val, 0] :=
  (by decide +kernel : ∀ t : Fin grid5.N, _)

/-- The next norm. -/
theorem resid5 : (dat5 V c).arrAt 3 cfg5.N = whole (V c main_arg0) (rms w1024 (V c main_arg1) (V c main_arg2)) := by
  refine (dat5 V c).arrAt_eq_of_covers 3 _ (by decide +kernel) fun t _ y => ?_
  blk_simp
  rw [after5_3]; frame_out
  pointwise [k5_pay1, whole, rms, rstd]
  blk_point [iblk5, idx5 t]

end Cert.Kernel6Ideal.Norm

end
-- ==== Proof.NormRun.lean ====
/-
  The forward norms' run: what each result holds after the last call.
-/
module

public import proofs.«01_k».proof.Proof.Norm

@[expose] public section

set_option maxRecDepth 16384

noncomputable section

namespace Cert.Kernel6Ideal.Norm

open Cert.Kernel6Ideal Cert.Kernel6Ideal.Gen Idealize.ShloMosaic Idealize.ShloMosaic.TcCoe Idealize.SL.Sem Cert.Mats Cert.Norms
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg) (c : Dev nD)

theorem end_h : W6 m ρ c (Proc.devRef .tc main_v0) =
    rms w1024 (m (c.tc.loc main_arg0)) (m (c.tc.loc main_arg2)) := by
  rw [W6_of m ρ c main_v0 (by decide +kernel),
    W5_of m ρ c main_v0 (by decide +kernel),
    W4_of m ρ c main_v0 (by decide +kernel),
    W3_of m ρ c main_v0 (by decide +kernel),
    W2_of m ρ c main_v0 (by decide +kernel)]
  refine (W1_arr m ρ c 2).trans ((norm0 (V0 m ρ) c).trans ?_)
  show rms w1024 (W0 m ρ c (Proc.devRef .tc main_arg0)) (W0 m ρ c (Proc.devRef .tc main_arg2)) = _
  rw [W0_args m ρ c main_arg0 (by decide), W0_args m ρ c main_arg2 (by decide)]

theorem end_q : W6 m ρ c (Proc.devRef .tc main_v1) =
    rms w384 (m (c.tc.loc main_arg4)) (m (c.tc.loc main_arg5)) := by
  rw [W6_of m ρ c main_v1 (by decide +kernel),
    W5_of m ρ c main_v1 (by decide +kernel),
    W4_of m ρ c main_v1 (by decide +kernel),
    W3_of m ρ c main_v1 (by decide +kernel)]
  refine (W2_arr m ρ c 2).trans ((norm1 (V1 m ρ) c).trans ?_)
  show rms w384 (W1 m ρ c (Proc.devRef .tc main_arg4)) (W1 m ρ c (Proc.devRef .tc main_arg5)) = _
  rw [W1_args m ρ c main_arg4 (by decide), W1_args m ρ c main_arg5 (by decide)]

theorem end_kv : W6 m ρ c (Proc.devRef .tc main_v2) =
    rms w256 (m (c.tc.loc main_arg6)) (m (c.tc.loc main_arg7)) := by
  rw [W6_of m ρ c main_v2 (by decide +kernel),
    W5_of m ρ c main_v2 (by decide +kernel),
    W4_of m ρ c main_v2 (by decide +kernel)]
  refine (W3_arr m ρ c 2).trans ((norm2 (V2 m ρ) c).trans ?_)
  show rms w256 (W2 m ρ c (Proc.devRef .tc main_arg6)) (W2 m ρ c (Proc.devRef .tc main_arg7)) = _
  rw [W2_args m ρ c main_arg6 (by decide), W2_args m ρ c main_arg7 (by decide)]

theorem end_x1 : W6 m ρ c (Proc.devRef .tc main_v3_0) =
    halfway (m (c.tc.loc main_arg0)) (rms w1024 (m (c.tc.loc main_arg1)) (m (c.tc.loc main_arg2))) := by
  rw [W6_of m ρ c main_v3_0 (by decide +kernel),
    W5_of m ρ c main_v3_0 (by decide +kernel)]
  refine (W4_arr m ρ c 4).trans ((resid3 (V3 m ρ) c).trans ?_)
  show halfway (W3 m ρ c (Proc.devRef .tc main_arg0)) (rms w1024 (W3 m ρ c (Proc.devRef .tc main_arg1)) (W3 m ρ c (Proc.devRef .tc main_arg2))) = _
  rw [W3_args m ρ c main_arg0 (by decide), W3_args m ρ c main_arg1 (by decide), W3_args m ρ c main_arg2 (by decide)]

theorem end_h1 : W6 m ρ c (Proc.devRef .tc main_v3_1) =
    rms w1024 (halfway (m (c.tc.loc main_arg0)) (rms w1024 (m (c.tc.loc main_arg1)) (m (c.tc.loc main_arg2)))) (m (c.tc.loc main_arg3)) := by
  rw [W6_of m ρ c main_v3_1 (by decide +kernel),
    W5_of m ρ c main_v3_1 (by decide +kernel)]
  refine (W4_arr m ρ c 5).trans ((next3 (V3 m ρ) c).trans ?_)
  show rms w1024 (halfway (W3 m ρ c (Proc.devRef .tc main_arg0))
      (rms w1024 (W3 m ρ c (Proc.devRef .tc main_arg1)) (W3 m ρ c (Proc.devRef .tc main_arg2)))) (W3 m ρ c (Proc.devRef .tc main_arg3)) = _
  rw [W3_args m ρ c main_arg0 (by decide), W3_args m ρ c main_arg1 (by decide), W3_args m ρ c main_arg2 (by decide),
    W3_args m ρ c main_arg3 (by decide)]

theorem end_x2 : W6 m ρ c (Proc.devRef .tc main_v4_0) =
    plus (m (c.tc.loc main_arg0)) (rms w1024 (m (c.tc.loc main_arg1)) (m (c.tc.loc main_arg2))) := by
  rw [W6_of m ρ c main_v4_0 (by decide +kernel)]
  refine (W5_arr m ρ c 4).trans ((resid4 (V4 m ρ) c).trans ?_)
  show whole (W4 m ρ c (Proc.devRef .tc main_arg0)) (rms w1024 (W4 m ρ c (Proc.devRef .tc main_arg1)) (W4 m ρ c (Proc.devRef .tc main_arg2))) = _
  rw [whole_eq, W4_args m ρ c main_arg0 (by decide), W4_args m ρ c main_arg1 (by decide), W4_args m ρ c main_arg2 (by decide)]

theorem end_h2 : W6 m ρ c (Proc.devRef .tc main_v4_1) =
    rms w1024 (plus (m (c.tc.loc main_arg0)) (rms w1024 (m (c.tc.loc main_arg1)) (m (c.tc.loc main_arg2)))) (m (c.tc.loc main_arg3)) := by
  rw [W6_of m ρ c main_v4_1 (by decide +kernel)]
  refine (W5_arr m ρ c 5).trans ((next4 (V4 m ρ) c).trans ?_)
  show rms w1024 (whole (W4 m ρ c (Proc.devRef .tc main_arg0))
      (rms w1024 (W4 m ρ c (Proc.devRef .tc main_arg1)) (W4 m ρ c (Proc.devRef .tc main_arg2)))) (W4 m ρ c (Proc.devRef .tc main_arg3)) = _
  rw [whole_eq, W4_args m ρ c main_arg0 (by decide), W4_args m ρ c main_arg1 (by decide), W4_args m ρ c main_arg2 (by decide),
    W4_args m ρ c main_arg3 (by decide)]

theorem end_x3 : W6 m ρ c (Proc.devRef .tc main_v5) =
    plus (m (c.tc.loc main_arg0)) (rms w1024 (m (c.tc.loc main_arg1)) (m (c.tc.loc main_arg2))) := by
  refine (W6_arr m ρ c 3).trans ((resid5 (V5 m ρ) c).trans ?_)
  show whole (W5 m ρ c (Proc.devRef .tc main_arg0)) (rms w1024 (W5 m ρ c (Proc.devRef .tc main_arg1)) (W5 m ρ c (Proc.devRef .tc main_arg2))) = _
  rw [whole_eq, W5_args m ρ c main_arg0 (by decide), W5_args m ρ c main_arg1 (by decide), W5_args m ρ c main_arg2 (by decide)]

local notation "𝕄" => MT nD τ sig Unit (Elt Ideal) ℕ (UR sig nD τ) ℕ

set_option backward.isDefEq.respectTransparency.types false in
/-- The run: the norms and the residuals, and the arguments as they were. -/
theorem run : θ_run defs (onTc (τ := τ) (main (F := Ideal))) ⟨m, fun _ => 0, ρ⟩ (fun r => ∀ c : Dev nD,
      r.2.mem ((c.tc : Thread nD τ).loc main_v0) = rms w1024 (m (c.tc.loc main_arg0)) (m (c.tc.loc main_arg2))
      ∧ r.2.mem ((c.tc : Thread nD τ).loc main_v1) = rms w384 (m (c.tc.loc main_arg4)) (m (c.tc.loc main_arg5))
      ∧ r.2.mem ((c.tc : Thread nD τ).loc main_v2) = rms w256 (m (c.tc.loc main_arg6)) (m (c.tc.loc main_arg7))
      ∧ r.2.mem ((c.tc : Thread nD τ).loc main_v3_0) = halfway (m (c.tc.loc main_arg0)) (rms w1024 (m (c.tc.loc main_arg1)) (m (c.tc.loc main_arg2)))
      ∧ r.2.mem ((c.tc : Thread nD τ).loc main_v3_1) =
        rms w1024 (halfway (m (c.tc.loc main_arg0)) (rms w1024 (m (c.tc.loc main_arg1)) (m (c.tc.loc main_arg2)))) (m (c.tc.loc main_arg3))
      ∧ r.2.mem ((c.tc : Thread nD τ).loc main_v4_0) = plus (m (c.tc.loc main_arg0)) (rms w1024 (m (c.tc.loc main_arg1)) (m (c.tc.loc main_arg2)))
      ∧ r.2.mem ((c.tc : Thread nD τ).loc main_v4_1) =
        rms w1024 (plus (m (c.tc.loc main_arg0)) (rms w1024 (m (c.tc.loc main_arg1)) (m (c.tc.loc main_arg2)))) (m (c.tc.loc main_arg3))
      ∧ r.2.mem ((c.tc : Thread nD τ).loc main_v5) = plus (m (c.tc.loc main_arg0)) (rms w1024 (m (c.tc.loc main_arg1)) (m (c.tc.loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v0 (by decide))).trans (end_h m ρ c),
       (h c _ (mem_uc main_v1 (by decide))).trans (end_q m ρ c),
       (h c _ (mem_uc main_v2 (by decide))).trans (end_kv m ρ c),
       (h c _ (mem_uc main_v3_0 (by decide))).trans (end_x1 m ρ c),
       (h c _ (mem_uc main_v3_1 (by decide))).trans (end_h1 m ρ c),
       (h c _ (mem_uc main_v4_0 (by decide))).trans (end_x2 m ρ c),
       (h c _ (mem_uc main_v4_1 (by decide))).trans (end_h2 m ρ c),
       (h c _ (mem_uc main_v5 (by decide))).trans (end_x3 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Kernel6Ideal.Norm

end
-- ==== Proof.NormRef.lean ====
/-
  The forward norms' reference: each result over its arguments.
-/
module

public import proofs.«01_k».proof.Proof.Norms
public import proofs.«01_k».proof.Proof.Gen.Reference6Ideal.Read

@[expose] public section

set_option maxRecDepth 16384

noncomputable section

namespace Cert.Reference6Ideal.Norm

  open Cert.Reference6Ideal Cert.Reference6Ideal.Gen Cert.Reference6Ideal.Read Idealize.ShloMosaic Idealize.ShloMosaic.TcCoe Idealize.SL.Sem
    Cert.Mats Cert.Norms

variable (x0 x1 : (⟨S2048x1024, .f32⟩ : BufTy).Contents (Elt Ideal)) (x2 x3 : (⟨S1x1024, .f32⟩ : BufTy).Contents (Elt Ideal))
  (x4 : (⟨S2048x384, .f32⟩ : BufTy).Contents (Elt Ideal)) (x5 : (⟨S1x384, .f32⟩ : BufTy).Contents (Elt Ideal))
  (x6 : (⟨S2048x256, .f32⟩ : BufTy).Contents (Elt Ideal)) (x7 : (⟨S1x256, .f32⟩ : BufTy).Contents (Elt Ideal))

/-- A norm. -/
theorem v40 : val_main_v40 (F := Ideal) x0 x2 = rms w1024 x0 x2 := by
  funext i
  pointwise [val_main_v40, val_main_v39, val_main_v38, val_main_v37, val_main_v36, val_main_v35, val_main_v34, val_main_v33, val_main_v32,
    val_main_v31, val_main_v30, val_main_v29, val_main_v28, val_main_cst_6, val_main_cst_7, val_main_cst_8,
    rms, rstd]

/-- A norm. -/
theorem v53 : val_main_v53 (F := Ideal) x4 x5 = rms w384 x4 x5 := by
  funext i
  pointwise [val_main_v53, val_main_v52, val_main_v51, val_main_v50, val_main_v49, val_main_v48, val_main_v47, val_main_v46, val_main_v45,
    val_main_v44, val_main_v43, val_main_v42, val_main_v41, val_main_cst_9, val_main_cst_10, val_main_cst_11,
    rms, rstd]

/-- A norm. -/
theorem v66 : val_main_v66 (F := Ideal) x6 x7 = rms w256 x6 x7 := by
  funext i
  pointwise [val_main_v66, val_main_v65, val_main_v64, val_main_v63, val_main_v62, val_main_v61, val_main_v60, val_main_v59, val_main_v58,
    val_main_v57, val_main_v56, val_main_v55, val_main_v54, val_main_cst_12, val_main_cst_13, val_main_cst_14,
    rms, rstd]

/-- The residual after the norm. -/
theorem v14 : val_main_v14 (F := Ideal) x0 x1 x2 = halfway x0 (rms w1024 x1 x2) := by
  funext i
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2,
    halfway, rms, rstd]

/-- The residual after the norm. -/
theorem v27 : val_main_v27 (F := Ideal) x0 x1 x2 = plus x0 (rms w1024 x1 x2) := by
  funext i
  pointwise [val_main_v27, val_main_v26, val_main_v25, val_main_v24, val_main_v23, val_main_v22, val_main_v21, val_main_v20, val_main_v19,
    val_main_v18, val_main_v17, val_main_v16, val_main_v15, val_main_cst_3, val_main_cst_4, val_main_cst_5,
    plus, rms, rstd]

/-- The next norm. -/
theorem v79 : val_main_v79 (F := Ideal) x0 x1 x2 x3 = rms w1024 (halfway x0 (rms w1024 x1 x2)) x3 := by
  rw [← v14]
  funext i
  pointwise [val_main_v79, val_main_v78, val_main_v77, val_main_v76, val_main_v75, val_main_v74, val_main_v73, val_main_v72, val_main_v71,
    val_main_v70, val_main_v69, val_main_v68, val_main_v67, val_main_cst_15, val_main_cst_16, val_main_cst_17,
    rms, rstd]

/-- The next norm. -/
theorem v92 : val_main_v92 (F := Ideal) x0 x1 x2 x3 = rms w1024 (plus x0 (rms w1024 x1 x2)) x3 := by
  rw [← v27]
  funext i
  pointwise [val_main_v92, val_main_v91, val_main_v90, val_main_v89, val_main_v88, val_main_v87, val_main_v86, val_main_v85, val_main_v84,
    val_main_v83, val_main_v82, val_main_v81, val_main_v80, val_main_cst_18, val_main_cst_19, val_main_cst_20,
    rms, rstd]

end Cert.Reference6Ideal.Norm

end
-- ==== Proof.Block.lean ====
/-
  The text of one key block of the kernel, written once.

  The body handles a key block in the counted loop (no mask) and, written out four times, on the diagonal (with a
  mask).  Here the operations of one block are functions of the block's inputs with an optional mask, per head; the
  run's values are read as applications of these functions elsewhere.
-/
module

public import proofs.«01_k».proof.Proof.Gen.KernelIdeal.Value
public import Idealize.ShloMosaic.Lib.Pipeline.ValueKit

@[expose] public section

set_option maxRecDepth 16384

noncomputable section

namespace Cert.KernelIdeal.SB

open Cert.KernelIdeal Cert.KernelIdeal.Gen Idealize.ShloMosaic Idealize.ShloMosaic.TcCoe Idealize.SL.Sem
open Idealize.ShloMosaic.Pipeline (Dat)

/-- A float block of one query block against one key block, in f32. -/
abbrev T := FVec Ideal S512x128 .f32
/-- The same in bf16. -/
abbrev B := FVec Ideal S512x128 .bf16
/-- A column of per-row values. -/
abbrev C := FVec Ideal S512x1 .f32
/-- A square block of a pair of heads' keys or values, or a triangle of ones. -/
abbrev K := FVec Ideal S128x128 .bf16
/-- A key block of all the heads, as loaded. -/
abbrev L := FVec Ideal S128x256 .f32

/-- Keep a block where the mask holds, zero elsewhere; without a mask keep all. -/
def keep (mk : Option (IVec S512x128 1)) (x : T) : T :=
  match mk with
  | none => x
  | some m => select m x (broadcast S512x128 (Scalar.ofBits .f32 0x00000000#32))

/-- The left and right pair of heads of a key block, cast. -/
def pairK (p : Fin 2) (x : L) : K :=
  match p with
  | 0 => extractStridedSlice S128x128 ![0, 0] (truncf .bf16 x bitsLt_bf16_f32 : FVec Ideal S128x256 .bf16) slices_S128x256_o0_0_S128x128
  | 1 => extractStridedSlice S128x128 ![0, 128] (truncf .bf16 x bitsLt_bf16_f32 : FVec Ideal S128x256 .bf16) slices_S128x256_o0_128_S128x128

/-- Rows times rows: the scores, and the cotangent against the values. -/
def dotNT (q : B) (k : K) : T :=
  matmul dot_S512x128_S128x128_S512x128_1_1_0_0_n_n none q k (constant S512x128 .f32 0x00000000#32)

/-- A block times a square block. -/
def dotNN (x : B) (k : K) : T :=
  matmul dot_S512x128_S128x128_S512x128_1_0_0_1_n_n none x k (constant S512x128 .f32 0x00000000#32)

/-- Columns times columns. -/
def dotTN (x q : B) : FVec Ideal S128x128 .f32 :=
  matmul dot_S512x128_S512x128_S128x128_0_0_1_1_n_n none x q (constant S128x128 .f32 0x00000000#32)

/-- log (1 + exp z), as the kernel computes it. -/
def softp (z : T) : T :=
  addf (maximumf z (broadcast S512x128 (Scalar.ofBits .f32 0x00000000#32)))
    (log (addf (broadcast S512x128 (Scalar.ofBits .f32 0x3F800000#32))
      (exp (subf (broadcast S512x128 (Scalar.ofBits .f32 0x00000000#32)) (absf z)))))

/-- log (1 - beta), masked. -/
def lnot (mk : Option (IVec S512x128 1)) (z : T) : T :=
  keep mk (subf (broadcast S512x128 (Scalar.ofBits .f32 0x00000000#32)) (softp z))

/-- A product by a triangle of ones in two bf16 halves. -/
def exact (x : T) (tri : K) : T :=
  addf (dotNN (truncf .bf16 x bitsLt_bf16_f32) tri)
    (dotNN (truncf .bf16 (subf x (extf .f32 (truncf .bf16 x bitsLt_bf16_f32 : B) bitsLt_bf16_f32)) bitsLt_bf16_f32) tri)

/-- log beta. -/
def lsig (z : T) : T := subf z (softp z)

/-- A column along the row. -/
def bc (x : C) : T := broadcastTo S512x128 x broadcasts_S512x1_S512x128

/-- The attention weights of the block. -/
def wgt (mk : Option (IVec S512x128 1)) (tot head : C) (z : T) : T :=
  keep mk (exp (addf (lsig z) (subf (bc tot) (addf (bc head) (exact (lnot mk z) k0_pay124)))))

/-- Weights times their cotangents. -/
def ev (mk : Option (IVec S512x128 1)) (tot head : C) (z dw : T) : T := mulf (wgt mk tot head z) dw

/-- The gradient of the scores. -/
def dzv (mk : Option (IVec S512x128 1)) (ehead : C) (z e : T) : T :=
  keep mk (subf (mulf e (subf (broadcast S512x128 (Scalar.ofBits .f32 0x3F800000#32)) (exp (lsig z))))
    (mulf (exp (lsig z)) (addf (bc ehead) (exact e k0_pay125))))

/-- A cast to bf16. -/
def half (x : T) : B := truncf .bf16 x bitsLt_bf16_f32

/-- Row sums added to a column. -/
def addRow (a : C) (x : T) : C :=
  addf a (shapeCast S512x1 (multiReduction .add [1] S512 x 0x00000000#32 reduces_S512x128_S512 (.inl rfl) rfl) shapeCasts_S512_S512x1)

/-- The left half of one block beside the right half of another, added to a third. -/
def addHalves (lo : IVec S1x128 1) (a x y : T) : T :=
  addf a (select (broadcastTo S512x128 (shapeCast S1x128 lo shapeCasts_S1x128_S1x128) broadcasts_S1x128_S512x128) x y)

/-- Two pairs of square blocks summed, side by side. -/
def sides (a b c d : FVec Ideal S128x128 .f32) : L :=
  concatenate S128x256 1 [⟨S128x128, addf a b⟩, ⟨S128x128, addf c d⟩] concatenates_S128x128_S128x128_S128x256_d1

/-- Four things by head. -/
def four {α : Type} (a b c d : α) : Fin 4 → α
  | 0 => a
  | 1 => b
  | 2 => c
  | 3 => d

/-- The pair a head lies in. -/
def pr : Fin 4 → Fin 2
  | 0 => 0
  | 1 => 0
  | 2 => 1
  | 3 => 1

/-- What a query block holds fixed: per head the masked queries, the masked cotangents and the row totals. -/
structure Pt where
  qm : Fin 4 → B
  dm : Fin 4 → B
  tot : Fin 4 → C

/-- What is carried from key block to key block. -/
structure Cy where
  hd : Fin 4 → C
  eh : Fin 4 → C
  dq : Fin 2 → T

variable (lo : IVec S1x128 1) (mk : Option (IVec S512x128 1)) (P : Pt) (c : Cy) (kb vb : L)

/-- The scores of head `h`. -/
def zOf (h : Fin 4) : T := dotNT (P.qm h) (pairK (pr h) kb)

/-- The weights of head `h`. -/
def wOf (h : Fin 4) : T := wgt mk (P.tot h) (c.hd h) (zOf P kb h)

/-- Weights times their cotangents, head `h`. -/
def eOf (h : Fin 4) : T := ev mk (P.tot h) (c.hd h) (zOf P kb h) (dotNT (P.dm h) (pairK (pr h) vb))

/-- The gradient of the scores of head `h`. -/
def dzOf (h : Fin 4) : T := dzv mk (c.eh h) (zOf P kb h) (eOf mk P c kb vb h)

/-- What one key block adds to the queries' gradient of a pair, through one head. -/
def dqOf (h : Fin 4) : T := dotNN (half (dzOf mk P c kb vb h)) (pairK (pr h) kb)

/-- The carry after one key block. -/
def step : Cy where
  hd h := addRow (c.hd h) (lnot mk (zOf P kb h))
  eh h := addRow (c.eh h) (eOf mk P c kb vb h)
  dq
    | 0 => addHalves lo (c.dq 0) (dqOf mk P c kb vb 0) (dqOf mk P c kb vb 1)
    | 1 => addHalves lo (c.dq 1) (dqOf mk P c kb vb 2) (dqOf mk P c kb vb 3)

/-- What one key block adds to its keys' gradient, through one head. -/
def dkOf (h : Fin 4) : FVec Ideal S128x128 .f32 := dotTN (half (dzOf mk P c kb vb h)) (P.qm h)

/-- What one key block adds to its values' gradient, through one head. -/
def dvOf (h : Fin 4) : FVec Ideal S128x128 .f32 := dotTN (half (wOf mk P c kb h)) (P.dm h)

/-- What one key block adds to its keys' gradient. -/
def dkInc : L := sides (dkOf mk P c kb vb 0) (dkOf mk P c kb vb 1) (dkOf mk P c kb vb 2) (dkOf mk P c kb vb 3)

/-- What one key block adds to its values' gradient. -/
def dvInc : L := sides (dvOf mk P c kb 0) (dvOf mk P c kb 1) (dvOf mk P c kb 2) (dvOf mk P c kb 3)

/-- The carry as the loop holds it. -/
def tup : C × C × C × C × C × C × C × C × T × T :=
  (c.hd 0, c.hd 1, c.hd 2, c.hd 3, c.eh 0, c.eh 1, c.eh 2, c.eh 3, c.dq 0, c.dq 1)

end Cert.KernelIdeal.SB
-- ==== Proof.Words.lean ====
/-
  The run's values in the words of one key block.

  What a trip of the counted loop yields and writes, and what a grid point's run writes to its three outputs, read as
  applications of the functions of one key block.
-/
module

public import proofs.«01_k».proof.Proof.Block

@[expose] public section
set_option maxRecDepth 16384
noncomputable section
namespace Cert.KernelIdeal.SB
open Cert.KernelIdeal Cert.KernelIdeal.Gen Idealize.ShloMosaic Idealize.ShloMosaic.TcCoe Idealize.SL.Sem
open Idealize.ShloMosaic.Pipeline (Dat)
set_option maxHeartbeats 2000000

/-- What a query block holds fixed, from the values the body holds before its loops. -/
def ptOf (v5 v7 : IVec S1x128 1) (v13 : FVec Ideal S512x256 .bf16) (v15 : FVec Ideal S512x128 .f32) (v20 v25 v30 v35 v40 v41 : B) : Pt where
  qm := four v20 v25 v30 v35
  dm := four v40 (k0_pay117 v7 v41) (k0_pay118 v5 v13) (k0_pay119 v7 v13)
  tot := four (k0_pay120 v15) (k0_pay121 v15) (k0_pay122 v15) (k0_pay123 v15)

/-- Two things by pair. -/
def two {α : Type} (a b : α) : Fin 2 → α
  | 0 => a
  | 1 => b

/-- The tuple the loop carries. -/
abbrev Tup := C × C × C × C × C × C × C × C × T × T

/-- The carry a tuple holds. -/
def cyOf (a : Tup) : Cy where
  hd := four a.1 a.2.1 a.2.2.1 a.2.2.2.1
  eh := four a.2.2.2.2.1 a.2.2.2.2.2.1 a.2.2.2.2.2.2.1 a.2.2.2.2.2.2.2.1
  dq := two a.2.2.2.2.2.2.2.2.1 a.2.2.2.2.2.2.2.2.2

theorem cyOf_tup (c : Cy) : cyOf (tup c) = c := by
  obtain ⟨h, e, d⟩ := c
  simp only [cyOf, tup, Cy.mk.injEq]
  refine ⟨funext fun x => ?_, funext fun x => ?_, funext fun x => ?_⟩ <;> fin_cases x <;> rfl

theorem tripR (𝒱 : Variants) (dv : Dev nD) (bd : Option 𝒱.V) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (arg0 : BitVec 32) (v5 : IVec S1x128 1) (v7 : IVec S1x128 1) (v13 : FVec Ideal S512x256 .bf16) (v15 : FVec Ideal S512x128 .f32) (v20 : FVec Ideal S512x128 .bf16) (v25 : FVec Ideal S512x128 .bf16) (v30 : FVec Ideal S512x128 .bf16) (v35 : FVec Ideal S512x128 .bf16) (v40 : FVec Ideal S512x128 .bf16) (v41 : FVec Ideal S512x128 .bf16) (X_arg2 : BufTy.Contents (Elt Ideal) arg2.view.ty) (X_arg3 : BufTy.Contents (Elt Ideal) arg3.view.ty) (k : Fin (k0_t1_loop i).trips) (a : Tup) (f7) (f8) :
    (trip_k0_t1 (F := Ideal) 𝒱 dv bd i arg1 harg1 arg2 harg2 arg3 harg3 arg4 harg4 arg5 harg5 arg6 harg6 arg7 harg7 arg8 harg8 arg0 v5 v7 v13 v15 v20 v25 v30 v35 v40 v41 X_arg2 X_arg3 k).1 a f7 f8
      = tup (step v5 none (ptOf v5 v7 v13 v15 v20 v25 v30 v35 v40 v41) (cyOf a) (View.readAt (Elt Ideal) arg2.view (Rect.unit (s := S2048x256) (k0_off1 i k) S128x256.size (k0_off1_inb i k)).toLoadRect X_arg2) (View.readAt (Elt Ideal) arg3.view (Rect.unit (s := S2048x256) (k0_off1 i k) S128x256.size (k0_off1_inb i k)).toLoadRect X_arg3)) := by
  unfold trip_k0_t1
  rfl

theorem tripL7 (𝒱 : Variants) (dv : Dev nD) (bd : Option 𝒱.V) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (arg0 : BitVec 32) (v5 : IVec S1x128 1) (v7 : IVec S1x128 1) (v13 : FVec Ideal S512x256 .bf16) (v15 : FVec Ideal S512x128 .f32) (v20 : FVec Ideal S512x128 .bf16) (v25 : FVec Ideal S512x128 .bf16) (v30 : FVec Ideal S512x128 .bf16) (v35 : FVec Ideal S512x128 .bf16) (v40 : FVec Ideal S512x128 .bf16) (v41 : FVec Ideal S512x128 .bf16) (X_arg2 : BufTy.Contents (Elt Ideal) arg2.view.ty) (X_arg3 : BufTy.Contents (Elt Ideal) arg3.view.ty) (k : Fin (k0_t1_loop i).trips) (a : Tup) (f7) (f8) :
    (trip_k0_t1 (F := Ideal) 𝒱 dv bd i arg1 harg1 arg2 harg2 arg3 harg3 arg4 harg4 arg5 harg5 arg6 harg6 arg7 harg7 arg8 harg8 arg0 v5 v7 v13 v15 v20 v25 v30 v35 v40 v41 X_arg2 X_arg3 k).2.1 a f7 f8
      = [⟨(Rect.unit (s := S2048x256) (k0_off1 i k) S128x256.size (k0_off1_inb i k)), addf (shapeCast S128x256 (View.readAt (Elt Ideal) arg7.view (Rect.unit (s := S2048x256) (k0_off1 i k) S128x256.size (k0_off1_inb i k)).toLoadRect f7) shapeCasts_S128x256_S128x256) (dkInc none (ptOf v5 v7 v13 v15 v20 v25 v30 v35 v40 v41) (cyOf a) (View.readAt (Elt Ideal) arg2.view (Rect.unit (s := S2048x256) (k0_off1 i k) S128x256.size (k0_off1_inb i k)).toLoadRect X_arg2) (View.readAt (Elt Ideal) arg3.view (Rect.unit (s := S2048x256) (k0_off1 i k) S128x256.size (k0_off1_inb i k)).toLoadRect X_arg3))⟩] := by
  unfold trip_k0_t1
  rfl

theorem tripL8 (𝒱 : Variants) (dv : Dev nD) (bd : Option 𝒱.V) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (arg0 : BitVec 32) (v5 : IVec S1x128 1) (v7 : IVec S1x128 1) (v13 : FVec Ideal S512x256 .bf16) (v15 : FVec Ideal S512x128 .f32) (v20 : FVec Ideal S512x128 .bf16) (v25 : FVec Ideal S512x128 .bf16) (v30 : FVec Ideal S512x128 .bf16) (v35 : FVec Ideal S512x128 .bf16) (v40 : FVec Ideal S512x128 .bf16) (v41 : FVec Ideal S512x128 .bf16) (X_arg2 : BufTy.Contents (Elt Ideal) arg2.view.ty) (X_arg3 : BufTy.Contents (Elt Ideal) arg3.view.ty) (k : Fin (k0_t1_loop i).trips) (a : Tup) (f7) (f8) :
    (trip_k0_t1 (F := Ideal) 𝒱 dv bd i arg1 harg1 arg2 harg2 arg3 harg3 arg4 harg4 arg5 harg5 arg6 harg6 arg7 harg7 arg8 harg8 arg0 v5 v7 v13 v15 v20 v25 v30 v35 v40 v41 X_arg2 X_arg3 k).2.2.1 a f7 f8
      = [⟨(Rect.unit (s := S2048x256) (k0_off1 i k) S128x256.size (k0_off1_inb i k)), addf (shapeCast S128x256 (View.readAt (Elt Ideal) arg8.view (Rect.unit (s := S2048x256) (k0_off1 i k) S128x256.size (k0_off1_inb i k)).toLoadRect f8) shapeCasts_S128x256_S128x256) (dvInc none (ptOf v5 v7 v13 v15 v20 v25 v30 v35 v40 v41) (cyOf a) (View.readAt (Elt Ideal) arg2.view (Rect.unit (s := S2048x256) (k0_off1 i k) S128x256.size (k0_off1_inb i k)).toLoadRect X_arg2))⟩] := by
  unfold trip_k0_t1
  rfl

/-- What a query block holds fixed, from its input blocks. -/
def ptIn (x0 : Vec Ideal S512x256 .f32) (x3 : Vec Ideal S512x128 .f32) (x4 : Vec Ideal S512x256 .f32) : Pt :=
  ptOf k0_pay106 k0_pay107 (k0_pay109 x4) (k0_pay110 x3) (k0_pay111 x0) (k0_pay112 x0) (k0_pay113 x0) (k0_pay114 x0) (k0_pay115 x4) (k0_pay116 x4)

/-- The tuple the loops start from. -/
def tup0 : Tup := (k0_pay126 (F := Ideal), k0_pay127 (F := Ideal), k0_pay128 (F := Ideal), k0_pay129 (F := Ideal), k0_pay126 (F := Ideal), k0_pay127 (F := Ideal), k0_pay128 (F := Ideal), k0_pay129 (F := Ideal), k0_pay130 (F := Ideal), k0_pay131 (F := Ideal))

/-- The state of the first loop before trip `n`, from given contents of the two accumulated outputs. -/
def S1 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (f7 : BufTy.Contents (Elt Ideal) arg7.view.ty) (f8 : BufTy.Contents (Elt Ideal) arg8.view.ty) (n : ℕ) :=
  st_k0_t1 (F := Ideal) Variants.none dv none i arg1 harg1 arg2 harg2 arg3 harg3 arg4 harg4 arg5 harg5 arg6 harg6 arg7 harg7 arg8 harg8 (BitVec.ofNat 32 (i 0).val) k0_pay106 k0_pay107 (k0_pay109 (View.readAt (Elt Ideal) arg5.view (Rect.unit (s := S512x256) ![0, 0] S512x256.size inb_S512x256_S512x256_0_0).toLoadRect (harg5.unread x4))) (k0_pay110 (View.readAt (Elt Ideal) arg4.view (Rect.unit (s := S512x128) ![0, 0] S512x128.size inb_S512x128_S512x128_0_0).toLoadRect (harg4.unread x3))) (k0_pay111 (View.readAt (Elt Ideal) arg1.view (Rect.unit (s := S512x256) ![0, 0] S512x256.size inb_S512x256_S512x256_0_0).toLoadRect (harg1.unread x0))) (k0_pay112 (View.readAt (Elt Ideal) arg1.view (Rect.unit (s := S512x256) ![0, 0] S512x256.size inb_S512x256_S512x256_0_0).toLoadRect (harg1.unread x0))) (k0_pay113 (View.readAt (Elt Ideal) arg1.view (Rect.unit (s := S512x256) ![0, 0] S512x256.size inb_S512x256_S512x256_0_0).toLoadRect (harg1.unread x0))) (k0_pay114 (View.readAt (Elt Ideal) arg1.view (Rect.unit (s := S512x256) ![0, 0] S512x256.size inb_S512x256_S512x256_0_0).toLoadRect (harg1.unread x0))) (k0_pay115 (View.readAt (Elt Ideal) arg5.view (Rect.unit (s := S512x256) ![0, 0] S512x256.size inb_S512x256_S512x256_0_0).toLoadRect (harg5.unread x4))) (k0_pay116 (View.readAt (Elt Ideal) arg5.view (Rect.unit (s := S512x256) ![0, 0] S512x256.size inb_S512x256_S512x256_0_0).toLoadRect (harg5.unread x4))) (harg2.unread x1) (harg3.unread x2) f7 f8 tup0 n

/-- The mask of the diagonal block at column offset `w`. -/
def dmask (w : BitVec 32) : IVec S512x128 1 :=
  cmpi .slt (addi (iota .tc S512x128 32 [1] iota_S512x128_d1_w32) (broadcast S512x128 w)) (iota .tc S512x128 32 [0] iota_S512x128_d0_w32)

/-- The block of the queries' gradient the point stores. -/
def dqStored (c : Cy) : FVec Ideal S512x256 .f32 :=
  k0_pay1 (concatenate S512x256 1 [⟨S512x128, c.dq 0⟩, ⟨S512x128, c.dq 1⟩] concatenates_S512x128_S512x128_S512x256_d1) (Scalar.ofBits .f32 0x3E000000#32)

/-- A carry is its columns and blocks. -/
theorem cy_eta (c : Cy) : (⟨four (c.hd 0) (c.hd 1) (c.hd 2) (c.hd 3), four (c.eh 0) (c.eh 1) (c.eh 2) (c.eh 3), two (c.dq 0) (c.dq 1)⟩ : Cy) = c := by
  obtain ⟨hd, eh, dq⟩ := c
  have h4 : ∀ f : Fin 4 → C, four (f 0) (f 1) (f 2) (f 3) = f := fun f => funext fun h => by
    match h with
    | 0 => rfl
    | 1 => rfl
    | 2 => rfl
    | 3 => rfl
  have h2 : two (dq 0) (dq 1) = dq := funext fun p => by
    match p with
    | 0 => rfl
    | 1 => rfl
  show (⟨four (hd 0) (hd 1) (hd 2) (hd 3), four (eh 0) (eh 1) (eh 2) (eh 3), two (dq 0) (dq 1)⟩ : Cy) = _
  rw [h4, h4, h2]

end Cert.KernelIdeal.SB
-- ==== Proof.Entries.lean ====
/-
  The operations of one key block, read entry by entry over the real numbers.

  A block "has the entries" of a real table when it agrees with it at every row and column.  Each operation of the
  block's text takes blocks that have real entries to blocks that have the expected real entries.
-/
module

public import proofs.«01_k».proof.Proof.Words
public import Idealize.ShloMosaic.Lib.Pointwise
public import Idealize.ShloMosaic.Lib.WordCmp

@[expose] public section

set_option maxRecDepth 16384

noncomputable section

namespace Cert.KernelIdeal.SB

open Cert.KernelIdeal Cert.KernelIdeal.Gen Idealize.ShloMosaic Idealize.ShloMosaic.TcCoe Idealize.SL.Sem
open Finset (range)

/-- A sum of real entries, taken among the extended reals, is the real sum. -/
theorem sum_ereal {n : ℕ} (f : ℕ → ℝ) (g : Fin n → EReal) (h : ∀ a, g a = ((f a : ℝ) : EReal)) :
    ∑ a, g a = ((∑ a ∈ range n, f a : ℝ) : EReal) := by
  rw [Finset.sum_congr rfl fun a _ => h a, ← Fin.sum_univ_eq_sum_range f n]
  induction (Finset.univ : Finset (Fin n)) using Finset.induction_on with
  | empty => simp
  | insert a s ha ih => rw [Finset.sum_insert ha, Finset.sum_insert ha, ih, EReal.coe_add]

/-- log (1 + exp x) over the reals, in the stable form. -/
def sp (x : ℝ) : ℝ := max x 0 + Real.log (1 + Real.exp (-|x|))

/-- The block has these entries. -/
def HasT {φ : FTy} (x : FVec Ideal S512x128 φ) (f : ℕ → ℕ → ℝ) : Prop :=
  ∀ (r : Fin 512) (c : Fin 128), x (ix2 r c : S512x128.Idx) = ((f r c : ℝ) : EReal)

/-- The column has these entries. -/
def HasC (x : C) (f : ℕ → ℝ) : Prop := ∀ r : Fin 512, x (ix2 r (0 : Fin 1) : S512x1.Idx) = ((f r : ℝ) : EReal)

/-- The square block has these entries. -/
def HasK {φ : FTy} (x : FVec Ideal S128x128 φ) (f : ℕ → ℕ → ℝ) : Prop :=
  ∀ a c : Fin 128, x (ix2 a c : S128x128.Idx) = ((f a c : ℝ) : EReal)

/-- The key block has these entries. -/
def HasL (x : L) (f : ℕ → ℕ → ℝ) : Prop :=
  ∀ (a : Fin 128) (c : Fin 256), x (ix2 a c : S128x256.Idx) = ((f a c : ℝ) : EReal)

theorem has_pairK (p : Fin 2) {x : L} {f : ℕ → ℕ → ℝ} (h : HasL x f) :
    HasK (pairK p x) (fun a l => f a (128 * p + l)) := by
  intro a c
  match p with
  | 0 => pointwise [pairK]; rw [h]
  | 1 => pointwise [pairK]; rw [h]

theorem has_dotNT {x : B} {y : K} {f g : ℕ → ℕ → ℝ} (hx : HasT x f) (hy : HasK y g) :
    HasT (dotNT x y) (fun r c => ∑ l ∈ range 128, f r l * g c l) := by
  intro r c
  pointwise [dotNT]
  exact sum_ereal (fun l => f r l * g c l) _ fun l => by rw [hx, hy, EReal.coe_mul]

theorem has_dotNN {x : B} {y : K} {f g : ℕ → ℕ → ℝ} (hx : HasT x f) (hy : HasK y g) :
    HasT (dotNN x y) (fun r c => ∑ l ∈ range 128, f r l * g l c) := by
  intro r c
  pointwise [dotNN]
  exact sum_ereal (fun l => f r l * g l c) _ fun l => by rw [hx, hy, EReal.coe_mul]

theorem has_dotTN {x y : B} {f g : ℕ → ℕ → ℝ} (hx : HasT x f) (hy : HasT y g) :
    HasK (dotTN x y) (fun a c => ∑ r ∈ range 512, f r a * g r c) := by
  intro a c
  pointwise [dotTN]
  exact sum_ereal (fun r => f r a * g r c) _ fun r => by rw [hx, hy, EReal.coe_mul]

theorem max_ereal (x y : ℝ) : max (x : EReal) (y : EReal) = ((max x y : ℝ) : EReal) :=
  (EReal.coe_strictMono.monotone.map_max).symm

/-- The scalar softplus of a real number. -/
theorem softp_coe (x : ℝ) : max (x : EReal) 0 + Ideal.log (1 + Ideal.exp (0 - FloatOps.absf (F := Ideal) (φ := .f32) (x : EReal))) = ((sp x : ℝ) : EReal) := by
  have ha : FloatOps.absf (F := Ideal) (φ := .f32) (x : EReal) = ((|x| : ℝ) : EReal) := by
    show max (x : EReal) (-(x : EReal)) = _
    rw [← EReal.coe_neg, max_ereal]; rfl
  rw [ha, zero_sub, ← EReal.coe_neg, Ideal.exp_coe, ← EReal.coe_one, ← EReal.coe_add, Ideal.log_coe,
    if_neg (not_le.2 (by positivity)), ← EReal.coe_zero, max_ereal, ← EReal.coe_add]
  rfl

/-- A comparison of small words, as a bit. -/
theorem lt_bit {a b : ℕ} (ha : a < 2 ^ 31) (hb : b < 2 ^ 31) :
    IntOp.cmpi .slt (BitVec.ofNat 32 a) (BitVec.ofNat 32 b) = BitVec.ofBool (decide (a < b)) := by
  word_cmp

theorem select_bit {α : Type} (p : Prop) [Decidable p] (x y : α) :
    Scalar.select (BitVec.ofBool (decide p)) x y = if p then x else y := by
  by_cases h : p <;> simp [Scalar.select, h]

theorem has_softp {x : T} {f : ℕ → ℕ → ℝ} (hx : HasT x f) : HasT (softp x) (fun r c => sp (f r c)) := by
  intro r c
  pointwise [softp]
  rw [hx]
  exact softp_coe _

theorem has_keep {mk : Option (IVec S512x128 1)} {M : ℕ → ℕ → Prop} [∀ r c, Decidable (M r c)]
    (hm : ∀ (x : T) (r : Fin 512) (c : Fin 128), keep mk x (ix2 r c : S512x128.Idx) = if M r c then x (ix2 r c : S512x128.Idx) else 0)
    {x : T} {f : ℕ → ℕ → ℝ} (hx : HasT x f) : HasT (keep mk x) (fun r c => if M r c then f r c else 0) := by
  intro r c
  rw [hm]
  show _ = (((if M r c then f r c else 0 : ℝ)) : EReal)
  split_ifs
  · exact hx r c
  · rfl

theorem has_bc {x : C} {f : ℕ → ℝ} (hx : HasC x f) : HasT (bc x) (fun r _ => f r) := by
  intro r c
  pointwise [bc]
  exact hx r

theorem has_addRow {x : C} {y : T} {f : ℕ → ℝ} {g : ℕ → ℕ → ℝ} (hx : HasC x f) (hy : HasT y g) :
    HasC (addRow x y) (fun r => f r + ∑ c ∈ range 128, g r c) := by
  intro r
  pointwise [addRow]
  rw [hx, sum_ereal (fun c => g r c) _ fun c => hy r c, EReal.coe_add]

theorem has_exact {x : T} {y : K} {f g : ℕ → ℕ → ℝ} (hx : HasT x f) (hy : HasK y g) :
    HasT (exact x y) (fun r c => ∑ l ∈ range 128, f r l * g l c) := by
  have h1 : HasT (dotNN (truncf .bf16 x bitsLt_bf16_f32) y) (fun r c => ∑ l ∈ range 128, f r l * g l c) :=
    has_dotNN (fun r c => by pointwise; exact hx r c) hy
  have h2 : HasT (dotNN (truncf .bf16 (subf x (extf .f32 (truncf .bf16 x bitsLt_bf16_f32 : B) bitsLt_bf16_f32)) bitsLt_bf16_f32) y)
      (fun r c => ∑ l ∈ range 128, (0 : ℝ) * g l c) :=
    has_dotNN (f := fun _ _ => 0) (fun r c => by pointwise; rw [hx]; rw [← EReal.coe_sub]; simp) hy
  intro r c
  pointwise [exact]
  rw [h1, h2]
  simp

theorem sitofp_one : FloatOps.sitofp (F := Ideal) FTy.f32 1#32 = (1 : EReal) := by
  show (((1#32 : BitVec 32).toInt : ℝ) : EReal) = 1
  rw [show (1#32 : BitVec 32).toInt = 1 by decide]; simp

theorem sitofp_none : FloatOps.sitofp (F := Ideal) FTy.f32 0#32 = (0 : EReal) := by
  show (((0#32 : BitVec 32).toInt : ℝ) : EReal) = 0
  rw [show (0#32 : BitVec 32).toInt = 0 by decide]; simp

theorem has_upto : HasK (k0_pay124 : K) (fun a c => if a ≤ c then 1 else 0) := by
  intro a c
  pointwise [k0_pay124]
  rw [show IntOp.cmpi .sle (BitVec.ofNat 32 (a : ℕ)) (BitVec.ofNat 32 (c : ℕ)) = BitVec.ofBool (decide ((a : ℕ) ≤ c)) by word_cmp]
  by_cases h : (a : ℕ) ≤ c <;> simp [h, sitofp_one, sitofp_none]

theorem has_before : HasK (k0_pay125 : K) (fun a c => if a < c then 1 else 0) := by
  intro a c
  pointwise [k0_pay125]
  rw [lt_bit (by omega) (by omega)]
  by_cases h : (a : ℕ) < c <;> simp [h, sitofp_one, sitofp_none]

theorem has_addHalves {x y z : T} {f g h : ℕ → ℕ → ℝ} (hx : HasT x f) (hy : HasT y g) (hz : HasT z h) :
    HasT (addHalves k0_pay106 x y z) (fun r l => f r l + if l < 64 then g r l else h r l) := by
  intro r c
  pointwise [addHalves, k0_pay106]
  rw [lt_bit (by omega) (by norm_num), select_bit, hx, hy, hz]
  split_ifs <;> rw [EReal.coe_add]

theorem has_sides {x y z w : FVec Ideal S128x128 .f32} {f g h k : ℕ → ℕ → ℝ} (hx : HasK x f) (hy : HasK y g) (hz : HasK z h) (hw : HasK w k) :
    HasL (sides x y z w) (fun a l => if l < 128 then f a l + g a l else h a (l - 128) + k a (l - 128)) := by
  intro a c
  pointwise [sides]
  by_cases hc : (c : ℕ) < 128
  · rw [dif_pos hc, if_pos hc, hx, hy, EReal.coe_add]
  · rw [dif_neg hc, if_neg hc, hz, hw, EReal.coe_add]

theorem keep_dmask (n : ℕ) (hn : n ≤ 384) (x : T) (r : Fin 512) (c : Fin 128) :
    keep (some (dmask (BitVec.ofNat 32 n))) x (ix2 r c : S512x128.Idx) = if (c : ℕ) + n < r then x (ix2 r c : S512x128.Idx) else 0 := by
  pointwise [keep, dmask]
  rw [show IntOp.addi (BitVec.ofNat 32 (c : ℕ)) (BitVec.ofNat 32 n) = BitVec.ofNat 32 ((c : ℕ) + n) from (BitVec.ofNat_add _ _).symm,
    lt_bit (by omega) (by omega), select_bit]

end Cert.KernelIdeal.SB
-- ==== Proof.Step.lean ====
/-
  One key block of the kernel over the real numbers.

  The scores, weights and gradients of the stick-breaking attention as real sums, and what one key block makes of a
  carry that holds the sums over all the earlier keys: the sums over one block more.
-/
module

public import proofs.«01_k».proof.Proof.Entries

@[expose] public section

set_option maxRecDepth 16384

noncomputable section

namespace Cert.KernelIdeal.SB

open Cert.KernelIdeal Cert.KernelIdeal.Gen Idealize.ShloMosaic Idealize.ShloMosaic.TcCoe Idealize.SL.Sem
open Finset (range)

/-- The queries, keys, values and cotangents, as real tables by position and column (head times 64 plus lane). -/
structure Tab where
  q : ℕ → ℕ → ℝ
  k : ℕ → ℕ → ℝ
  v : ℕ → ℕ → ℝ
  d : ℕ → ℕ → ℝ

variable (D : Tab)

/-- The score of query `t` against key `s` in head `h`. -/
def zz (h t s : ℕ) : ℝ := ∑ a ∈ range 64, D.q t (64 * h + a) * (1 / 8) * D.k s (64 * h + a)

/-- The cotangent of the weight: the output's cotangent against the value. -/
def dw (h t s : ℕ) : ℝ := ∑ a ∈ range 64, D.d t (64 * h + a) * D.v s (64 * h + a)

/-- log (1 - beta), zero off the mask. -/
def ln (h t s : ℕ) : ℝ := if s < t then -sp (zz D h t s) else 0

/-- The row's total. -/
def tot (h t : ℕ) : ℝ := ∑ s ∈ range 2048, ln D h t s

/-- beta. -/
def sg (h t s : ℕ) : ℝ := Real.exp (zz D h t s - sp (zz D h t s))

/-- The attention weight. -/
def ww (h t s : ℕ) : ℝ :=
  if s < t then Real.exp (zz D h t s - sp (zz D h t s) + (tot D h t - ∑ b ∈ range (s + 1), ln D h t b)) else 0

/-- The weight times its cotangent. -/
def ee (h t s : ℕ) : ℝ := ww D h t s * dw D h t s

/-- The cotangent of the score. -/
def dzz (h t s : ℕ) : ℝ :=
  if s < t then ee D h t s * (1 - sg D h t s) - sg D h t s * ∑ b ∈ range s, ee D h t b else 0

/-- A sum over a pair of heads' lanes of which one head's are kept. -/
theorem lanes (e : ℕ) (he : e < 2) (f g : ℕ → ℝ) :
    ∑ l ∈ range 128, (if l / 64 = e then f l else 0) * g l = ∑ a ∈ range 64, f (64 * e + a) * g (64 * e + a) := by
  have h1 : ∀ a ∈ range 64, a / 64 = 0 := fun a ha => by have := Finset.mem_range.1 ha; omega
  have h2 : ∀ a ∈ range 64, (64 + a) / 64 = 1 := fun a ha => by have := Finset.mem_range.1 ha; omega
  rw [show 128 = 64 + 64 from rfl, Finset.sum_range_add]
  interval_cases e
  · rw [Finset.sum_eq_zero (s := range 64) (f := fun x => (if (64 + x) / 64 = 0 then f (64 + x) else 0) * g (64 + x))
      (fun a ha => by rw [h2 a ha]; simp), add_zero]
    exact Finset.sum_congr rfl fun a ha => by rw [if_pos (h1 a ha)]; simp
  · rw [Finset.sum_eq_zero (s := range 64) (f := fun x => (if x / 64 = 1 then f x else 0) * g x)
      (fun a ha => by rw [h1 a ha]; simp), zero_add]
    exact Finset.sum_congr rfl fun a ha => by rw [if_pos (h2 a ha)]

/-- What a query block holds fixed has the entries of the tables. -/
structure HasPt (i : ℕ) (P : Pt) : Prop where
  qm : ∀ h : Fin 4, HasT (P.qm h) fun r l => if l / 64 = h % 2 then D.q (512 * i + r) (128 * (h / 2) + l) * (1 / 8) else 0
  dm : ∀ h : Fin 4, HasT (P.dm h) fun r l => if l / 64 = h % 2 then D.d (512 * i + r) (128 * (h / 2) + l) else 0
  tot : ∀ h : Fin 4, HasC (P.tot h) fun r => tot D h (512 * i + r)

/-- The carry holds the sums over the keys of the first `j` blocks. -/
structure HasCy (i j : ℕ) (c : Cy) : Prop where
  hd : ∀ h : Fin 4, HasC (c.hd h) fun r => ∑ s ∈ range (128 * j), ln D h (512 * i + r) s
  eh : ∀ h : Fin 4, HasC (c.eh h) fun r => ∑ s ∈ range (128 * j), ee D h (512 * i + r) s
  dq : ∀ p : Fin 2, HasT (c.dq p) fun r l => ∑ s ∈ range (128 * j), dzz D (2 * p + l / 64) (512 * i + r) s * D.k s (128 * p + l)

/-- The mask of block `j` keeps the entries below the diagonal. -/
def Masks (i j : ℕ) (mk : Option (IVec S512x128 1)) : Prop :=
  ∀ (x : T) (r : Fin 512) (c : Fin 128), keep mk x (ix2 r c : S512x128.Idx) = if 128 * j + c < 512 * i + r then x (ix2 r c : S512x128.Idx) else 0

theorem HasT.congr {φ : FTy} {x : FVec Ideal S512x128 φ} {f g : ℕ → ℕ → ℝ} (hx : HasT x f)
    (h : ∀ (r : Fin 512) (c : Fin 128), f r c = g r c) : HasT x g := fun r c => by rw [hx, h]

theorem HasC.congr {x : C} {f g : ℕ → ℝ} (hx : HasC x f) (h : ∀ r : Fin 512, f r = g r) : HasC x g :=
  fun r => by rw [hx, h]

theorem HasL.congr {x : L} {f g : ℕ → ℕ → ℝ} (hx : HasL x f) (h : ∀ (a : Fin 128) (l : Fin 256), f a l = g a l) :
    HasL x g := fun r c => by rw [hx, h]

theorem pr_val (h : Fin 4) : ((pr h : Fin 2) : ℕ) = h / 2 := by
  match h with
  | 0 => rfl
  | 1 => rfl
  | 2 => rfl
  | 3 => rfl

/-- A head's masked rows against a key block's rows. -/
theorem has_rows (h : Fin 4) {x : B} {y : L} {f g : ℕ → ℕ → ℝ} (hx : HasT x fun r l => if l / 64 = h % 2 then f r (128 * (h / 2) + l) else 0)
    (hy : HasL y g) : HasT (dotNT x (pairK (pr h) y)) fun r c => ∑ a ∈ range 64, f r (64 * h + a) * g c (64 * h + a) := by
  refine (has_dotNT hx (has_pairK (pr h) hy)).congr fun r c => ?_
  rw [pr_val, lanes _ (Nat.mod_lt _ (by norm_num)) (fun l => f r (128 * (h / 2) + l)) (fun l => g c (128 * (h / 2) + l))]
  refine Finset.sum_congr rfl fun a _ => ?_
  rw [show 128 * ((h : ℕ) / 2) + (64 * ((h : ℕ) % 2) + a) = 64 * h + a by omega]

theorem sum_le (n : ℕ) (c : ℕ) (hc : c < n) (f : ℕ → ℝ) :
    ∑ l ∈ range n, f l * (if l ≤ c then 1 else 0) = ∑ l ∈ range (c + 1), f l := by
  rw [← Finset.sum_subset (s₁ := range (c + 1)) (fun a ha => by have := Finset.mem_range.1 ha; exact Finset.mem_range.2 (by omega))
    (fun a _ ha => by rw [if_neg (by rw [Finset.mem_range] at ha; omega), mul_zero])]
  exact Finset.sum_congr rfl fun a ha => by rw [if_pos (by have := Finset.mem_range.1 ha; omega), mul_one]

theorem sum_lt (n : ℕ) (c : ℕ) (hc : c < n) (f : ℕ → ℝ) :
    ∑ l ∈ range n, f l * (if l < c then 1 else 0) = ∑ l ∈ range c, f l := by
  rw [← Finset.sum_subset (s₁ := range c) (fun a ha => by have := Finset.mem_range.1 ha; exact Finset.mem_range.2 (by omega))
    (fun a _ ha => by rw [if_neg (by rw [Finset.mem_range] at ha; omega), mul_zero])]
  exact Finset.sum_congr rfl fun a ha => by rw [if_pos (Finset.mem_range.1 ha), mul_one]

variable {D}
variable {i j : ℕ} {mk : Option (IVec S512x128 1)} {P : Pt} {c : Cy} {kb vb : L}
  (hP : HasPt D i P) (hc : HasCy D i j c) (hm : Masks i j mk)
  (hk : HasL kb fun a l => D.k (128 * j + a) l) (hv : HasL vb fun a l => D.v (128 * j + a) l)

include hP hk in
theorem has_z (h : Fin 4) : HasT (zOf P kb h) fun r c => zz D h (512 * i + r) (128 * j + c) :=
  has_rows h (f := fun r l => D.q (512 * i + r) l * (1 / 8)) (hP.qm h) hk

theorem has_neg_softp {z : T} {f : ℕ → ℕ → ℝ} (hz : HasT z f) :
    HasT (subf (broadcast S512x128 (Scalar.ofBits .f32 0x00000000#32)) (softp z)) fun r c => -sp (f r c) := by
  intro r c
  pointwise
  rw [has_softp hz, zero_sub, EReal.coe_neg]

theorem has_lsig {z : T} {f : ℕ → ℕ → ℝ} (hz : HasT z f) : HasT (lsig z) fun r c => f r c - sp (f r c) := by
  intro r c
  pointwise [lsig]
  rw [has_softp hz, hz, EReal.coe_sub]

include hP hk hm in
theorem has_ln (h : Fin 4) : HasT (lnot mk (zOf P kb h)) fun r c => ln D h (512 * i + r) (128 * j + c) :=
  (has_keep (M := fun r c => 128 * j + c < 512 * i + r) hm (has_neg_softp (has_z hP hk h))).congr fun r c => rfl

include hP hk hm hc in
theorem has_w (h : Fin 4) : HasT (wOf mk P c kb h) fun r c => ww D h (512 * i + r) (128 * j + c) := by
  have hz := has_z hP hk h
  have hl := has_exact (has_ln hP hm hk h) has_upto
  have key : HasT (exp (addf (lsig (zOf P kb h)) (subf (bc (P.tot h)) (addf (bc (c.hd h)) (exact (lnot mk (zOf P kb h)) k0_pay124)))))
      (fun r c => Real.exp (zz D h (512 * i + r) (128 * j + c) - sp (zz D h (512 * i + r) (128 * j + c))
        + (tot D h (512 * i + r) - ∑ b ∈ range (128 * j + c + 1), ln D h (512 * i + r) b))) := by
    intro r b
    pointwise
    rw [has_lsig hz, has_bc (hP.tot h), has_bc (hc.hd h), hl, ← EReal.coe_add, ← EReal.coe_sub, ← EReal.coe_add, Ideal.exp_coe]
    beta_reduce
    rw [sum_le 128 b b.isLt, add_assoc, Finset.sum_range_add _ (128 * j)]
  exact (has_keep (M := fun r c => 128 * j + c < 512 * i + r) hm key).congr fun r c => rfl

include hP hk hm hc hv in
theorem has_e (h : Fin 4) : HasT (eOf mk P c kb vb h) fun r c => ee D h (512 * i + r) (128 * j + c) := by
  have hw := has_w hP hc hm hk h
  have hd := has_rows h (f := fun r l => D.d (512 * i + r) l) (hP.dm h) hv
  intro r b
  show mulf (wOf mk P c kb h) _ _ = _
  pointwise
  rw [hw, hd, ← EReal.coe_mul]
  rfl

include hP hk hm hc hv in
theorem has_dz (h : Fin 4) : HasT (dzOf mk P c kb vb h) fun r c => dzz D h (512 * i + r) (128 * j + c) := by
  have hz := has_z hP hk h
  have he := has_e hP hc hm hk hv h
  have hs := has_exact he has_before
  have key : HasT (subf (mulf (eOf mk P c kb vb h) (subf (broadcast S512x128 (Scalar.ofBits .f32 0x3F800000#32)) (exp (lsig (zOf P kb h)))))
      (mulf (exp (lsig (zOf P kb h))) (addf (bc (c.eh h)) (exact (eOf mk P c kb vb h) k0_pay125))))
      (fun r c => ee D h (512 * i + r) (128 * j + c) * (1 - sg D h (512 * i + r) (128 * j + c))
        - sg D h (512 * i + r) (128 * j + c) * ∑ b ∈ range (128 * j + c), ee D h (512 * i + r) b) := by
    intro r b
    pointwise
    rw [has_lsig hz, has_bc (hc.eh h), he, hs, Ideal.exp_coe]
    beta_reduce
    rw [sum_lt 128 b b.isLt, ← EReal.coe_add, ← EReal.coe_one, ← EReal.coe_sub,
      ← EReal.coe_mul, ← EReal.coe_mul, ← EReal.coe_sub, Finset.sum_range_add]
    rfl
  exact (has_keep (M := fun r c => 128 * j + c < 512 * i + r) hm key).congr fun r c => rfl

include hP hk hm hc hv in
theorem has_dq (h : Fin 4) : HasT (dqOf mk P c kb vb h) fun r l =>
    ∑ a ∈ range 128, dzz D h (512 * i + r) (128 * j + a) * D.k (128 * j + a) (128 * (h / 2) + l) := by
  have hd : HasT (half (dzOf mk P c kb vb h)) (fun r c => dzz D h (512 * i + r) (128 * j + c)) := fun r c => by pointwise [half]; exact has_dz hP hc hm hk hv h r c
  refine (has_dotNN hd (has_pairK (pr h) hk)).congr fun r l => ?_
  rw [pr_val]

include hP hk hm hc hv in
/-- One key block takes the sums over `j` blocks to the sums over `j + 1`. -/
theorem has_step : HasCy D i (j + 1) (step k0_pay106 mk P c kb vb) where
  hd h := (has_addRow (hc.hd h) (has_ln hP hm hk h)).congr fun r => by
    rw [show 128 * (j + 1) = 128 * j + 128 by ring, Finset.sum_range_add]
  eh h := (has_addRow (hc.eh h) (has_e hP hc hm hk hv h)).congr fun r => by
    rw [show 128 * (j + 1) = 128 * j + 128 by ring, Finset.sum_range_add]
  dq p := by
    have key : ∀ (p : Fin 2) (h0 h1 : Fin 4), (h0 : ℕ) = 2 * p → (h1 : ℕ) = 2 * p + 1 →
        HasT (addHalves k0_pay106 (c.dq p) (dqOf mk P c kb vb h0) (dqOf mk P c kb vb h1))
          fun r l => ∑ s ∈ range (128 * (j + 1)), dzz D (2 * p + l / 64) (512 * i + r) s * D.k s (128 * p + l) := by
      intro p h0 h1 e0 e1
      refine (has_addHalves (hc.dq p) (has_dq hP hc hm hk hv h0) (has_dq hP hc hm hk hv h1)).congr fun r l => ?_
      rw [show 128 * (j + 1) = 128 * j + 128 by ring, Finset.sum_range_add]
      congr 1
      by_cases hl : (l : ℕ) < 64
      · rw [if_pos hl, e0, show 2 * (p : ℕ) + l / 64 = 2 * p by omega, show 2 * (p : ℕ) / 2 = p by omega]
      · rw [if_neg hl, e1, show 2 * (p : ℕ) + l / 64 = 2 * p + 1 by omega, show (2 * (p : ℕ) + 1) / 2 = p by omega]
    match p with
    | 0 => exact key 0 0 1 rfl rfl
    | 1 => exact key 1 2 3 rfl rfl

/-- Two heads' masked columns, summed. -/
theorem has_cols {x0 x1 : T} {y0 y1 : B} (p : Fin 2) {f : ℕ → ℕ → ℕ → ℝ} {g : ℕ → ℕ → ℝ}
    (hx0 : HasT x0 (f (2 * p))) (hx1 : HasT x1 (f (2 * p + 1)))
    (hy0 : HasT y0 fun r l => if l / 64 = 0 then g r (128 * p + l) else 0)
    (hy1 : HasT y1 fun r l => if l / 64 = 1 then g r (128 * p + l) else 0) (a l : ℕ) (hl : l < 128) :
    (∑ r ∈ range 512, f (2 * p) r a * (if l / 64 = 0 then g r (128 * p + l) else 0))
      + (∑ r ∈ range 512, f (2 * p + 1) r a * (if l / 64 = 1 then g r (128 * p + l) else 0))
      = ∑ r ∈ range 512, f (2 * p + l / 64) r a * g r (128 * p + l) := by
  rw [← Finset.sum_add_distrib]
  refine Finset.sum_congr rfl fun r _ => ?_
  have : l / 64 = 0 ∨ l / 64 = 1 := by omega
  rcases this with h | h <;> simp [h]

/-- Four heads' column products side by side. -/
theorem has_four {x : Fin 4 → T} {y : Fin 4 → B} {f : ℕ → ℕ → ℕ → ℝ} {g : ℕ → ℕ → ℝ} (hx : ∀ h : Fin 4, HasT (x h) (f h))
    (hy : ∀ h : Fin 4, HasT (y h) fun r l => if l / 64 = h % 2 then g r (128 * (h / 2) + l) else 0) :
    HasL (sides (dotTN (half (x 0)) (y 0)) (dotTN (half (x 1)) (y 1)) (dotTN (half (x 2)) (y 2)) (dotTN (half (x 3)) (y 3)))
      fun a l => ∑ r ∈ range 512, f (l / 64) r a * g r l := by
  have hh : ∀ h : Fin 4, HasT (half (x h)) (f h) := fun h r c => by pointwise [half]; exact hx h r c
  have hd := fun h : Fin 4 => has_dotTN (hh h) (hy h)
  refine (has_sides (hd 0) (hd 1) (hd 2) (hd 3)).congr fun a l => ?_
  by_cases hl : (l : ℕ) < 128
  · rw [if_pos hl]
    have := has_cols 0 (f := f) (g := g) (hx 0) (hx 1) (hy 0) (hy 1) a l hl
    simpa using this
  · rw [if_neg hl]
    have := has_cols 1 (f := f) (g := g) (hx 2) (hx 3) (hy 2) (hy 3) a (l - 128) (by omega)
    refine Eq.trans ?_ (this.trans (Finset.sum_congr rfl fun r _ => ?_))
    · rfl
    · rw [show 2 * ((1 : Fin 2) : ℕ) + ((l : ℕ) - 128) / 64 = l / 64 by simp; omega,
        show 128 * ((1 : Fin 2) : ℕ) + ((l : ℕ) - 128) = l by simp; omega]

include hP hk hm hc hv in
/-- What one key block adds to its keys' gradient. -/
theorem has_dkInc : HasL (dkInc mk P c kb vb) fun a l =>
    ∑ r ∈ range 512, dzz D (l / 64) (512 * i + r) (128 * j + a) * (D.q (512 * i + r) l * (1 / 8)) :=
  has_four (f := fun h r a => dzz D h (512 * i + r) (128 * j + a)) (g := fun r l => D.q (512 * i + r) l * (1 / 8))
    (fun h => has_dz hP hc hm hk hv h) hP.qm

include hP hk hm hc in
/-- What one key block adds to its values' gradient. -/
theorem has_dvInc : HasL (dvInc mk P c kb) fun a l =>
    ∑ r ∈ range 512, ww D (l / 64) (512 * i + r) (128 * j + a) * D.d (512 * i + r) l :=
  has_four (f := fun h r a => ww D h (512 * i + r) (128 * j + a)) (g := fun r l => D.d (512 * i + r) l)
    (fun h => has_w hP hc hm hk h) hP.dm

end Cert.KernelIdeal.SB
-- ==== Proof.RefSide.lean ====
/-
  The reference's gradients over the real numbers.

  Each array the reference computes, entry by entry, where the two arguments have real entries: the scores, the running
  sums of log (1 - beta), the weights, and the gradients that flow back from them to the queries, keys and values.
-/
module

public import proofs.«01_k».proof.Proof.Step
public import proofs.«01_k».proof.Proof.Sums
public import proofs.«01_k».proof.Proof.Gen.ReferenceIdeal.Read

@[expose] public section

set_option maxRecDepth 16384

noncomputable section

namespace Cert.ReferenceIdeal.SB

open Cert.ReferenceIdeal Cert.ReferenceIdeal.Gen Cert.ReferenceIdeal.Read Idealize.ShloMosaic Idealize.ShloMosaic.TcCoe Idealize.SL.Sem
open Cert.KernelIdeal.SB (Tab sp zz dw ln tot sg ww ee dzz max_ereal lt_bit select_bit)
open Finset (range)

/-- The number zero, as a constant. -/
def zeroF : Ideal .f32 := FloatOps.ofBits .f32 0x00000000#32

/-- The positive infinity, as a constant. -/
def infF : Ideal .f32 := FloatOps.ofBits .f32 0x7F800000#32

/-- log (1 + exp z) as the host computes it. -/
def spE (z : Ideal .f32) : Ideal .f32 :=
  Scalar.select (FloatOps.cmpf .une (FloatOps.subf z zeroF) (FloatOps.subf z zeroF)) (FloatOps.addf z zeroF)
    (FloatOps.addf (FloatOps.maximumf z zeroF) (FloatOps.hostUnary .log1p (FloatOps.hostUnary .exp
      (FloatOps.hostNegf (FloatOps.hostAbsf (FloatOps.subf z zeroF))))))

/-- The factor of its gradient, from the argument and the value. -/
def sgE (z s : Ideal .f32) : Ideal .f32 :=
  FloatOps.hostUnary .exp (FloatOps.subf (Scalar.select (FloatOps.cmpf .oeq z infF) zeroF z)
    (Scalar.select (FloatOps.cmpf .oeq s infF) zeroF s))

theorem zeroF_eq : zeroF = ((0 : ℝ) : EReal) := by
  show Ideal.ofBits .f32 0x00000000#32 = _
  simp [Ideal.ofBits, Ideal.ieee]

theorem infF_eq : infF = (⊤ : EReal) := by
  show Ideal.ofBits .f32 0x7F800000#32 = _
  simp [Ideal.ofBits, Ideal.ieee]

theorem select_zero {α : Type} (x y : α) : Scalar.select 0#1 x y = y := rfl

theorem spE_coe (x : ℝ) : spE (x : EReal) = ((sp x : ℝ) : EReal) := by
  unfold spE
  rw [zeroF_eq]
  have h0 : FloatOps.subf (F := Ideal) (φ := .f32) (x : EReal) ((0 : ℝ) : EReal) = (x : EReal) := by
    show (x : EReal) - ((0 : ℝ) : EReal) = _
    rw [← EReal.coe_sub, sub_zero]
  rw [h0]
  have hc : FloatOps.cmpf (F := Ideal) (φ := .f32) .une (x : EReal) (x : EReal) = 0#1 := by
    show BitVec.ofBool (decide ((x : EReal) ≠ x)) = _
    simp
  rw [hc, select_zero]
  show max (x : EReal) ((0 : ℝ) : EReal) + Ideal.log (1 + Ideal.exp (-(max (x : EReal) (-(x : EReal))))) = _
  rw [← EReal.coe_neg, max_ereal, max_ereal, ← EReal.coe_neg, Ideal.exp_coe, ← EReal.coe_one, ← EReal.coe_add, Ideal.log_coe,
    if_neg (not_le.2 (by positivity)), ← EReal.coe_add]
  rfl

theorem sgE_coe (x s : ℝ) : sgE (x : EReal) (s : EReal) = ((Real.exp (x - s) : ℝ) : EReal) := by
  unfold sgE
  rw [infF_eq]
  have hc : ∀ y : ℝ, FloatOps.cmpf (F := Ideal) (φ := .f32) .oeq (y : EReal) (⊤ : EReal) = 0#1 := fun y => by
    show BitVec.ofBool (decide ((y : EReal) = ⊤)) = _
    simp
  rw [hc, hc, select_zero, select_zero]
  show Ideal.exp ((x : EReal) - (s : EReal)) = _
  rw [← EReal.coe_sub, Ideal.exp_coe]

/-- The stable form is log (1 + exp x). -/
theorem sp_log (x : ℝ) : sp x = Real.log (1 + Real.exp x) := by
  unfold sp
  rcases le_total 0 x with h | h
  · rw [max_eq_left h, abs_of_nonneg h]
    conv_lhs => rw [← Real.log_exp x]
    rw [← Real.log_mul (Real.exp_ne_zero _) (by positivity), mul_add, mul_one, Real.log_exp, ← Real.exp_add, add_neg_cancel,
      Real.exp_zero, add_comm]
  · rw [max_eq_right h, abs_of_nonpos h, neg_neg, zero_add]

theorem sp_neg (x : ℝ) : -sp (-x) = x - sp x := by
  have h : 1 + Real.exp x = Real.exp x * (1 + Real.exp (-x)) := by
    rw [mul_add, mul_one, ← Real.exp_add, add_neg_cancel, Real.exp_zero, add_comm]
  rw [sp_log x, h, Real.log_mul (Real.exp_ne_zero _) (by positivity), Real.log_exp, sp_log]
  ring

theorem one_sub_sg (x : ℝ) : Real.exp (-x - sp (-x)) = 1 - Real.exp (x - sp x) := by
  have h1 : Real.exp (x - sp x) = Real.exp x / (1 + Real.exp x) := by
    rw [Real.exp_sub, sp_log, Real.exp_log (by positivity)]
  have h2 : Real.exp (-x - sp (-x)) = 1 / (1 + Real.exp x) := by
    rw [show -x - sp (-x) = -sp x by have := sp_neg x; linarith, sp_log, Real.exp_neg, Real.exp_log (by positivity), one_div]
  have h3 : (1 + Real.exp x) ≠ 0 := by positivity
  rw [h1, h2]
  field_simp
  ring

/-- The reference's softplus is the scalar one at each entry. -/
theorem v16_0_sp (x0 : (⟨S2048x2304, .f32⟩ : BufTy).Contents (Elt Ideal)) (i : S4x2048x2048.Idx) :
    val_main_v16_0 (F := Ideal) x0 i = spE (val_main_v8 (F := Ideal) x0 i) := by
  simp only [val_main_v16_0_apply, val_main_call0_v4_apply, val_main_call0_v3_apply, val_main_call0_v2_apply,
    val_main_call0_v6_apply, val_main_call0_v5_apply, val_main_call0_v11_apply, val_main_call0_v1_apply, val_main_call0_v0_apply,
    val_main_call0_v10_apply, val_main_call0_v9_apply, val_main_call0_v8_apply, val_main_call0_v7_apply, val_main_call0_cst_apply]
  rfl

theorem v16_1_sg (x0 : (⟨S2048x2304, .f32⟩ : BufTy).Contents (Elt Ideal)) (i : S4x2048x2048.Idx) :
    val_main_v16_1 (F := Ideal) x0 i = sgE (val_main_v8 (F := Ideal) x0 i) (val_main_v16_0 (F := Ideal) x0 i) := by
  simp only [val_main_v16_1_apply, val_main_call0_v21_apply, val_main_call0_v16_apply, val_main_call0_v14_apply,
    val_main_call0_v13_apply, val_main_call0_v15_apply, val_main_call0_v20_apply, val_main_call0_v18_apply, val_main_call0_v17_apply,
    val_main_call0_v19_apply, val_main_call0_cst_0_apply, val_main_call0_cst_1_apply, val_main_call0_cst_2_apply,
    val_main_call0_cst_3_apply]
  rfl

theorem v21_sp (x0 : (⟨S2048x2304, .f32⟩ : BufTy).Contents (Elt Ideal)) (i : S4x2048x2048.Idx) :
    val_main_call3_v1_0 (F := Ideal) x0 i = spE (val_main_call3_v0 (F := Ideal) x0 i) := by
  simp only [val_main_call3_v1_0_apply, val_main_call3_call0_v4_apply, val_main_call3_call0_v3_apply, val_main_call3_call0_v2_apply,
    val_main_call3_call0_v6_apply, val_main_call3_call0_v5_apply, val_main_call3_call0_v11_apply, val_main_call3_call0_v1_apply,
    val_main_call3_call0_v0_apply, val_main_call3_call0_v10_apply, val_main_call3_call0_v9_apply, val_main_call3_call0_v8_apply,
    val_main_call3_call0_v7_apply, val_main_call3_call0_cst_apply]
  rfl

theorem v21_1_sg (x0 : (⟨S2048x2304, .f32⟩ : BufTy).Contents (Elt Ideal)) (i : S4x2048x2048.Idx) :
    val_main_v21_1 (F := Ideal) x0 i = sgE (val_main_call3_v0 (F := Ideal) x0 i) (val_main_call3_v1_0 (F := Ideal) x0 i) := by
  simp only [val_main_v21_1_apply, val_main_call3_call0_v21_apply, val_main_call3_call0_v16_apply, val_main_call3_call0_v14_apply,
    val_main_call3_call0_v13_apply, val_main_call3_call0_v15_apply, val_main_call3_call0_v20_apply, val_main_call3_call0_v18_apply,
    val_main_call3_call0_v17_apply, val_main_call3_call0_v19_apply, val_main_call3_call0_cst_0_apply, val_main_call3_call0_cst_1_apply,
    val_main_call3_call0_cst_2_apply, val_main_call3_call0_cst_3_apply]
  rfl

/-- The tables of the two arguments' entries. -/
def tabOf (X Y : ℕ → ℕ → ℝ) : Tab := ⟨X, fun t l => X t (256 + l), fun t l => X t (512 + l), Y⟩

/-- An array by head, query and key has these entries. -/
def Has3 (v : FVec Ideal S4x2048x2048 .f32) (f : ℕ → ℕ → ℕ → ℝ) : Prop :=
  ∀ i : S4x2048x2048.Idx, v i = ((f (i 0).val (i 1).val (i 2).val : ℝ) : EReal)

/-- An array by position, head and lane has these entries, in the column of the head's lane. -/
def HasH (v : FVec Ideal S2048x4x64 .f32) (f : ℕ → ℕ → ℝ) : Prop :=
  ∀ i : S2048x4x64.Idx, v i = ((f (i 0).val (64 * (i 1).val + (i 2).val) : ℝ) : EReal)

section
variable {x0 : (⟨S2048x2304, .f32⟩ : BufTy).Contents (Elt Ideal)} {x1 : (⟨S2048x1024, .f32⟩ : BufTy).Contents (Elt Ideal)}
  {X Y : ℕ → ℕ → ℝ} (h0 : ∀ i : S2048x2304.Idx, (i 1).val < 768 → x0 i = ((X (i 0).val (i 1).val : ℝ) : EReal))
  (h1 : ∀ i : S2048x1024.Idx, (i 1).val < 256 → x1 i = ((Y (i 0).val (i 1).val : ℝ) : EReal))

/-- The position and column behind a head's lane. -/
theorem split_pos (a b c : ℕ) (hb : b < 4) (hc : c < 64) :
    ((a * 4 + b) * 64 + c) / 256 = a ∧ ((a * 4 + b) * 64 + c) % 256 = 64 * b + c := by omega

include h0 in
theorem has_q : HasH (val_main_v3 (F := Ideal) x0) (tabOf X Y).q := fun i => by
  obtain ⟨e0, e1⟩ := split_pos (i 0).val (i 1).val (i 2).val (i 1).isLt (i 2).isLt
  rw [val_main_v3_apply, val_main_v0_apply]
  refine (h0 _ (show ((((i 0).val * 4 + (i 1).val) * 64 + (i 2).val) % 256) < 768 by omega)).trans ?_
  show ((X ((((i 0).val * 4 + (i 1).val) * 64 + (i 2).val) / 256) ((((i 0).val * 4 + (i 1).val) * 64 + (i 2).val) % 256) : ℝ) : EReal) = _
  rw [e0, e1]
  rfl

include h0 in
theorem has_k : HasH (val_main_v4 (F := Ideal) x0) (tabOf X Y).k := fun i => by
  obtain ⟨e0, e1⟩ := split_pos (i 0).val (i 1).val (i 2).val (i 1).isLt (i 2).isLt
  rw [val_main_v4_apply, val_main_v1_apply]
  refine (h0 _ (show 256 + ((((i 0).val * 4 + (i 1).val) * 64 + (i 2).val) % 256) < 768 by omega)).trans ?_
  show ((X ((((i 0).val * 4 + (i 1).val) * 64 + (i 2).val) / 256) (256 + (((i 0).val * 4 + (i 1).val) * 64 + (i 2).val) % 256) : ℝ) : EReal) = _
  rw [e0, e1]
  rfl

include h0 in
theorem has_v : HasH (val_main_v5 (F := Ideal) x0) (tabOf X Y).v := fun i => by
  obtain ⟨e0, e1⟩ := split_pos (i 0).val (i 1).val (i 2).val (i 1).isLt (i 2).isLt
  rw [val_main_v5_apply, val_main_v2_apply]
  refine (h0 _ (show 512 + ((((i 0).val * 4 + (i 1).val) * 64 + (i 2).val) % 256) < 768 by omega)).trans ?_
  show ((X ((((i 0).val * 4 + (i 1).val) * 64 + (i 2).val) / 256) (512 + (((i 0).val * 4 + (i 1).val) * 64 + (i 2).val) % 256) : ℝ) : EReal) = _
  rw [e0, e1]
  rfl

include h1 in
theorem has_d : HasH (val_main_v29 (F := Ideal) x1) (tabOf X Y).d := fun i => by
  obtain ⟨e0, e1⟩ := split_pos (i 0).val (i 1).val (i 2).val (i 1).isLt (i 2).isLt
  rw [val_main_v29_apply, val_main_v28_apply]
  refine (h1 _ (show ((((i 0).val * 4 + (i 1).val) * 64 + (i 2).val) % 256) < 256 by omega)).trans ?_
  show ((Y ((((i 0).val * 4 + (i 1).val) * 64 + (i 2).val) / 256) ((((i 0).val * 4 + (i 1).val) * 64 + (i 2).val) % 256) : ℝ) : EReal) = _
  rw [e0, e1]
  rfl

theorem eighth : (FloatOps.ofBits .f32 0x3E000000#32 : Ideal .f32) = ((1 / 8 : ℝ) : EReal) := by
  show Ideal.ofBits .f32 0x3E000000#32 = _
  simp [Ideal.ofBits, Ideal.ieee]
  rw [← EReal.coe_mul]
  norm_num

include h0 in
theorem has_zz : Has3 (val_main_v8 (F := Ideal) x0) (zz (tabOf X Y)) := fun i => by
  rw [val_main_v8_apply, val_main_v7_apply, val_main_cst_apply, val_main_v6_apply, eighth,
    Cert.Sums.sum_real (fun a => (tabOf X Y).q (i 1).val (64 * (i 0).val + a) * (tabOf X Y).k (i 2).val (64 * (i 0).val + a)) _
      (fun a => by rw [has_q (Y := Y) h0, has_k (Y := Y) h0, EReal.coe_mul])]
  show _ * ((1 / 8 : ℝ) : EReal) = _
  rw [← EReal.coe_mul, Finset.sum_mul]
  refine congrArg _ (Finset.sum_congr rfl fun a _ => ?_)
  ring

include h0 in
theorem has_sp : Has3 (val_main_v16_0 (F := Ideal) x0) fun h t s => sp (zz (tabOf X Y) h t s) := fun i => by
  rw [v16_0_sp, has_zz (Y := Y) h0, spE_coe]

include h0 in
theorem has_sg : Has3 (val_main_v16_1 (F := Ideal) x0) (sg (tabOf X Y)) := fun i => by
  rw [v16_1_sg, has_sp (Y := Y) h0, has_zz (Y := Y) h0, sgE_coe]
  rfl

include h0 in
theorem has_neg : Has3 (val_main_call3_v0 (F := Ideal) x0) fun h t s => -zz (tabOf X Y) h t s := fun i => by
  rw [val_main_call3_v0_apply, has_zz (Y := Y) h0]
  exact (EReal.coe_neg _).symm

include h0 in
theorem has_spn : Has3 (val_main_call3_v1_0 (F := Ideal) x0) fun h t s => sp (-zz (tabOf X Y) h t s) := fun i => by
  rw [v21_sp, has_neg (Y := Y) h0, spE_coe]

include h0 in
theorem has_sgn : Has3 (val_main_v21_1 (F := Ideal) x0) fun h t s => 1 - sg (tabOf X Y) h t s := fun i => by
  rw [v21_1_sg, has_spn (Y := Y) h0, has_neg (Y := Y) h0, sgE_coe, one_sub_sg]
  rfl

/-- The bit of the mask: a key before the query. -/
theorem mask_bit (i : S2048x2048.Idx) :
    val_main_v15 (F := Ideal) i = BitVec.ofBool (decide ((i 1).val < (i 0).val)) := by
  rw [val_main_v15_apply, val_main_v13_apply, val_main_v14_apply, val_main_v10_apply, val_main_v12_apply, val_main_v9_apply,
    val_main_v11_apply]
  have a0 : (i 0).val < 2048 := (i 0).isLt
  have a1 : (i 1).val < 2048 := (i 1).isLt
  exact lt_bit (a := (i 1).val) (b := (i 0).val) (by omega) (by omega)

include h0 in
theorem has_ln : Has3 (val_main_v18_0 (F := Ideal) x0) (ln (tabOf X Y)) := fun i => by
  rw [val_main_v18_0_apply, val_main_v18_1_apply, mask_bit, select_bit, val_main_v17_apply, has_sp (Y := Y) h0, val_main_call1_v2_apply,
    val_main_call1_v0_apply, val_main_cst_0_apply]
  show (if (i 2).val < (i 1).val then -((sp (zz (tabOf X Y) (i 0).val (i 1).val (i 2).val) : ℝ) : EReal) else zeroF) = _
  rw [zeroF_eq, ← EReal.coe_neg]
  unfold ln
  split <;> rfl

include h0 in
theorem has_lns : Has3 (val_main_v19 (F := Ideal) x0) fun h t s => tot (tabOf X Y) h t - ∑ b ∈ range s, ln (tabOf X Y) h t b := fun i => by
  have hz : val_main_call2_v0 (F := Ideal) (Shape.Idx.first h_S_) = ((0 : ℝ) : EReal) := by
    rw [val_main_call2_v0_apply, val_main_call2_cst_apply]; exact zeroF_eq
  have hi : (i 2).val < 2048 := (i 2).isLt
  have e : val_main_v19 (F := Ideal) x0 = Ideal.hostReduceWindowAdd (![1, 1, 2048] : Fin 3 → Nat) ![1, 1, 1] ![0, 0, 0] ![0, 0, 2047]
      reduceWindows_S4x2048x2048_S4x2048x2048_w1s1p0_0_w1s1p0_0_w2048s1p0_2047 (val_main_v18_0 (F := Ideal) x0) (val_main_call2_v0 (F := Ideal) (Shape.Idx.first h_S_)) := by
    unfold val_main_v19 Host.reduceWindowAdd
    rw [Ideal.hostReduceWindowAdd_def]
  rw [e, hz, EReal.coe_zero]
  refine (Cert.Sums.window (val_main_v18_0 (F := Ideal) x0) _ i (fun s => ln (tabOf X Y) (i 0).val (i 1).val s)
    (fun j e0 e1 => by rw [has_ln (Y := Y) h0, e0, e1])).trans ?_
  rw [Cert.Sums.suffix_sum _ 2048 _ (by omega)]
  rfl

include h0 in
theorem has_wt : Has3 (val_main_v23 (F := Ideal) x0) fun h t s => Real.exp (zz (tabOf X Y) h t s - sp (zz (tabOf X Y) h t s) +
    (tot (tabOf X Y) h t - ∑ b ∈ range (s + 1), ln (tabOf X Y) h t b)) := fun i => by
  rw [val_main_v23_apply, val_main_v22_apply, val_main_v21_0_apply, val_main_v20_apply, has_spn (Y := Y) h0, has_lns (Y := Y) h0,
    has_ln (Y := Y) h0]
  show Ideal.exp (-((_ : ℝ) : EReal) + (((_ : ℝ) : EReal) - ((_ : ℝ) : EReal))) = _
  rw [← EReal.coe_neg, ← EReal.coe_sub, ← EReal.coe_add, Ideal.exp_coe, sp_neg]
  beta_reduce
  rw [Finset.sum_range_succ, sub_sub]

include h0 in
theorem has_ww : Has3 (val_main_v24_0 (F := Ideal) x0) (ww (tabOf X Y)) := fun i => by
  rw [val_main_v24_0_apply, val_main_v24_1_apply, mask_bit, select_bit, has_wt (Y := Y) h0, val_main_call4_v2_apply, val_main_call4_v0_apply,
    val_main_cst_1_apply]
  show (if (i 2).val < (i 1).val then _ else zeroF) = _
  rw [zeroF_eq]
  unfold ww
  split <;> rfl

include h0 h1 in
theorem has_dw : Has3 (val_main_v31 (F := Ideal) x0 x1) (dw (tabOf X Y)) := fun i => by
  rw [val_main_v31_apply]
  refine Cert.Sums.sum_real (fun a => (tabOf X Y).d (i 1).val (64 * (i 0).val + a) * (tabOf X Y).v (i 2).val (64 * (i 0).val + a)) _
    (fun a => by rw [val_main_v30_apply, has_d (X := X) h1, has_v (Y := Y) h0, EReal.coe_mul])

include h0 h1 in
theorem has_ee : Has3 (val_main_v35 (F := Ideal) x0 x1) (ee (tabOf X Y)) := fun i => by
  rw [val_main_v35_apply, val_main_v34_apply, val_main_v24_1_apply, mask_bit, select_bit, has_dw h0 h1, has_wt (Y := Y) h0,
    val_main_call5_v0_apply, val_main_call5_cst_apply]
  show (if (i 2).val < (i 1).val then _ else zeroF) * ((_ : ℝ) : EReal) = _
  rw [zeroF_eq]
  unfold ee ww
  split
  · rw [← EReal.coe_mul, mul_comm]
  · rw [← EReal.coe_mul, zero_mul, zero_mul]

include h0 h1 in
theorem has_es : Has3 (val_main_v38 (F := Ideal) x0 x1) fun h t s => ∑ b ∈ range (s + 1), ee (tabOf X Y) h t b := fun i => by
  have hz : val_main_call7_v0 (F := Ideal) (Shape.Idx.first h_S_) = ((0 : ℝ) : EReal) := by
    rw [val_main_call7_v0_apply, val_main_call7_cst_apply]; exact zeroF_eq
  have hi : (i 2).val < 2048 := (i 2).isLt
  have e : val_main_v38 (F := Ideal) x0 x1 = Ideal.hostReduceWindowAdd (![1, 1, 2048] : Fin 3 → Nat) ![1, 1, 1] ![0, 0, 2047] ![0, 0, 0]
      reduceWindows_S4x2048x2048_S4x2048x2048_w1s1p0_0_w1s1p0_0_w2048s1p2047_0 (val_main_v35 (F := Ideal) x0 x1) (val_main_call7_v0 (F := Ideal) (Shape.Idx.first h_S_)) := by
    unfold val_main_v38 Host.reduceWindowAdd
    rw [Ideal.hostReduceWindowAdd_def]
  rw [e, hz, EReal.coe_zero]
  refine (Cert.Sums.window (val_main_v35 (F := Ideal) x0 x1) _ i (fun s => ee (tabOf X Y) (i 0).val (i 1).val s)
    (fun j e0 e1 => by rw [has_ee h0 h1, e0, e1])).trans ?_
  rw [Cert.Sums.prefix_sum _ 2047 _ (by omega)]

include h0 h1 in
theorem has_dzz : Has3 (val_main_v43 (F := Ideal) x0 x1) (dzz (tabOf X Y)) := fun i => by
  rw [val_main_v43_apply, val_main_v36_apply, val_main_call6_v1_apply, val_main_call6_v0_apply, val_main_v42_apply, val_main_v41_apply,
    val_main_v40_apply, val_main_v18_1_apply, mask_bit, select_bit, val_main_v39_apply, val_main_v37_apply, has_es h0 h1, has_ee h0 h1,
    has_sgn (Y := Y) h0, has_sg (Y := Y) h0, val_main_call8_v0_apply, val_main_call8_cst_apply]
  show -(-((_ : ℝ) : EReal) * ((_ : ℝ) : EReal)) + -(if (i 2).val < (i 1).val then -((_ : ℝ) : EReal) + ((_ : ℝ) : EReal) else zeroF) * ((_ : ℝ) : EReal) = _
  rw [zeroF_eq]
  unfold dzz
  split
  · rw [← EReal.coe_neg, ← EReal.coe_mul, ← EReal.coe_neg, ← EReal.coe_add, ← EReal.coe_neg, ← EReal.coe_mul, ← EReal.coe_add]
    beta_reduce
    rw [Finset.sum_range_succ]
    refine congrArg _ ?_
    ring
  · next h =>
    have he : ee (tabOf X Y) (i 0).val (i 1).val (i 2).val = 0 := by unfold ee ww; rw [if_neg h, zero_mul]
    rw [he, ← EReal.coe_neg, ← EReal.coe_mul, ← EReal.coe_neg, ← EReal.coe_mul, ← EReal.coe_add]
    refine congrArg _ ?_
    ring

include h0 h1 in
theorem has_dzs : Has3 (val_main_v45 (F := Ideal) x0 x1) fun h t s => dzz (tabOf X Y) h t s * (1 / 8) := fun i => by
  rw [val_main_v45_apply, val_main_v44_apply, val_main_cst_2_apply, eighth, has_dzz h0 h1]
  exact (EReal.coe_mul _ _).symm

/-- The gradient of the queries. -/
theorem dq_entry (i : S2048x256.Idx) (h0 : ∀ i : S2048x2304.Idx, (i 1).val < 768 → x0 i = ((X (i 0).val (i 1).val : ℝ) : EReal))
    (h1 : ∀ i : S2048x1024.Idx, (i 1).val < 256 → x1 i = ((Y (i 0).val (i 1).val : ℝ) : EReal)) : val_main_v52 (F := Ideal) x0 x1 i =
    ((∑ s ∈ range 2048, dzz (tabOf X Y) ((i 1).val / 64) (i 0).val s * (1 / 8) * (tabOf X Y).k s (i 1).val : ℝ) : EReal) := by
  have a0 : (i 0).val < 2048 := (i 0).isLt
  have a1 : (i 1).val < 256 := (i 1).isLt
  rw [val_main_v52_apply, val_main_v49_apply, val_main_v48_apply]
  refine (Cert.Sums.sum_real (fun s => dzz (tabOf X Y) ((i 1).val / 64) (i 0).val s * (1 / 8) * (tabOf X Y).k s (i 1).val) _ (fun s => ?_))
  rw [has_dzs h0 h1, has_k (Y := Y) h0, ← EReal.coe_mul]
  show ((dzz (tabOf X Y) (((i 0).val * 256 + (i 1).val) / 64 % 4) (((i 0).val * 256 + (i 1).val) / 256) s.val * (1 / 8) *
    (tabOf X Y).k s.val (64 * (((i 0).val * 256 + (i 1).val) / 64 % 4) + ((i 0).val * 256 + (i 1).val) % 64) : ℝ) : EReal) = _
  rw [show ((i 0).val * 256 + (i 1).val) / 64 % 4 = (i 1).val / 64 by omega, show ((i 0).val * 256 + (i 1).val) / 256 = (i 0).val by omega,
    show 64 * ((i 1).val / 64) + ((i 0).val * 256 + (i 1).val) % 64 = (i 1).val by omega]

/-- The gradient of the keys. -/
theorem dk_entry (i : S2048x256.Idx) (h0 : ∀ i : S2048x2304.Idx, (i 1).val < 768 → x0 i = ((X (i 0).val (i 1).val : ℝ) : EReal))
    (h1 : ∀ i : S2048x1024.Idx, (i 1).val < 256 → x1 i = ((Y (i 0).val (i 1).val : ℝ) : EReal)) : val_main_v51 (F := Ideal) x0 x1 i =
    ((∑ t ∈ range 2048, dzz (tabOf X Y) ((i 1).val / 64) t (i 0).val * (1 / 8) * (tabOf X Y).q t (i 1).val : ℝ) : EReal) := by
  have a0 : (i 0).val < 2048 := (i 0).isLt
  have a1 : (i 1).val < 256 := (i 1).isLt
  rw [val_main_v51_apply, val_main_v47_apply, val_main_v46_apply]
  refine (Cert.Sums.sum_real (fun t => dzz (tabOf X Y) ((i 1).val / 64) t (i 0).val * (1 / 8) * (tabOf X Y).q t (i 1).val) _ (fun t => ?_))
  rw [has_dzs h0 h1, has_q (Y := Y) h0, ← EReal.coe_mul]
  show ((dzz (tabOf X Y) (((i 0).val * 256 + (i 1).val) / 64 % 4) t.val (((i 0).val * 256 + (i 1).val) / 256) * (1 / 8) *
    (tabOf X Y).q t.val (64 * (((i 0).val * 256 + (i 1).val) / 64 % 4) + ((i 0).val * 256 + (i 1).val) % 64) : ℝ) : EReal) = _
  rw [show ((i 0).val * 256 + (i 1).val) / 64 % 4 = (i 1).val / 64 by omega, show ((i 0).val * 256 + (i 1).val) / 256 = (i 0).val by omega,
    show 64 * ((i 1).val / 64) + ((i 0).val * 256 + (i 1).val) % 64 = (i 1).val by omega]

/-- The gradient of the values. -/
theorem dv_entry (i : S2048x256.Idx) (h0 : ∀ i : S2048x2304.Idx, (i 1).val < 768 → x0 i = ((X (i 0).val (i 1).val : ℝ) : EReal))
    (h1 : ∀ i : S2048x1024.Idx, (i 1).val < 256 → x1 i = ((Y (i 0).val (i 1).val : ℝ) : EReal)) : val_main_v50 (F := Ideal) x0 x1 i =
    ((∑ t ∈ range 2048, (tabOf X Y).d t (i 1).val * ww (tabOf X Y) ((i 1).val / 64) t (i 0).val : ℝ) : EReal) := by
  have a0 : (i 0).val < 2048 := (i 0).isLt
  have a1 : (i 1).val < 256 := (i 1).isLt
  rw [val_main_v50_apply, val_main_v33_apply, val_main_v32_apply]
  refine (Cert.Sums.sum_real (fun t => (tabOf X Y).d t (i 1).val * ww (tabOf X Y) ((i 1).val / 64) t (i 0).val) _ (fun t => ?_))
  rw [val_main_v30_apply, has_d (X := X) h1, has_ww (Y := Y) h0, ← EReal.coe_mul]
  show (((tabOf X Y).d t.val (64 * (((i 0).val * 256 + (i 1).val) / 64 % 4) + ((i 0).val * 256 + (i 1).val) % 64) *
    ww (tabOf X Y) (((i 0).val * 256 + (i 1).val) / 64 % 4) t.val (((i 0).val * 256 + (i 1).val) / 256) : ℝ) : EReal) = _
  rw [show ((i 0).val * 256 + (i 1).val) / 64 % 4 = (i 1).val / 64 by omega, show ((i 0).val * 256 + (i 1).val) / 256 = (i 0).val by omega,
    show 64 * ((i 1).val / 64) + ((i 0).val * 256 + (i 1).val) % 64 = (i 1).val by omega]

end

end Cert.ReferenceIdeal.SB
-- ==== Proof.Host.lean ====
/-
  The rows' totals the call is given: the host's lines before it compute, for each head and query, the sum over the keys of
  the log of one minus the sigmoid. They are the reference's lines, so its facts on them are used.
-/
module

public import proofs.«01_k».proof.Proof.RefSide
public import proofs.«01_k».proof.Proof.Gen.KernelIdeal.Value

@[expose] public section

set_option maxRecDepth 16384

noncomputable section

namespace Cert.KernelIdeal.SB

open Cert.KernelIdeal Cert.KernelIdeal.Gen Idealize.ShloMosaic Idealize.ShloMosaic.TcCoe Idealize.SL.Sem
open Finset (range)

variable (m : (ℓ : Loc nD τ sig) → Buf (Elt Ideal) ℓ) (c : Dev nD)

/-- The rows' totals as the host computes them, in the first four columns. -/
def padded (x0 : (⟨S2048x2304, .f32⟩ : BufTy).Contents (Elt Ideal)) : FVec Ideal S2048x128 .f32 :=
  pad S2048x128 ![0, 0] ![0, 124] ![0, 0]
    (transpose S2048x4 [1, 0] (Host.reduceAdd (Cert.ReferenceIdeal.Read.val_main_v18_0 (F := Ideal) x0) (constant S_ .f32 0x00000000#32) reducesTo_S4x2048x2048_S4x2048_d2 h_S_)
      transposes_S4x2048_S2048x4_1_0) (sitofp .f32 (constantI S_ 32 0#32)) pads_S2048x4_S2048x128_000_01240 h_S_

/-- What the call finds in the buffer of the totals. -/
theorem V_tot : V m c main_v19 = padded (m (c.tc.loc main_arg0)) := by
  unfold V
  simp only [hostOps0, hostOps0_1, hostOps0_2, hostOps0_3, hostOps0_4, hostOps0_5, List.flatten, List.append]
  after_results
  simp only [StableHlo.TRef.ofBuf_toBuf]
  sl_kernel_rfl

theorem padded_apply {x0 : (⟨S2048x2304, .f32⟩ : BufTy).Contents (Elt Ideal)} {X Y : ℕ → ℕ → ℝ}
    (h0 : ∀ i : S2048x2304.Idx, (i 1).val < 768 → x0 i = ((X (i 0).val (i 1).val : ℝ) : EReal)) (t : Fin 2048) (h : Fin 4) :
    padded x0 (ix2 t (⟨h, by omega⟩ : Fin 128) : S2048x128.Idx) = ((tot (Cert.ReferenceIdeal.SB.tabOf X Y) h t.val : ℝ) : EReal) := by
  unfold padded
  pointwise [pad]
  refine Cert.Sums.sum_real (fun s => ln (Cert.ReferenceIdeal.SB.tabOf X Y) h t s) _ (fun s => ?_)
  exact Cert.ReferenceIdeal.SB.has_ln (Y := Y) h0 (ix3 h t s)

end Cert.KernelIdeal.SB
-- ==== Proof.RunA.lean ====
module

public import proofs.«01_k».proof.Proof.Words

@[expose] public section
set_option maxRecDepth 16384
noncomputable section
namespace Cert.KernelIdeal.SB
open Cert.KernelIdeal Cert.KernelIdeal.Gen Idealize.ShloMosaic Idealize.ShloMosaic.TcCoe Idealize.SL.Sem
open Idealize.ShloMosaic.Pipeline (Dat)

/-- The carried words before diagonal block 1. -/
def cA0 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) : Cy := ⟨four (kernelRun0_A.sl.r_15 (F := Ideal) dv i arg1 harg1 arg2 harg2 arg3 harg3 arg4 harg4 arg5 harg5 arg6 harg6 arg7 harg7 arg8 harg8 x0 x1 x2 x3 x4) (kernelRun0_A.sl.r_16 (F := Ideal) dv i arg1 harg1 arg2 harg2 arg3 harg3 arg4 harg4 arg5 harg5 arg6 harg6 arg7 harg7 arg8 harg8 x0 x1 x2 x3 x4) (kernelRun0_A.sl.r_17 (F := Ideal) dv i arg1 harg1 arg2 harg2 arg3 harg3 arg4 harg4 arg5 harg5 arg6 harg6 arg7 harg7 arg8 harg8 x0 x1 x2 x3 x4) (kernelRun0_A.sl.r_18 (F := Ideal) dv i arg1 harg1 arg2 harg2 arg3 harg3 arg4 harg4 arg5 harg5 arg6 harg6 arg7 harg7 arg8 harg8 x0 x1 x2 x3 x4), four (kernelRun0_A.sl.r_19 (F := Ideal) dv i arg1 harg1 arg2 harg2 arg3 harg3 arg4 harg4 arg5 harg5 arg6 harg6 arg7 harg7 arg8 harg8 x0 x1 x2 x3 x4) (kernelRun0_A.sl.r_20 (F := Ideal) dv i arg1 harg1 arg2 harg2 arg3 harg3 arg4 harg4 arg5 harg5 arg6 harg6 arg7 harg7 arg8 harg8 x0 x1 x2 x3 x4) (kernelRun0_A.sl.r_21 (F := Ideal) dv i arg1 harg1 arg2 harg2 arg3 harg3 arg4 harg4 arg5 harg5 arg6 harg6 arg7 harg7 arg8 harg8 x0 x1 x2 x3 x4) (kernelRun0_A.sl.r_22 (F := Ideal) dv i arg1 harg1 arg2 harg2 arg3 harg3 arg4 harg4 arg5 harg5 arg6 harg6 arg7 harg7 arg8 harg8 x0 x1 x2 x3 x4), two (kernelRun0_A.sl.r_23 (F := Ideal) dv i arg1 harg1 arg2 harg2 arg3 harg3 arg4 harg4 arg5 harg5 arg6 harg6 arg7 harg7 arg8 harg8 x0 x1 x2 x3 x4) (kernelRun0_A.sl.r_24 (F := Ideal) dv i arg1 harg1 arg2 harg2 arg3 harg3 arg4 harg4 arg5 harg5 arg6 harg6 arg7 harg7 arg8 harg8 x0 x1 x2 x3 x4)⟩

/-- The carried words before diagonal block 2. -/
def cA1 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) : Cy := ⟨four (kernelRun0_A.sl.r_81 (F := Ideal) dv i arg1 harg1 arg2 harg2 arg3 harg3 arg4 harg4 arg5 harg5 arg6 harg6 arg7 harg7 arg8 harg8 x0 x1 x2 x3 x4) (kernelRun0_A.sl.r_82 (F := Ideal) dv i arg1 harg1 arg2 harg2 arg3 harg3 arg4 harg4 arg5 harg5 arg6 harg6 arg7 harg7 arg8 harg8 x0 x1 x2 x3 x4) (kernelRun0_A.sl.r_84 (F := Ideal) dv i arg1 harg1 arg2 harg2 arg3 harg3 arg4 harg4 arg5 harg5 arg6 harg6 arg7 harg7 arg8 harg8 x0 x1 x2 x3 x4) (kernelRun0_A.sl.r_85 (F := Ideal) dv i arg1 harg1 arg2 harg2 arg3 harg3 arg4 harg4 arg5 harg5 arg6 harg6 arg7 harg7 arg8 harg8 x0 x1 x2 x3 x4), four (kernelRun0_A.sl.r_86 (F := Ideal) dv i arg1 harg1 arg2 harg2 arg3 harg3 arg4 harg4 arg5 harg5 arg6 harg6 arg7 harg7 arg8 harg8 x0 x1 x2 x3 x4) (kernelRun0_A.sl.r_87 (F := Ideal) dv i arg1 harg1 arg2 harg2 arg3 harg3 arg4 harg4 arg5 harg5 arg6 harg6 arg7 harg7 arg8 harg8 x0 x1 x2 x3 x4) (kernelRun0_A.sl.r_88 (F := Ideal) dv i arg1 harg1 arg2 harg2 arg3 harg3 arg4 harg4 arg5 harg5 arg6 harg6 arg7 harg7 arg8 harg8 x0 x1 x2 x3 x4) (kernelRun0_A.sl.r_89 (F := Ideal) dv i arg1 harg1 arg2 harg2 arg3 harg3 arg4 harg4 arg5 harg5 arg6 harg6 arg7 harg7 arg8 harg8 x0 x1 x2 x3 x4), two (kernelRun0_A.sl.r_79 (F := Ideal) dv i arg1 harg1 arg2 harg2 arg3 harg3 arg4 harg4 arg5 harg5 arg6 harg6 arg7 harg7 arg8 harg8 x0 x1 x2 x3 x4) (kernelRun0_A.sl.r_80 (F := Ideal) dv i arg1 harg1 arg2 harg2 arg3 harg3 arg4 harg4 arg5 harg5 arg6 harg6 arg7 harg7 arg8 harg8 x0 x1 x2 x3 x4)⟩

/-- The carried words before diagonal block 3. -/
def cA2 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) : Cy := ⟨four (kernelRun0_A.sl.r_140 (F := Ideal) dv i arg1 harg1 arg2 harg2 arg3 harg3 arg4 harg4 arg5 harg5 arg6 harg6 arg7 harg7 arg8 harg8 x0 x1 x2 x3 x4) (kernelRun0_A.sl.r_141 (F := Ideal) dv i arg1 harg1 arg2 harg2 arg3 harg3 arg4 harg4 arg5 harg5 arg6 harg6 arg7 harg7 arg8 harg8 x0 x1 x2 x3 x4) (kernelRun0_A.sl.r_142 (F := Ideal) dv i arg1 harg1 arg2 harg2 arg3 harg3 arg4 harg4 arg5 harg5 arg6 harg6 arg7 harg7 arg8 harg8 x0 x1 x2 x3 x4) (kernelRun0_A.sl.r_143 (F := Ideal) dv i arg1 harg1 arg2 harg2 arg3 harg3 arg4 harg4 arg5 harg5 arg6 harg6 arg7 harg7 arg8 harg8 x0 x1 x2 x3 x4), four (kernelRun0_A.sl.r_144 (F := Ideal) dv i arg1 harg1 arg2 harg2 arg3 harg3 arg4 harg4 arg5 harg5 arg6 harg6 arg7 harg7 arg8 harg8 x0 x1 x2 x3 x4) (kernelRun0_A.sl.r_145 (F := Ideal) dv i arg1 harg1 arg2 harg2 arg3 harg3 arg4 harg4 arg5 harg5 arg6 harg6 arg7 harg7 arg8 harg8 x0 x1 x2 x3 x4) (kernelRun0_A.sl.r_146 (F := Ideal) dv i arg1 harg1 arg2 harg2 arg3 harg3 arg4 harg4 arg5 harg5 arg6 harg6 arg7 harg7 arg8 harg8 x0 x1 x2 x3 x4) (kernelRun0_A.sl.r_147 (F := Ideal) dv i arg1 harg1 arg2 harg2 arg3 harg3 arg4 harg4 arg5 harg5 arg6 harg6 arg7 harg7 arg8 harg8 x0 x1 x2 x3 x4), two (kernelRun0_A.sl.r_138 (F := Ideal) dv i arg1 harg1 arg2 harg2 arg3 harg3 arg4 harg4 arg5 harg5 arg6 harg6 arg7 harg7 arg8 harg8 x0 x1 x2 x3 x4) (kernelRun0_A.sl.r_139 (F := Ideal) dv i arg1 harg1 arg2 harg2 arg3 harg3 arg4 harg4 arg5 harg5 arg6 harg6 arg7 harg7 arg8 harg8 x0 x1 x2 x3 x4)⟩

/-- The carried words before diagonal block 4. -/
def cA3 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) : Cy := ⟨four (kernelRun0_A.sl.r_201 (F := Ideal) dv i arg1 harg1 arg2 harg2 arg3 harg3 arg4 harg4 arg5 harg5 arg6 harg6 arg7 harg7 arg8 harg8 x0 x1 x2 x3 x4) (kernelRun0_A.sl.r_202 (F := Ideal) dv i arg1 harg1 arg2 harg2 arg3 harg3 arg4 harg4 arg5 harg5 arg6 harg6 arg7 harg7 arg8 harg8 x0 x1 x2 x3 x4) (kernelRun0_A.sl.r_203 (F := Ideal) dv i arg1 harg1 arg2 harg2 arg3 harg3 arg4 harg4 arg5 harg5 arg6 harg6 arg7 harg7 arg8 harg8 x0 x1 x2 x3 x4) (kernelRun0_A.sl.r_204 (F := Ideal) dv i arg1 harg1 arg2 harg2 arg3 harg3 arg4 harg4 arg5 harg5 arg6 harg6 arg7 harg7 arg8 harg8 x0 x1 x2 x3 x4), four (kernelRun0_A.sl.r_205 (F := Ideal) dv i arg1 harg1 arg2 harg2 arg3 harg3 arg4 harg4 arg5 harg5 arg6 harg6 arg7 harg7 arg8 harg8 x0 x1 x2 x3 x4) (kernelRun0_A.sl.r_206 (F := Ideal) dv i arg1 harg1 arg2 harg2 arg3 harg3 arg4 harg4 arg5 harg5 arg6 harg6 arg7 harg7 arg8 harg8 x0 x1 x2 x3 x4) (kernelRun0_A.sl.r_207 (F := Ideal) dv i arg1 harg1 arg2 harg2 arg3 harg3 arg4 harg4 arg5 harg5 arg6 harg6 arg7 harg7 arg8 harg8 x0 x1 x2 x3 x4) (kernelRun0_A.sl.r_208 (F := Ideal) dv i arg1 harg1 arg2 harg2 arg3 harg3 arg4 harg4 arg5 harg5 arg6 harg6 arg7 harg7 arg8 harg8 x0 x1 x2 x3 x4), two (kernelRun0_A.sl.r_199 (F := Ideal) dv i arg1 harg1 arg2 harg2 arg3 harg3 arg4 harg4 arg5 harg5 arg6 harg6 arg7 harg7 arg8 harg8 x0 x1 x2 x3 x4) (kernelRun0_A.sl.r_200 (F := Ideal) dv i arg1 harg1 arg2 harg2 arg3 harg3 arg4 harg4 arg5 harg5 arg6 harg6 arg7 harg7 arg8 harg8 x0 x1 x2 x3 x4)⟩

theorem trips2 (i : grid0.Coords) : (k0_t2_loop i).trips = 0 := by
  revert i; decide +kernel

theorem runA5 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (hc0 : cond0_0 i) (x0 : Vec Ideal S512x256 .f32) (x1 x2 : Vec Ideal S2048x256 .f32) (x3 : Vec Ideal S512x128 .f32) (x4 : Vec Ideal S512x256 .f32) :
    (kernelRun0_A (F := Ideal) dv i arg1 harg1 arg2 harg2 arg3 harg3 arg4 harg4 arg5 harg5 arg6 harg6 arg7 harg7 arg8 harg8 hc0 x0 x1 x2 x3 x4).1 = [⟨Rect.unit (s := S512x256) ![0, 0] S512x256.size inb_S512x256_S512x256_0_0,
      dqStored (step k0_pay106 (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA3 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 3#32) S128x256.size (k0_off3_inb i 3)).toLoadRect (harg2.unread x1)) (View.readAt (Elt Ideal) arg3.view (Rect.unit (s := S2048x256) (k0_off3 i 3#32) S128x256.size (k0_off3_inb i 3)).toLoadRect (harg3.unread x2)))⟩] := by
  unfold kernelRun0_A
  sl_kernel_rfl

theorem hA6_0 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) :
    (kernelRun0_A.sl.H6_1_1 (F := Ideal) dv i arg1 harg1 arg2 harg2 arg3 harg3 arg4 harg4 arg5 harg5 arg6 harg6 arg7 harg7 arg8 harg8 x0 x1 x2 x3 x4) = ⟨(Rect.unit (s := S2048x256) (k0_off3 i 0#32) S128x256.size (k0_off3_inb i 0)), addf (shapeCast S128x256 (View.readAt (Elt Ideal) arg7.view (Rect.unit (s := S2048x256) (k0_off3 i 0#32) S128x256.size (k0_off3_inb i 0)).toLoadRect (arg7.view.writes (Elt Ideal) arg7.view.junk ((S1 dv i arg1 harg1 arg2 harg2 arg3 harg3 arg4 harg4 arg5 harg5 arg6 harg6 arg7 harg7 arg8 harg8 x0 x1 x2 x3 x4 (arg7.view.writes (Elt Ideal) arg7.view.junk [⟨Rect.unit (s := S2048x256) ![0, 0] S2048x256.size inb_S2048x256_S2048x256_0_0, k0_pay104 (F := Ideal)⟩]) (arg8.view.writes (Elt Ideal) arg8.view.junk [⟨Rect.unit (s := S2048x256) ![0, 0] S2048x256.size inb_S2048x256_S2048x256_0_0, k0_pay105 (F := Ideal)⟩]) (k0_t1_loop i).trips).2.1 ++ [⟨Rect.unit (s := S2048x256) ![0, 0] S2048x256.size inb_S2048x256_S2048x256_0_0, k0_pay104 (F := Ideal)⟩]))) shapeCasts_S128x256_S128x256) (dkInc (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA0 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 0#32) S128x256.size (k0_off3_inb i 0)).toLoadRect (harg2.unread x1)) (View.readAt (Elt Ideal) arg3.view (Rect.unit (s := S2048x256) (k0_off3 i 0#32) S128x256.size (k0_off3_inb i 0)).toLoadRect (harg3.unread x2)))⟩ :: ((S1 dv i arg1 harg1 arg2 harg2 arg3 harg3 arg4 harg4 arg5 harg5 arg6 harg6 arg7 harg7 arg8 harg8 x0 x1 x2 x3 x4 (arg7.view.writes (Elt Ideal) arg7.view.junk [⟨Rect.unit (s := S2048x256) ![0, 0] S2048x256.size inb_S2048x256_S2048x256_0_0, k0_pay104 (F := Ideal)⟩]) (arg8.view.writes (Elt Ideal) arg8.view.junk [⟨Rect.unit (s := S2048x256) ![0, 0] S2048x256.size inb_S2048x256_S2048x256_0_0, k0_pay105 (F := Ideal)⟩]) (k0_t1_loop i).trips).2.1 ++ [⟨Rect.unit (s := S2048x256) ![0, 0] S2048x256.size inb_S2048x256_S2048x256_0_0, k0_pay104 (F := Ideal)⟩]) := by
  delta kernelRun0_A.sl.H6_1_1 kernelRun0_A.sl.v332
  rw [show Scf.trips (k0_t2_loop i).lb (k0_t2_loop i).ub (k0_t2_loop i).st = 0 from trips2 i]
  sl_kernel_rfl

theorem hA6_1 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) :
    (kernelRun0_A.sl.H6_2 (F := Ideal) dv i arg1 harg1 arg2 harg2 arg3 harg3 arg4 harg4 arg5 harg5 arg6 harg6 arg7 harg7 arg8 harg8 x0 x1 x2 x3 x4) = ⟨(Rect.unit (s := S2048x256) (k0_off3 i 1#32) S128x256.size (k0_off3_inb i 1)), addf (shapeCast S128x256 (View.readAt (Elt Ideal) arg7.view (Rect.unit (s := S2048x256) (k0_off3 i 1#32) S128x256.size (k0_off3_inb i 1)).toLoadRect (arg7.view.writes (Elt Ideal) arg7.view.junk (kernelRun0_A.sl.H6_1_1 (F := Ideal) dv i arg1 harg1 arg2 harg2 arg3 harg3 arg4 harg4 arg5 harg5 arg6 harg6 arg7 harg7 arg8 harg8 x0 x1 x2 x3 x4))) shapeCasts_S128x256_S128x256) (dkInc (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA1 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 1#32) S128x256.size (k0_off3_inb i 1)).toLoadRect (harg2.unread x1)) (View.readAt (Elt Ideal) arg3.view (Rect.unit (s := S2048x256) (k0_off3 i 1#32) S128x256.size (k0_off3_inb i 1)).toLoadRect (harg3.unread x2)))⟩ :: (kernelRun0_A.sl.H6_1_1 (F := Ideal) dv i arg1 harg1 arg2 harg2 arg3 harg3 arg4 harg4 arg5 harg5 arg6 harg6 arg7 harg7 arg8 harg8 x0 x1 x2 x3 x4) := by
  delta kernelRun0_A.sl.H6_2
  sl_kernel_rfl

theorem hA6_2 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) :
    (kernelRun0_A.sl.H6_3 (F := Ideal) dv i arg1 harg1 arg2 harg2 arg3 harg3 arg4 harg4 arg5 harg5 arg6 harg6 arg7 harg7 arg8 harg8 x0 x1 x2 x3 x4) = ⟨(Rect.unit (s := S2048x256) (k0_off3 i 2#32) S128x256.size (k0_off3_inb i 2)), addf (shapeCast S128x256 (View.readAt (Elt Ideal) arg7.view (Rect.unit (s := S2048x256) (k0_off3 i 2#32) S128x256.size (k0_off3_inb i 2)).toLoadRect (arg7.view.writes (Elt Ideal) arg7.view.junk (kernelRun0_A.sl.H6_2 (F := Ideal) dv i arg1 harg1 arg2 harg2 arg3 harg3 arg4 harg4 arg5 harg5 arg6 harg6 arg7 harg7 arg8 harg8 x0 x1 x2 x3 x4))) shapeCasts_S128x256_S128x256) (dkInc (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA2 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 2#32) S128x256.size (k0_off3_inb i 2)).toLoadRect (harg2.unread x1)) (View.readAt (Elt Ideal) arg3.view (Rect.unit (s := S2048x256) (k0_off3 i 2#32) S128x256.size (k0_off3_inb i 2)).toLoadRect (harg3.unread x2)))⟩ :: (kernelRun0_A.sl.H6_2 (F := Ideal) dv i arg1 harg1 arg2 harg2 arg3 harg3 arg4 harg4 arg5 harg5 arg6 harg6 arg7 harg7 arg8 harg8 x0 x1 x2 x3 x4) := by
  delta kernelRun0_A.sl.H6_3
  sl_kernel_rfl

theorem runA6 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (hc0 : cond0_0 i) (x0 : Vec Ideal S512x256 .f32) (x1 x2 : Vec Ideal S2048x256 .f32) (x3 : Vec Ideal S512x128 .f32) (x4 : Vec Ideal S512x256 .f32) :
    (kernelRun0_A (F := Ideal) dv i arg1 harg1 arg2 harg2 arg3 harg3 arg4 harg4 arg5 harg5 arg6 harg6 arg7 harg7 arg8 harg8 hc0 x0 x1 x2 x3 x4).2.1 = ⟨(Rect.unit (s := S2048x256) (k0_off3 i 3#32) S128x256.size (k0_off3_inb i 3)), addf (shapeCast S128x256 (View.readAt (Elt Ideal) arg7.view (Rect.unit (s := S2048x256) (k0_off3 i 3#32) S128x256.size (k0_off3_inb i 3)).toLoadRect (arg7.view.writes (Elt Ideal) arg7.view.junk (kernelRun0_A.sl.H6_3 (F := Ideal) dv i arg1 harg1 arg2 harg2 arg3 harg3 arg4 harg4 arg5 harg5 arg6 harg6 arg7 harg7 arg8 harg8 x0 x1 x2 x3 x4))) shapeCasts_S128x256_S128x256) (dkInc (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA3 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 3#32) S128x256.size (k0_off3_inb i 3)).toLoadRect (harg2.unread x1)) (View.readAt (Elt Ideal) arg3.view (Rect.unit (s := S2048x256) (k0_off3 i 3#32) S128x256.size (k0_off3_inb i 3)).toLoadRect (harg3.unread x2)))⟩ :: (kernelRun0_A.sl.H6_3 (F := Ideal) dv i arg1 harg1 arg2 harg2 arg3 harg3 arg4 harg4 arg5 harg5 arg6 harg6 arg7 harg7 arg8 harg8 x0 x1 x2 x3 x4) := by
  unfold kernelRun0_A
  sl_kernel_rfl

theorem hA7_0 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) :
    (kernelRun0_A.sl.H7_1_1 (F := Ideal) dv i arg1 harg1 arg2 harg2 arg3 harg3 arg4 harg4 arg5 harg5 arg6 harg6 arg7 harg7 arg8 harg8 x0 x1 x2 x3 x4) = ⟨(Rect.unit (s := S2048x256) (k0_off3 i 0#32) S128x256.size (k0_off3_inb i 0)), addf (shapeCast S128x256 (View.readAt (Elt Ideal) arg8.view (Rect.unit (s := S2048x256) (k0_off3 i 0#32) S128x256.size (k0_off3_inb i 0)).toLoadRect (arg8.view.writes (Elt Ideal) arg8.view.junk ((S1 dv i arg1 harg1 arg2 harg2 arg3 harg3 arg4 harg4 arg5 harg5 arg6 harg6 arg7 harg7 arg8 harg8 x0 x1 x2 x3 x4 (arg7.view.writes (Elt Ideal) arg7.view.junk [⟨Rect.unit (s := S2048x256) ![0, 0] S2048x256.size inb_S2048x256_S2048x256_0_0, k0_pay104 (F := Ideal)⟩]) (arg8.view.writes (Elt Ideal) arg8.view.junk [⟨Rect.unit (s := S2048x256) ![0, 0] S2048x256.size inb_S2048x256_S2048x256_0_0, k0_pay105 (F := Ideal)⟩]) (k0_t1_loop i).trips).2.2 ++ [⟨Rect.unit (s := S2048x256) ![0, 0] S2048x256.size inb_S2048x256_S2048x256_0_0, k0_pay105 (F := Ideal)⟩]))) shapeCasts_S128x256_S128x256) (dvInc (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA0 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 0#32) S128x256.size (k0_off3_inb i 0)).toLoadRect (harg2.unread x1)))⟩ :: ((S1 dv i arg1 harg1 arg2 harg2 arg3 harg3 arg4 harg4 arg5 harg5 arg6 harg6 arg7 harg7 arg8 harg8 x0 x1 x2 x3 x4 (arg7.view.writes (Elt Ideal) arg7.view.junk [⟨Rect.unit (s := S2048x256) ![0, 0] S2048x256.size inb_S2048x256_S2048x256_0_0, k0_pay104 (F := Ideal)⟩]) (arg8.view.writes (Elt Ideal) arg8.view.junk [⟨Rect.unit (s := S2048x256) ![0, 0] S2048x256.size inb_S2048x256_S2048x256_0_0, k0_pay105 (F := Ideal)⟩]) (k0_t1_loop i).trips).2.2 ++ [⟨Rect.unit (s := S2048x256) ![0, 0] S2048x256.size inb_S2048x256_S2048x256_0_0, k0_pay105 (F := Ideal)⟩]) := by
  delta kernelRun0_A.sl.H7_1_1 kernelRun0_A.sl.v341
  rw [show Scf.trips (k0_t2_loop i).lb (k0_t2_loop i).ub (k0_t2_loop i).st = 0 from trips2 i]
  sl_kernel_rfl

theorem hA7_1 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) :
    (kernelRun0_A.sl.H7_2 (F := Ideal) dv i arg1 harg1 arg2 harg2 arg3 harg3 arg4 harg4 arg5 harg5 arg6 harg6 arg7 harg7 arg8 harg8 x0 x1 x2 x3 x4) = ⟨(Rect.unit (s := S2048x256) (k0_off3 i 1#32) S128x256.size (k0_off3_inb i 1)), addf (shapeCast S128x256 (View.readAt (Elt Ideal) arg8.view (Rect.unit (s := S2048x256) (k0_off3 i 1#32) S128x256.size (k0_off3_inb i 1)).toLoadRect (arg8.view.writes (Elt Ideal) arg8.view.junk (kernelRun0_A.sl.H7_1_1 (F := Ideal) dv i arg1 harg1 arg2 harg2 arg3 harg3 arg4 harg4 arg5 harg5 arg6 harg6 arg7 harg7 arg8 harg8 x0 x1 x2 x3 x4))) shapeCasts_S128x256_S128x256) (dvInc (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA1 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 1#32) S128x256.size (k0_off3_inb i 1)).toLoadRect (harg2.unread x1)))⟩ :: (kernelRun0_A.sl.H7_1_1 (F := Ideal) dv i arg1 harg1 arg2 harg2 arg3 harg3 arg4 harg4 arg5 harg5 arg6 harg6 arg7 harg7 arg8 harg8 x0 x1 x2 x3 x4) := by
  delta kernelRun0_A.sl.H7_2
  sl_kernel_rfl

theorem hA7_2 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) :
    (kernelRun0_A.sl.H7_3 (F := Ideal) dv i arg1 harg1 arg2 harg2 arg3 harg3 arg4 harg4 arg5 harg5 arg6 harg6 arg7 harg7 arg8 harg8 x0 x1 x2 x3 x4) = ⟨(Rect.unit (s := S2048x256) (k0_off3 i 2#32) S128x256.size (k0_off3_inb i 2)), addf (shapeCast S128x256 (View.readAt (Elt Ideal) arg8.view (Rect.unit (s := S2048x256) (k0_off3 i 2#32) S128x256.size (k0_off3_inb i 2)).toLoadRect (arg8.view.writes (Elt Ideal) arg8.view.junk (kernelRun0_A.sl.H7_2 (F := Ideal) dv i arg1 harg1 arg2 harg2 arg3 harg3 arg4 harg4 arg5 harg5 arg6 harg6 arg7 harg7 arg8 harg8 x0 x1 x2 x3 x4))) shapeCasts_S128x256_S128x256) (dvInc (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA2 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 2#32) S128x256.size (k0_off3_inb i 2)).toLoadRect (harg2.unread x1)))⟩ :: (kernelRun0_A.sl.H7_2 (F := Ideal) dv i arg1 harg1 arg2 harg2 arg3 harg3 arg4 harg4 arg5 harg5 arg6 harg6 arg7 harg7 arg8 harg8 x0 x1 x2 x3 x4) := by
  delta kernelRun0_A.sl.H7_3
  sl_kernel_rfl

theorem runA7 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (hc0 : cond0_0 i) (x0 : Vec Ideal S512x256 .f32) (x1 x2 : Vec Ideal S2048x256 .f32) (x3 : Vec Ideal S512x128 .f32) (x4 : Vec Ideal S512x256 .f32) :
    (kernelRun0_A (F := Ideal) dv i arg1 harg1 arg2 harg2 arg3 harg3 arg4 harg4 arg5 harg5 arg6 harg6 arg7 harg7 arg8 harg8 hc0 x0 x1 x2 x3 x4).2.2.1 = ⟨(Rect.unit (s := S2048x256) (k0_off3 i 3#32) S128x256.size (k0_off3_inb i 3)), addf (shapeCast S128x256 (View.readAt (Elt Ideal) arg8.view (Rect.unit (s := S2048x256) (k0_off3 i 3#32) S128x256.size (k0_off3_inb i 3)).toLoadRect (arg8.view.writes (Elt Ideal) arg8.view.junk (kernelRun0_A.sl.H7_3 (F := Ideal) dv i arg1 harg1 arg2 harg2 arg3 harg3 arg4 harg4 arg5 harg5 arg6 harg6 arg7 harg7 arg8 harg8 x0 x1 x2 x3 x4))) shapeCasts_S128x256_S128x256) (dvInc (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA3 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 3#32) S128x256.size (k0_off3_inb i 3)).toLoadRect (harg2.unread x1)))⟩ :: (kernelRun0_A.sl.H7_3 (F := Ideal) dv i arg1 harg1 arg2 harg2 arg3 harg3 arg4 harg4 arg5 harg5 arg6 harg6 arg7 harg7 arg8 harg8 x0 x1 x2 x3 x4) := by
  unfold kernelRun0_A
  sl_kernel_rfl

section

variable (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32)

/-- The carry the loop hands on. -/
theorem cA0_eq : cA0 dv i arg1 harg1 arg2 harg2 arg3 harg3 arg4 harg4 arg5 harg5 arg6 harg6 arg7 harg7 arg8 harg8 x0 x1 x2 x3 x4 = cyOf (S1 dv i arg1 harg1 arg2 harg2 arg3 harg3 arg4 harg4 arg5 harg5 arg6 harg6 arg7 harg7 arg8 harg8 x0 x1 x2 x3 x4 (arg7.view.writes (Elt Ideal) arg7.view.junk [⟨Rect.unit (s := S2048x256) ![0, 0] S2048x256.size inb_S2048x256_S2048x256_0_0, k0_pay104 (F := Ideal)⟩]) (arg8.view.writes (Elt Ideal) arg8.view.junk [⟨Rect.unit (s := S2048x256) ![0, 0] S2048x256.size inb_S2048x256_S2048x256_0_0, k0_pay105 (F := Ideal)⟩]) (k0_t1_loop i).trips).1 := by
  unfold cA0
  delta kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24
  rw [show Scf.trips (k0_t2_loop i).lb (k0_t2_loop i).ub (k0_t2_loop i).st = 0 from trips2 i]
  sl_kernel_rfl

/-- The carry after diagonal block 0. -/
theorem cA1_eq : cA1 dv i arg1 harg1 arg2 harg2 arg3 harg3 arg4 harg4 arg5 harg5 arg6 harg6 arg7 harg7 arg8 harg8 x0 x1 x2 x3 x4 = step k0_pay106 (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA0 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 0#32) S128x256.size (k0_off3_inb i 0)).toLoadRect (harg2.unread x1)) (View.readAt (Elt Ideal) arg3.view (Rect.unit (s := S2048x256) (k0_off3 i 0#32) S128x256.size (k0_off3_inb i 0)).toLoadRect (harg3.unread x2)) := by
  refine Eq.trans ?_ (cy_eta _)
  sl_kernel_rfl

/-- The carry after diagonal block 1. -/
theorem cA2_eq : cA2 dv i arg1 harg1 arg2 harg2 arg3 harg3 arg4 harg4 arg5 harg5 arg6 harg6 arg7 harg7 arg8 harg8 x0 x1 x2 x3 x4 = step k0_pay106 (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA1 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 1#32) S128x256.size (k0_off3_inb i 1)).toLoadRect (harg2.unread x1)) (View.readAt (Elt Ideal) arg3.view (Rect.unit (s := S2048x256) (k0_off3 i 1#32) S128x256.size (k0_off3_inb i 1)).toLoadRect (harg3.unread x2)) := by
  refine Eq.trans ?_ (cy_eta _)
  sl_kernel_rfl

/-- The carry after diagonal block 2. -/
theorem cA3_eq : cA3 dv i arg1 harg1 arg2 harg2 arg3 harg3 arg4 harg4 arg5 harg5 arg6 harg6 arg7 harg7 arg8 harg8 x0 x1 x2 x3 x4 = step k0_pay106 (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cA2 dv i arg1 harg1 arg2 harg2 arg3 harg3 arg4 harg4 arg5 harg5 arg6 harg6 arg7 harg7 arg8 harg8 x0 x1 x2 x3 x4) (View.readAt (Elt Ideal) arg2.view (Rect.unit (s := S2048x256) (k0_off3 i 2#32) S128x256.size (k0_off3_inb i 2)).toLoadRect (harg2.unread x1)) (View.readAt (Elt Ideal) arg3.view (Rect.unit (s := S2048x256) (k0_off3 i 2#32) S128x256.size (k0_off3_inb i 2)).toLoadRect (harg3.unread x2)) := by
  refine Eq.trans ?_ (cy_eta _)
  sl_kernel_rfl

end

end Cert.KernelIdeal.SB
-- ==== Proof.Point.lean ====
/-
  What one grid point of the kernel makes of its blocks, over the real numbers.

  The key blocks are taken one by one; the carry holds the sums over the blocks done, and the two accumulated
  outputs hold, in the rows of the blocks done, what this point adds to them.
-/
module

public import proofs.«01_k».proof.Proof.Step
public import Idealize.ShloMosaic.Lib.WritesUnit

@[expose] public section

set_option maxRecDepth 16384

noncomputable section

namespace Cert.KernelIdeal.SB

open Cert.KernelIdeal Cert.KernelIdeal.Gen Idealize.ShloMosaic Idealize.ShloMosaic.TcCoe Idealize.SL.Sem
open Finset (range)

/-- The whole array has these entries. -/
def HasW (x : Vec Ideal S2048x256 .f32) (f : ℕ → ℕ → ℝ) : Prop :=
  ∀ (s : Fin 2048) (l : Fin 256), x (ix2 s l : S2048x256.Idx) = ((f s l : ℝ) : EReal)

theorem HasW.congr {x : Vec Ideal S2048x256 .f32} {f g : ℕ → ℕ → ℝ} (hx : HasW x f)
    (h : ∀ (s : Fin 2048) (l : Fin 256), f s l = g s l) : HasW x g := fun r c => by rw [hx, h]

/-- The block of 512 rows has these entries. -/
def HasR (x : Vec Ideal S512x256 .f32) (f : ℕ → ℕ → ℝ) : Prop :=
  ∀ (r : Fin 512) (l : Fin 256), x (ix2 r l : S512x256.Idx) = ((f r l : ℝ) : EReal)

theorem trips1 (i : grid0.Coords) : (k0_t1_loop i).trips = 4 * (i 0).val := by
  revert i; decide +kernel

theorem off1 (i : grid0.Coords) (k : Fin (k0_t1_loop i).trips) : k0_off1 i k = ![128 * k.val, 0] := by
  revert i; decide +kernel

theorem off3 (i : grid0.Coords) (t : Fin 4) : k0_off3 i (BitVec.ofNat 32 t) = ![128 * (4 * (i 0).val + t), 0] := by
  revert i t; decide +kernel

theorem zero2 : (![0, 0] : Fin 2 → ℕ) = fun _ => 0 := by
  funext a; match a with
  | 0 => rfl
  | 1 => rfl

section Reads

variable {sp : Space} {X : Memref sig .tc sp S2048x256 .f32}

/-- Rows read out of an array. -/
theorem rd_rows (f : X.view.ty.Contents (Elt Ideal)) (off : Fin S2048x256.rank → ℕ) (inb) (j : ℕ) (hoff : off = ![128 * j, 0])
    {g : ℕ → ℕ → ℝ} (h : HasW (X.view.read (Elt Ideal) f) g) :
    HasL (View.readAt (Elt Ideal) X.view (Rect.unit (s := S2048x256) off S128x256.size inb).toLoadRect f) fun a l => g (128 * j + a) l := by
  intro a l
  subst hoff
  have ha : 128 * j + (a : ℕ) < 2048 := by have := inb 0; have h3 : 128 * j + 128 ≤ 2048 := this; omega
  rw [View.readAt_eq_ld, View.ld_unit_apply_of _ _ _ _ _ (ix2 ⟨128 * j + a, ha⟩ l : S2048x256.Idx) (by
    intro b; match b with
    | 0 => rfl
    | 1 => exact (Nat.zero_add _).symm)]
  exact h _ _

/-- Rows added to an array. -/
theorem add_rows (Z : X.view.ty.Contents (Elt Ideal)) (ps) (off : Fin S2048x256.rank → ℕ) (inb) (hs) (j : ℕ) (hoff : off = ![128 * j, 0])
    (inc : L) {f g : ℕ → ℕ → ℝ} (h : HasW (X.view.read (Elt Ideal) (X.view.writes (Elt Ideal) Z ps)) f) (hg : HasL inc g) :
    HasW (X.view.read (Elt Ideal) (X.view.writes (Elt Ideal) Z (⟨Rect.unit (s := S2048x256) off S128x256.size inb,
      addf (shapeCast S128x256 (View.readAt (Elt Ideal) X.view (Rect.unit (s := S2048x256) off S128x256.size inb).toLoadRect (X.view.writes (Elt Ideal) Z ps)) hs) inc⟩ :: ps)))
      fun s l => f s l + if 128 * j ≤ s ∧ s < 128 * (j + 1) then g (s - 128 * j) l else 0 := by
  intro s l
  beta_reduce
  by_cases hsj : 128 * j ≤ (s : ℕ) ∧ (s : ℕ) < 128 * (j + 1)
  · have hx : (s : ℕ) - 128 * j < 128 := by omega
    rw [View.read_writes_cons_rows_of_mem X.view Z inb _ ps (ix2 s l : S2048x256.Idx) (ix2 ⟨(s : ℕ) - 128 * j, hx⟩ l : S128x256.Idx) hoff
      (show (s : ℕ) = 128 * j + ((s : ℕ) - 128 * j) by omega) rfl, if_pos hsj]
    show (shapeCast S128x256 _ hs) _ + inc _ = _
    rw [show shapeCast S128x256 (View.readAt (Elt Ideal) X.view (Rect.unit (s := S2048x256) off S128x256.size inb).toLoadRect (X.view.writes (Elt Ideal) Z ps)) hs = _ from shapeCast_self .., rd_rows _ off inb j hoff h, hg, ← EReal.coe_add]
    show ((f (128 * j + ((s : ℕ) - 128 * j)) l + _ : ℝ) : EReal) = _
    rw [show 128 * j + ((s : ℕ) - 128 * j) = s by omega]
  · rw [View.read_writes_cons_rows_of_not_mem (W := 128) X.view Z inb _ ps (ix2 s l : S2048x256.Idx) hoff rfl
      (show (s : ℕ) < 128 * j ∨ 128 * j + 128 ≤ (s : ℕ) by omega), if_neg hsj, h, add_zero]

end Reads

theorem rd_whole {sp : Space} {s : Shape} {X : Memref sig .tc sp s .f32} (hX : X.IsWhole) (off : Fin s.rank → ℕ) (h0 : off = fun _ => 0)
    (inb) (x : Vec Ideal s .f32) :
    View.readAt (Elt Ideal) X.view (Rect.unit (s := s) off s.size inb).toLoadRect (hX.unread x) = x := by
  rw [View.readAt_eq_ld, View.ld_unit_zero h0, hX.read_unread]

theorem ge_bit {a b : ℕ} (ha : a < 2 ^ 31) (hb : b < 2 ^ 31) :
    IntOp.cmpi .sge (BitVec.ofNat 32 a) (BitVec.ofNat 32 b) = BitVec.ofBool (decide (b ≤ a)) := by
  word_cmp

theorem eighth : Ideal.ofBits FTy.f32 1040187392#32 = ((1 / 8 : ℝ) : EReal) := by
  simp [Ideal.ofBits, Ideal.ieee]
  rw [← EReal.coe_mul]
  norm_num

/-- The low lanes kept. -/
theorem sel_lo {l : ℕ} (hl : l < 128) {x : EReal} {f : ℝ} (hx : x = (f : EReal)) :
    Scalar.select (IntOp.cmpi .slt (BitVec.ofNat 32 l) 64#32) x 0 = ((if l / 64 = 0 then f else 0 : ℝ) : EReal) := by
  rw [show (64#32) = BitVec.ofNat 32 64 from rfl, lt_bit (by omega) (by omega), select_bit, hx]
  by_cases h : l < 64
  · rw [if_pos h, if_pos (by omega)]
  · rw [if_neg h, if_neg (by omega), EReal.coe_zero]

/-- The high lanes kept. -/
theorem sel_hi {l : ℕ} (hl : l < 128) {x : EReal} {f : ℝ} (hx : x = (f : EReal)) :
    Scalar.select (IntOp.cmpi .sge (BitVec.ofNat 32 l) 64#32) x 0 = ((if l / 64 = 1 then f else 0 : ℝ) : EReal) := by
  rw [show (64#32) = BitVec.ofNat 32 64 from rfl, ge_bit (by omega) (by omega), select_bit, hx]
  by_cases h : 64 ≤ l
  · rw [if_pos h, if_pos (by omega)]
  · rw [if_neg h, if_neg (by omega), EReal.coe_zero]

theorem has_pt {D : Tab} {i : ℕ} {x0 : Vec Ideal S512x256 .f32} {x3 : Vec Ideal S512x128 .f32} {x4 : Vec Ideal S512x256 .f32}
    (h0 : HasR x0 fun r l => D.q (512 * i + r) l) (h3 : ∀ (r : Fin 512) (h : Fin 4), x3 (ix2 r (⟨h, by omega⟩ : Fin 128) : S512x128.Idx) = ((tot D h (512 * i + r) : ℝ) : EReal))
    (h4 : HasR x4 fun r l => D.d (512 * i + r) l) : HasPt D i (ptIn x0 x3 x4) where
  qm h := by
    match h with
    | 0 =>
      intro r l
      pointwise [ptIn, ptOf, four, k0_pay111, k0_pay108, k0_pay106]
      exact sel_lo l.isLt (by rw [h0, eighth, ← EReal.coe_mul])
    | 1 =>
      intro r l
      pointwise [ptIn, ptOf, four, k0_pay112, k0_pay108, k0_pay107]
      exact sel_hi l.isLt (by rw [h0, eighth, ← EReal.coe_mul])
    | 2 =>
      intro r l
      pointwise [ptIn, ptOf, four, k0_pay113, k0_pay108, k0_pay106]
      exact sel_lo l.isLt (by rw [h0, eighth, ← EReal.coe_mul])
    | 3 =>
      intro r l
      pointwise [ptIn, ptOf, four, k0_pay114, k0_pay108, k0_pay107]
      exact sel_hi l.isLt (by rw [h0, eighth, ← EReal.coe_mul])
  dm h := by
    match h with
    | 0 =>
      intro r l
      pointwise [ptIn, ptOf, four, k0_pay115, k0_pay109, k0_pay106]
      exact sel_lo l.isLt (by rw [h4])
    | 1 =>
      intro r l
      pointwise [ptIn, ptOf, four, k0_pay117, k0_pay116, k0_pay109, k0_pay107]
      exact sel_hi l.isLt (by rw [h4])
    | 2 =>
      intro r l
      pointwise [ptIn, ptOf, four, k0_pay118, k0_pay109, k0_pay106]
      exact sel_lo l.isLt (by rw [h4])
    | 3 =>
      intro r l
      pointwise [ptIn, ptOf, four, k0_pay119, k0_pay109, k0_pay107]
      exact sel_hi l.isLt (by rw [h4])
  tot h := by
    match h with
    | 0 =>
      intro r
      pointwise [ptIn, ptOf, four, k0_pay120, k0_pay110]
      exact h3 r 0
    | 1 =>
      intro r
      pointwise [ptIn, ptOf, four, k0_pay121, k0_pay110]
      exact h3 r 1
    | 2 =>
      intro r
      pointwise [ptIn, ptOf, four, k0_pay122, k0_pay110]
      exact h3 r 2
    | 3 =>
      intro r
      pointwise [ptIn, ptOf, four, k0_pay123, k0_pay110]
      exact h3 r 3

/-- The carry the loops start from. -/
theorem has_zero (D : Tab) (i : ℕ) : HasCy D i 0 (cyOf tup0) where
  hd h := by
    match h with
    | 0 => intro r; pointwise [tup0, cyOf, four, k0_pay126]; simp
    | 1 => intro r; pointwise [tup0, cyOf, four, k0_pay127]; simp
    | 2 => intro r; pointwise [tup0, cyOf, four, k0_pay128]; simp
    | 3 => intro r; pointwise [tup0, cyOf, four, k0_pay129]; simp
  eh h := by
    match h with
    | 0 => intro r; pointwise [tup0, cyOf, four, k0_pay126]; simp
    | 1 => intro r; pointwise [tup0, cyOf, four, k0_pay127]; simp
    | 2 => intro r; pointwise [tup0, cyOf, four, k0_pay128]; simp
    | 3 => intro r; pointwise [tup0, cyOf, four, k0_pay129]; simp
  dq p := by
    match p with
    | 0 => intro r l; pointwise [tup0, cyOf, two, k0_pay130]; simp
    | 1 => intro r l; pointwise [tup0, cyOf, two, k0_pay131]; simp

/-- The block before the diagonal is kept whole. -/
theorem masks_none {i j : ℕ} (h : j < 4 * i) : Masks i j none := fun x r c => by
  rw [if_pos (by omega)]
  rfl

/-- The block on the diagonal is kept below the diagonal. -/
theorem masks_diag (i : ℕ) (t : Fin 4) : Masks i (4 * i + t) (some (dmask (BitVec.ofNat 32 (128 * t)))) := fun x r c => by
  rw [keep_dmask _ (by omega)]
  exact if_congr (by omega) rfl rfl

/-- What the query block has added, over the first `j` key blocks, to the keys' gradient. -/
def upK (D : Tab) (i j s l : ℕ) : ℝ :=
  if s < 128 * j then ∑ r ∈ range 512, dzz D (l / 64) (512 * i + r) s * (D.q (512 * i + r) l * (1 / 8)) else 0

/-- What the query block has added, over the first `j` key blocks, to the values' gradient. -/
def upV (D : Tab) (i j s l : ℕ) : ℝ :=
  if s < 128 * j then ∑ r ∈ range 512, ww D (l / 64) (512 * i + r) s * D.d (512 * i + r) l else 0

/-- The carry and the two accumulated outputs after `j` key blocks. -/
structure Inv (D : Tab) (i j : ℕ) (c : Cy) (A7 A8 : Vec Ideal S2048x256 .f32) (F7 F8 : ℕ → ℕ → ℝ) : Prop where
  cy : HasCy D i j c
  dk : HasW A7 fun s l => F7 s l + upK D i j s l
  dv : HasW A8 fun s l => F8 s l + upV D i j s l

theorem grow (j s : ℕ) (F : ℝ) (f : ℕ → ℝ) :
    (F + if s < 128 * j then f s else 0) + (if 128 * j ≤ s ∧ s < 128 * (j + 1) then f (128 * j + (s - 128 * j)) else 0)
      = F + if s < 128 * (j + 1) then f s else 0 := by
  by_cases h : s < 128 * j
  · rw [if_pos h, if_neg (by omega), if_pos (by omega), add_zero]
  · by_cases h' : s < 128 * (j + 1)
    · rw [if_neg h, if_pos (by omega), if_pos h', add_zero, show 128 * j + (s - 128 * j) = s by omega]
    · rw [if_neg h, if_neg (by omega), if_neg h', add_zero]

/-- One key block more. -/
theorem inv_step {D : Tab} {i j : ℕ} {c : Cy} {P : Pt} {mk : Option (IVec S512x128 1)} {kb vb : L} {F7 F8 : ℕ → ℕ → ℝ}
    {X7 X8 : Memref sig .tc .vmem S2048x256 .f32} (Z7 : X7.view.ty.Contents (Elt Ideal)) (Z8 : X8.view.ty.Contents (Elt Ideal)) (L7) (L8)
    (hi : Inv D i j c (X7.view.read (Elt Ideal) (X7.view.writes (Elt Ideal) Z7 L7)) (X8.view.read (Elt Ideal) (X8.view.writes (Elt Ideal) Z8 L8)) F7 F8)
    (hP : HasPt D i P) (hm : Masks i j mk) (hk : HasL kb fun a l => D.k (128 * j + a) l) (hv : HasL vb fun a l => D.v (128 * j + a) l)
    (off : Fin S2048x256.rank → ℕ) (inb) (hs) (hoff : off = ![128 * j, 0]) :
    Inv D i (j + 1) (step k0_pay106 mk P c kb vb)
      (X7.view.read (Elt Ideal) (X7.view.writes (Elt Ideal) Z7 (⟨Rect.unit (s := S2048x256) off S128x256.size inb,
        addf (shapeCast S128x256 (View.readAt (Elt Ideal) X7.view (Rect.unit (s := S2048x256) off S128x256.size inb).toLoadRect (X7.view.writes (Elt Ideal) Z7 L7)) hs) (dkInc mk P c kb vb)⟩ :: L7)))
      (X8.view.read (Elt Ideal) (X8.view.writes (Elt Ideal) Z8 (⟨Rect.unit (s := S2048x256) off S128x256.size inb,
        addf (shapeCast S128x256 (View.readAt (Elt Ideal) X8.view (Rect.unit (s := S2048x256) off S128x256.size inb).toLoadRect (X8.view.writes (Elt Ideal) Z8 L8)) hs) (dvInc mk P c kb)⟩ :: L8)))
      F7 F8 where
  cy := has_step hP hi.cy hm hk hv
  dk := (add_rows Z7 L7 off inb hs j hoff _ hi.dk (has_dkInc hP hi.cy hm hk hv)).congr fun s l =>
    grow j s (F7 s l) fun s => ∑ r ∈ range 512, dzz D (l / 64) (512 * i + r) s * (D.q (512 * i + r) l * (1 / 8))
  dv := (add_rows Z8 L8 off inb hs j hoff _ hi.dv (has_dvInc hP hi.cy hm hk)).congr fun s l =>
    grow j s (F8 s l) fun s => ∑ r ∈ range 512, ww D (l / 64) (512 * i + r) s * D.d (512 * i + r) l

/-- The dq rows, the columns of the two pairs of heads side by side and scaled. -/
theorem has_dqStored {c : Cy} {f : ℕ → ℕ → ℕ → ℝ} (h : ∀ p : Fin 2, HasT (c.dq p) (f p)) :
    HasR (dqStored c) fun r l => f (l / 128) r (l % 128) * (1 / 8) := by
  intro r l
  pointwise [dqStored, k0_pay1]
  rw [eighth]
  by_cases hl : (l : ℕ) < 128
  · rw [dif_pos hl, h 0, show (l : ℕ) / 128 = 0 by omega, show (l : ℕ) % 128 = l by omega, ← EReal.coe_mul]
    rfl
  · rw [dif_neg hl, h 1, show (l : ℕ) / 128 = 1 by omega, show (l : ℕ) % 128 = l - 128 by omega, ← EReal.coe_mul]
    rfl

theorem sum_cut {m n : ℕ} (h : m ≤ n) (f : ℕ → ℝ) (hz : ∀ s, m ≤ s → f s = 0) : ∑ s ∈ range m, f s = ∑ s ∈ range n, f s :=
  Finset.sum_subset (fun a ha => Finset.mem_range.2 ((Finset.mem_range.1 ha).trans_le h))
    (fun a _ ha => hz a (by rwa [Finset.mem_range, not_lt] at ha))

theorem ww_zero (D : Tab) {h t s : ℕ} (hs : t ≤ s) : ww D h t s = 0 := if_neg (by omega)

theorem dzz_zero (D : Tab) {h t s : ℕ} (hs : t ≤ s) : dzz D h t s = 0 := if_neg (by omega)

/-- After the last key block of a query block. -/
theorem inv_end {D : Tab} {i : ℕ} {c : Cy} {A7 A8 : Vec Ideal S2048x256 .f32} {F7 F8 : ℕ → ℕ → ℝ} (h4 : i < 4)
    (h : Inv D i (4 * i + 4) c A7 A8 F7 F8) :
    HasR (dqStored c) (fun r l => ∑ s ∈ range 2048, dzz D (l / 64) (512 * i + r) s * (1 / 8) * D.k s l)
    ∧ HasW A7 (fun s l => F7 s l + ∑ r ∈ range 512, dzz D (l / 64) (512 * i + r) s * (D.q (512 * i + r) l * (1 / 8)))
    ∧ HasW A8 (fun s l => F8 s l + ∑ r ∈ range 512, ww D (l / 64) (512 * i + r) s * D.d (512 * i + r) l) := by
  have hd := has_dqStored (f := fun p r l => ∑ s ∈ range (128 * (4 * i + 4)), dzz D (2 * p + l / 64) (512 * i + r) s * D.k s (128 * p + l)) h.cy.dq
  have cut : ∀ (r : Fin 512) (l : Fin 256), (∑ s ∈ range (128 * (4 * i + 4)), dzz D (2 * ((l : ℕ) / 128) + (l : ℕ) % 128 / 64) (512 * i + r) s * D.k s (128 * ((l : ℕ) / 128) + (l : ℕ) % 128)) * (1 / 8)
      = ∑ s ∈ range 2048, dzz D (l / 64) (512 * i + r) s * (1 / 8) * D.k s l := fun r l => by
    rw [Finset.sum_mul, show 2 * ((l : ℕ) / 128) + (l : ℕ) % 128 / 64 = l / 64 by omega, show 128 * ((l : ℕ) / 128) + (l : ℕ) % 128 = l by omega]
    refine Eq.trans (Finset.sum_congr rfl fun s _ => mul_right_comm _ _ _) (sum_cut (show 128 * (4 * i + 4) ≤ 2048 by omega) _ fun s hs => ?_)
    rw [dzz_zero D (by omega), zero_mul, zero_mul]
  refine ⟨fun r l => (hd r l).trans (congrArg _ (cut r l)), h.dk.congr fun s l => ?_, h.dv.congr fun s l => ?_⟩
  · unfold upK
    refine congrArg₂ _ rfl ?_
    by_cases hs : (s : ℕ) < 128 * (4 * i + 4)
    · rw [if_pos hs]
    · rw [if_neg hs]
      exact (Finset.sum_eq_zero fun r hr => by rw [dzz_zero D (by have := Finset.mem_range.1 hr; omega), zero_mul]).symm
  · unfold upV
    refine congrArg₂ _ rfl ?_
    by_cases hs : (s : ℕ) < 128 * (4 * i + 4)
    · rw [if_pos hs]
    · rw [if_neg hs]
      exact (Finset.sum_eq_zero fun r hr => by rw [ww_zero D (by have := Finset.mem_range.1 hr; omega), zero_mul]).symm

section Loop

variable (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32)
  (f7 : BufTy.Contents (Elt Ideal) arg7.view.ty) (f8 : BufTy.Contents (Elt Ideal) arg8.view.ty)

/-- One trip of the loop over the key blocks before the diagonal. -/
theorem S1_succ (n : ℕ) (h : n < (k0_t1_loop i).trips) :
    S1 dv i arg1 harg1 arg2 harg2 arg3 harg3 arg4 harg4 arg5 harg5 arg6 harg6 arg7 harg7 arg8 harg8 x0 x1 x2 x3 x4 f7 f8 (n + 1)
      = (tup (step k0_pay106 none (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cyOf (S1 dv i arg1 harg1 arg2 harg2 arg3 harg3 arg4 harg4 arg5 harg5 arg6 harg6 arg7 harg7 arg8 harg8 x0 x1 x2 x3 x4 f7 f8 n).1) (View.readAt (Elt Ideal) arg2.view (Rect.unit (s := S2048x256) (k0_off1 i ⟨n, h⟩) S128x256.size (k0_off1_inb i ⟨n, h⟩)).toLoadRect (harg2.unread x1)) (View.readAt (Elt Ideal) arg3.view (Rect.unit (s := S2048x256) (k0_off1 i ⟨n, h⟩) S128x256.size (k0_off1_inb i ⟨n, h⟩)).toLoadRect (harg3.unread x2))),
        ⟨(Rect.unit (s := S2048x256) (k0_off1 i ⟨n, h⟩) S128x256.size (k0_off1_inb i ⟨n, h⟩)), addf (shapeCast S128x256 (View.readAt (Elt Ideal) arg7.view (Rect.unit (s := S2048x256) (k0_off1 i ⟨n, h⟩) S128x256.size (k0_off1_inb i ⟨n, h⟩)).toLoadRect (arg7.view.writes (Elt Ideal) f7 (S1 dv i arg1 harg1 arg2 harg2 arg3 harg3 arg4 harg4 arg5 harg5 arg6 harg6 arg7 harg7 arg8 harg8 x0 x1 x2 x3 x4 f7 f8 n).2.1)) shapeCasts_S128x256_S128x256) (dkInc none (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cyOf (S1 dv i arg1 harg1 arg2 harg2 arg3 harg3 arg4 harg4 arg5 harg5 arg6 harg6 arg7 harg7 arg8 harg8 x0 x1 x2 x3 x4 f7 f8 n).1) (View.readAt (Elt Ideal) arg2.view (Rect.unit (s := S2048x256) (k0_off1 i ⟨n, h⟩) S128x256.size (k0_off1_inb i ⟨n, h⟩)).toLoadRect (harg2.unread x1)) (View.readAt (Elt Ideal) arg3.view (Rect.unit (s := S2048x256) (k0_off1 i ⟨n, h⟩) S128x256.size (k0_off1_inb i ⟨n, h⟩)).toLoadRect (harg3.unread x2)))⟩ :: (S1 dv i arg1 harg1 arg2 harg2 arg3 harg3 arg4 harg4 arg5 harg5 arg6 harg6 arg7 harg7 arg8 harg8 x0 x1 x2 x3 x4 f7 f8 n).2.1,
        ⟨(Rect.unit (s := S2048x256) (k0_off1 i ⟨n, h⟩) S128x256.size (k0_off1_inb i ⟨n, h⟩)), addf (shapeCast S128x256 (View.readAt (Elt Ideal) arg8.view (Rect.unit (s := S2048x256) (k0_off1 i ⟨n, h⟩) S128x256.size (k0_off1_inb i ⟨n, h⟩)).toLoadRect (arg8.view.writes (Elt Ideal) f8 (S1 dv i arg1 harg1 arg2 harg2 arg3 harg3 arg4 harg4 arg5 harg5 arg6 harg6 arg7 harg7 arg8 harg8 x0 x1 x2 x3 x4 f7 f8 n).2.2)) shapeCasts_S128x256_S128x256) (dvInc none (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cyOf (S1 dv i arg1 harg1 arg2 harg2 arg3 harg3 arg4 harg4 arg5 harg5 arg6 harg6 arg7 harg7 arg8 harg8 x0 x1 x2 x3 x4 f7 f8 n).1) (View.readAt (Elt Ideal) arg2.view (Rect.unit (s := S2048x256) (k0_off1 i ⟨n, h⟩) S128x256.size (k0_off1_inb i ⟨n, h⟩)).toLoadRect (harg2.unread x1)))⟩ :: (S1 dv i arg1 harg1 arg2 harg2 arg3 harg3 arg4 harg4 arg5 harg5 arg6 harg6 arg7 harg7 arg8 harg8 x0 x1 x2 x3 x4 f7 f8 n).2.2) := by
  unfold S1
  refine (st_k0_t1_succ (F := Ideal) _ _ _ _ _ _ _ _ _ _ _ _ _ _ _ _ _ _ _ _ _ _ _ _ _ _ _ _ _ _ _ _ _ _ _ _ ⟨n, h⟩).trans ?_
  refine Prod.ext (tripR ..) (Prod.ext ?_ ?_)
  · exact congrArg (· ++ _) (tripL7 ..)
  · exact congrArg (· ++ _) (tripL8 ..)

variable {D : Tab} {F7 F8 : ℕ → ℕ → ℝ}

include arg1 harg1 arg4 harg4 arg5 harg5 in
/-- What the point holds fixed, from its blocks. -/
theorem has_point (h0 : HasR x0 fun r l => D.q (512 * (i 0).val + r) l)
    (h3 : ∀ (r : Fin 512) (h : Fin 4), x3 (ix2 r (⟨h, by omega⟩ : Fin 128) : S512x128.Idx) = ((tot D h (512 * (i 0).val + r) : ℝ) : EReal))
    (h4 : HasR x4 fun r l => D.d (512 * (i 0).val + r) l) :
    HasPt D (i 0).val (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) := by
  rw [rd_whole harg1 _ zero2, rd_whole harg4 _ zero2, rd_whole harg5 _ zero2]
  exact has_pt h0 h3 h4

/-- The loop over the key blocks before the diagonal. -/
theorem has_S1 (h0 : HasR x0 fun r l => D.q (512 * (i 0).val + r) l) (h1 : HasW x1 D.k) (h2 : HasW x2 D.v)
    (h3 : ∀ (r : Fin 512) (h : Fin 4), x3 (ix2 r (⟨h, by omega⟩ : Fin 128) : S512x128.Idx) = ((tot D h (512 * (i 0).val + r) : ℝ) : EReal))
    (h4 : HasR x4 fun r l => D.d (512 * (i 0).val + r) l)
    (h7 : HasW (arg7.view.read (Elt Ideal) f7) F7) (h8 : HasW (arg8.view.read (Elt Ideal) f8) F8) (n : ℕ) (hn : n ≤ (k0_t1_loop i).trips) :
    Inv D (i 0).val n (cyOf (S1 dv i arg1 harg1 arg2 harg2 arg3 harg3 arg4 harg4 arg5 harg5 arg6 harg6 arg7 harg7 arg8 harg8 x0 x1 x2 x3 x4 f7 f8 n).1) (arg7.view.read (Elt Ideal) (arg7.view.writes (Elt Ideal) f7 (S1 dv i arg1 harg1 arg2 harg2 arg3 harg3 arg4 harg4 arg5 harg5 arg6 harg6 arg7 harg7 arg8 harg8 x0 x1 x2 x3 x4 f7 f8 n).2.1)) (arg8.view.read (Elt Ideal) (arg8.view.writes (Elt Ideal) f8 (S1 dv i arg1 harg1 arg2 harg2 arg3 harg3 arg4 harg4 arg5 harg5 arg6 harg6 arg7 harg7 arg8 harg8 x0 x1 x2 x3 x4 f7 f8 n).2.2)) F7 F8 := by
  induction n with
  | zero => exact ⟨has_zero D _, h7.congr fun s l => by simp [upK], h8.congr fun s l => by simp [upV]⟩
  | succ n ih =>
    rw [S1_succ _ _ _ _ _ _ _ _ _ _ _ _ _ _ _ _ _ _ _ _ _ _ _ _ _ n hn, cyOf_tup]
    have ht := trips1 i
    exact inv_step _ _ _ _ (ih (by omega)) (has_point i arg1 harg1 arg4 harg4 arg5 harg5 x0 x3 x4 h0 h3 h4) (masks_none (by omega))
      (rd_rows _ _ _ _ (off1 i ⟨n, hn⟩) (by rw [harg2.read_unread]; exact h1)) (rd_rows _ _ _ _ (off1 i ⟨n, hn⟩) (by rw [harg3.read_unread]; exact h2)) _ _ _ (off1 i ⟨n, hn⟩)

theorem has_S1_end (h0 : HasR x0 fun r l => D.q (512 * (i 0).val + r) l) (h1 : HasW x1 D.k) (h2 : HasW x2 D.v)
    (h3 : ∀ (r : Fin 512) (h : Fin 4), x3 (ix2 r (⟨h, by omega⟩ : Fin 128) : S512x128.Idx) = ((tot D h (512 * (i 0).val + r) : ℝ) : EReal))
    (h4 : HasR x4 fun r l => D.d (512 * (i 0).val + r) l)
    (h7 : HasW (arg7.view.read (Elt Ideal) f7) F7) (h8 : HasW (arg8.view.read (Elt Ideal) f8) F8) :
    Inv D (i 0).val (4 * (i 0).val) (cyOf (S1 dv i arg1 harg1 arg2 harg2 arg3 harg3 arg4 harg4 arg5 harg5 arg6 harg6 arg7 harg7 arg8 harg8 x0 x1 x2 x3 x4 f7 f8 (k0_t1_loop i).trips).1) (arg7.view.read (Elt Ideal) (arg7.view.writes (Elt Ideal) f7 (S1 dv i arg1 harg1 arg2 harg2 arg3 harg3 arg4 harg4 arg5 harg5 arg6 harg6 arg7 harg7 arg8 harg8 x0 x1 x2 x3 x4 f7 f8 (k0_t1_loop i).trips).2.1)) (arg8.view.read (Elt Ideal) (arg8.view.writes (Elt Ideal) f8 (S1 dv i arg1 harg1 arg2 harg2 arg3 harg3 arg4 harg4 arg5 harg5 arg6 harg6 arg7 harg7 arg8 harg8 x0 x1 x2 x3 x4 f7 f8 (k0_t1_loop i).trips).2.2)) F7 F8 :=
  Eq.mp (congrArg (fun j => Inv D (i 0).val j _ _ _ F7 F8) (trips1 i)) (has_S1 dv i arg1 harg1 arg2 harg2 arg3 harg3 arg4 harg4 arg5 harg5 arg6 harg6 arg7 harg7 arg8 harg8 x0 x1 x2 x3 x4 f7 f8 h0 h1 h2 h3 h4 h7 h8 _ le_rfl)

/-- The four key blocks on the diagonal. -/
theorem has_diag (h0 : HasR x0 fun r l => D.q (512 * (i 0).val + r) l) (h1 : HasW x1 D.k) (h2 : HasW x2 D.v)
    (h3 : ∀ (r : Fin 512) (h : Fin 4), x3 (ix2 r (⟨h, by omega⟩ : Fin 128) : S512x128.Idx) = ((tot D h (512 * (i 0).val + r) : ℝ) : EReal))
    (h4 : HasR x4 fun r l => D.d (512 * (i 0).val + r) l)
    (Z7 : BufTy.Contents (Elt Ideal) arg7.view.ty) (Z8 : BufTy.Contents (Elt Ideal) arg8.view.ty)
    {L0 L1 L2 L3 L4 M0 M1 M2 M3 M4 : List (View.Piece (Elt Ideal) S2048x256 .f32)} {c0 c1 c2 c3 : Cy}
    (hi : Inv D (i 0).val (4 * (i 0).val) c0 (arg7.view.read (Elt Ideal) (arg7.view.writes (Elt Ideal) Z7 L0)) (arg8.view.read (Elt Ideal) (arg8.view.writes (Elt Ideal) Z8 M0)) F7 F8)
    (e0 : c1 = step k0_pay106 (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c0 (View.readAt (Elt Ideal) arg2.view (Rect.unit (s := S2048x256) (k0_off3 i 0#32) S128x256.size (k0_off3_inb i 0)).toLoadRect (harg2.unread x1)) (View.readAt (Elt Ideal) arg3.view (Rect.unit (s := S2048x256) (k0_off3 i 0#32) S128x256.size (k0_off3_inb i 0)).toLoadRect (harg3.unread x2)))
    (e1 : c2 = step k0_pay106 (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c1 (View.readAt (Elt Ideal) arg2.view (Rect.unit (s := S2048x256) (k0_off3 i 1#32) S128x256.size (k0_off3_inb i 1)).toLoadRect (harg2.unread x1)) (View.readAt (Elt Ideal) arg3.view (Rect.unit (s := S2048x256) (k0_off3 i 1#32) S128x256.size (k0_off3_inb i 1)).toLoadRect (harg3.unread x2)))
    (e2 : c3 = step k0_pay106 (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c2 (View.readAt (Elt Ideal) arg2.view (Rect.unit (s := S2048x256) (k0_off3 i 2#32) S128x256.size (k0_off3_inb i 2)).toLoadRect (harg2.unread x1)) (View.readAt (Elt Ideal) arg3.view (Rect.unit (s := S2048x256) (k0_off3 i 2#32) S128x256.size (k0_off3_inb i 2)).toLoadRect (harg3.unread x2)))
    (l0 : L1 = ⟨(Rect.unit (s := S2048x256) (k0_off3 i 0#32) S128x256.size (k0_off3_inb i 0)), addf (shapeCast S128x256 (View.readAt (Elt Ideal) arg7.view (Rect.unit (s := S2048x256) (k0_off3 i 0#32) S128x256.size (k0_off3_inb i 0)).toLoadRect (arg7.view.writes (Elt Ideal) Z7 L0)) shapeCasts_S128x256_S128x256) (dkInc (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c0 (View.readAt (Elt Ideal) arg2.view (Rect.unit (s := S2048x256) (k0_off3 i 0#32) S128x256.size (k0_off3_inb i 0)).toLoadRect (harg2.unread x1)) (View.readAt (Elt Ideal) arg3.view (Rect.unit (s := S2048x256) (k0_off3 i 0#32) S128x256.size (k0_off3_inb i 0)).toLoadRect (harg3.unread x2)))⟩ :: L0)
    (m0 : M1 = ⟨(Rect.unit (s := S2048x256) (k0_off3 i 0#32) S128x256.size (k0_off3_inb i 0)), addf (shapeCast S128x256 (View.readAt (Elt Ideal) arg8.view (Rect.unit (s := S2048x256) (k0_off3 i 0#32) S128x256.size (k0_off3_inb i 0)).toLoadRect (arg8.view.writes (Elt Ideal) Z8 M0)) shapeCasts_S128x256_S128x256) (dvInc (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c0 (View.readAt (Elt Ideal) arg2.view (Rect.unit (s := S2048x256) (k0_off3 i 0#32) S128x256.size (k0_off3_inb i 0)).toLoadRect (harg2.unread x1)))⟩ :: M0)
    (l1 : L2 = ⟨(Rect.unit (s := S2048x256) (k0_off3 i 1#32) S128x256.size (k0_off3_inb i 1)), addf (shapeCast S128x256 (View.readAt (Elt Ideal) arg7.view (Rect.unit (s := S2048x256) (k0_off3 i 1#32) S128x256.size (k0_off3_inb i 1)).toLoadRect (arg7.view.writes (Elt Ideal) Z7 L1)) shapeCasts_S128x256_S128x256) (dkInc (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c1 (View.readAt (Elt Ideal) arg2.view (Rect.unit (s := S2048x256) (k0_off3 i 1#32) S128x256.size (k0_off3_inb i 1)).toLoadRect (harg2.unread x1)) (View.readAt (Elt Ideal) arg3.view (Rect.unit (s := S2048x256) (k0_off3 i 1#32) S128x256.size (k0_off3_inb i 1)).toLoadRect (harg3.unread x2)))⟩ :: L1)
    (m1 : M2 = ⟨(Rect.unit (s := S2048x256) (k0_off3 i 1#32) S128x256.size (k0_off3_inb i 1)), addf (shapeCast S128x256 (View.readAt (Elt Ideal) arg8.view (Rect.unit (s := S2048x256) (k0_off3 i 1#32) S128x256.size (k0_off3_inb i 1)).toLoadRect (arg8.view.writes (Elt Ideal) Z8 M1)) shapeCasts_S128x256_S128x256) (dvInc (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c1 (View.readAt (Elt Ideal) arg2.view (Rect.unit (s := S2048x256) (k0_off3 i 1#32) S128x256.size (k0_off3_inb i 1)).toLoadRect (harg2.unread x1)))⟩ :: M1)
    (l2 : L3 = ⟨(Rect.unit (s := S2048x256) (k0_off3 i 2#32) S128x256.size (k0_off3_inb i 2)), addf (shapeCast S128x256 (View.readAt (Elt Ideal) arg7.view (Rect.unit (s := S2048x256) (k0_off3 i 2#32) S128x256.size (k0_off3_inb i 2)).toLoadRect (arg7.view.writes (Elt Ideal) Z7 L2)) shapeCasts_S128x256_S128x256) (dkInc (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c2 (View.readAt (Elt Ideal) arg2.view (Rect.unit (s := S2048x256) (k0_off3 i 2#32) S128x256.size (k0_off3_inb i 2)).toLoadRect (harg2.unread x1)) (View.readAt (Elt Ideal) arg3.view (Rect.unit (s := S2048x256) (k0_off3 i 2#32) S128x256.size (k0_off3_inb i 2)).toLoadRect (harg3.unread x2)))⟩ :: L2)
    (m2 : M3 = ⟨(Rect.unit (s := S2048x256) (k0_off3 i 2#32) S128x256.size (k0_off3_inb i 2)), addf (shapeCast S128x256 (View.readAt (Elt Ideal) arg8.view (Rect.unit (s := S2048x256) (k0_off3 i 2#32) S128x256.size (k0_off3_inb i 2)).toLoadRect (arg8.view.writes (Elt Ideal) Z8 M2)) shapeCasts_S128x256_S128x256) (dvInc (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c2 (View.readAt (Elt Ideal) arg2.view (Rect.unit (s := S2048x256) (k0_off3 i 2#32) S128x256.size (k0_off3_inb i 2)).toLoadRect (harg2.unread x1)))⟩ :: M2)
    (l3 : L4 = ⟨(Rect.unit (s := S2048x256) (k0_off3 i 3#32) S128x256.size (k0_off3_inb i 3)), addf (shapeCast S128x256 (View.readAt (Elt Ideal) arg7.view (Rect.unit (s := S2048x256) (k0_off3 i 3#32) S128x256.size (k0_off3_inb i 3)).toLoadRect (arg7.view.writes (Elt Ideal) Z7 L3)) shapeCasts_S128x256_S128x256) (dkInc (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c3 (View.readAt (Elt Ideal) arg2.view (Rect.unit (s := S2048x256) (k0_off3 i 3#32) S128x256.size (k0_off3_inb i 3)).toLoadRect (harg2.unread x1)) (View.readAt (Elt Ideal) arg3.view (Rect.unit (s := S2048x256) (k0_off3 i 3#32) S128x256.size (k0_off3_inb i 3)).toLoadRect (harg3.unread x2)))⟩ :: L3)
    (m3 : M4 = ⟨(Rect.unit (s := S2048x256) (k0_off3 i 3#32) S128x256.size (k0_off3_inb i 3)), addf (shapeCast S128x256 (View.readAt (Elt Ideal) arg8.view (Rect.unit (s := S2048x256) (k0_off3 i 3#32) S128x256.size (k0_off3_inb i 3)).toLoadRect (arg8.view.writes (Elt Ideal) Z8 M3)) shapeCasts_S128x256_S128x256) (dvInc (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c3 (View.readAt (Elt Ideal) arg2.view (Rect.unit (s := S2048x256) (k0_off3 i 3#32) S128x256.size (k0_off3_inb i 3)).toLoadRect (harg2.unread x1)))⟩ :: M3)
    : Inv D (i 0).val (4 * (i 0).val + 4) (step k0_pay106 (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c3 (View.readAt (Elt Ideal) arg2.view (Rect.unit (s := S2048x256) (k0_off3 i 3#32) S128x256.size (k0_off3_inb i 3)).toLoadRect (harg2.unread x1)) (View.readAt (Elt Ideal) arg3.view (Rect.unit (s := S2048x256) (k0_off3 i 3#32) S128x256.size (k0_off3_inb i 3)).toLoadRect (harg3.unread x2))) (arg7.view.read (Elt Ideal) (arg7.view.writes (Elt Ideal) Z7 L4)) (arg8.view.read (Elt Ideal) (arg8.view.writes (Elt Ideal) Z8 M4)) F7 F8 := by
  have hP : HasPt D (i 0).val (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) := has_point i arg1 harg1 arg4 harg4 arg5 harg5 x0 x3 x4 h0 h3 h4
  have k0 : HasL (View.readAt (Elt Ideal) arg2.view (Rect.unit (s := S2048x256) (k0_off3 i 0#32) S128x256.size (k0_off3_inb i 0)).toLoadRect (harg2.unread x1)) fun a l => D.k (128 * (4 * (i 0).val + 0) + a) l := rd_rows _ _ _ _ (off3 i 0) (by rw [harg2.read_unread]; exact h1)
  have v0 : HasL (View.readAt (Elt Ideal) arg3.view (Rect.unit (s := S2048x256) (k0_off3 i 0#32) S128x256.size (k0_off3_inb i 0)).toLoadRect (harg3.unread x2)) fun a l => D.v (128 * (4 * (i 0).val + 0) + a) l := rd_rows _ _ _ _ (off3 i 0) (by rw [harg3.read_unread]; exact h2)
  have k1 : HasL (View.readAt (Elt Ideal) arg2.view (Rect.unit (s := S2048x256) (k0_off3 i 1#32) S128x256.size (k0_off3_inb i 1)).toLoadRect (harg2.unread x1)) fun a l => D.k (128 * (4 * (i 0).val + 1) + a) l := rd_rows _ _ _ _ (off3 i 1) (by rw [harg2.read_unread]; exact h1)
  have v1 : HasL (View.readAt (Elt Ideal) arg3.view (Rect.unit (s := S2048x256) (k0_off3 i 1#32) S128x256.size (k0_off3_inb i 1)).toLoadRect (harg3.unread x2)) fun a l => D.v (128 * (4 * (i 0).val + 1) + a) l := rd_rows _ _ _ _ (off3 i 1) (by rw [harg3.read_unread]; exact h2)
  have k2 : HasL (View.readAt (Elt Ideal) arg2.view (Rect.unit (s := S2048x256) (k0_off3 i 2#32) S128x256.size (k0_off3_inb i 2)).toLoadRect (harg2.unread x1)) fun a l => D.k (128 * (4 * (i 0).val + 2) + a) l := rd_rows _ _ _ _ (off3 i 2) (by rw [harg2.read_unread]; exact h1)
  have v2 : HasL (View.readAt (Elt Ideal) arg3.view (Rect.unit (s := S2048x256) (k0_off3 i 2#32) S128x256.size (k0_off3_inb i 2)).toLoadRect (harg3.unread x2)) fun a l => D.v (128 * (4 * (i 0).val + 2) + a) l := rd_rows _ _ _ _ (off3 i 2) (by rw [harg3.read_unread]; exact h2)
  have k3 : HasL (View.readAt (Elt Ideal) arg2.view (Rect.unit (s := S2048x256) (k0_off3 i 3#32) S128x256.size (k0_off3_inb i 3)).toLoadRect (harg2.unread x1)) fun a l => D.k (128 * (4 * (i 0).val + 3) + a) l := rd_rows _ _ _ _ (off3 i 3) (by rw [harg2.read_unread]; exact h1)
  have v3 : HasL (View.readAt (Elt Ideal) arg3.view (Rect.unit (s := S2048x256) (k0_off3 i 3#32) S128x256.size (k0_off3_inb i 3)).toLoadRect (harg3.unread x2)) fun a l => D.v (128 * (4 * (i 0).val + 3) + a) l := rd_rows _ _ _ _ (off3 i 3) (by rw [harg3.read_unread]; exact h2)
  have i0 : Inv D (i 0).val (4 * (i 0).val + 1) (step k0_pay106 (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c0 (View.readAt (Elt Ideal) arg2.view (Rect.unit (s := S2048x256) (k0_off3 i 0#32) S128x256.size (k0_off3_inb i 0)).toLoadRect (harg2.unread x1)) (View.readAt (Elt Ideal) arg3.view (Rect.unit (s := S2048x256) (k0_off3 i 0#32) S128x256.size (k0_off3_inb i 0)).toLoadRect (harg3.unread x2))) (arg7.view.read (Elt Ideal) (arg7.view.writes (Elt Ideal) Z7 L1)) (arg8.view.read (Elt Ideal) (arg8.view.writes (Elt Ideal) Z8 M1)) F7 F8 := by
    rw [l0, m0]
    exact inv_step _ _ _ _ hi hP (masks_diag _ 0) k0 v0 _ _ _ (off3 i 0)
  rw [← e0] at i0
  have i1 : Inv D (i 0).val (4 * (i 0).val + 2) (step k0_pay106 (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c1 (View.readAt (Elt Ideal) arg2.view (Rect.unit (s := S2048x256) (k0_off3 i 1#32) S128x256.size (k0_off3_inb i 1)).toLoadRect (harg2.unread x1)) (View.readAt (Elt Ideal) arg3.view (Rect.unit (s := S2048x256) (k0_off3 i 1#32) S128x256.size (k0_off3_inb i 1)).toLoadRect (harg3.unread x2))) (arg7.view.read (Elt Ideal) (arg7.view.writes (Elt Ideal) Z7 L2)) (arg8.view.read (Elt Ideal) (arg8.view.writes (Elt Ideal) Z8 M2)) F7 F8 := by
    rw [l1, m1]
    exact inv_step _ _ _ _ i0 hP (masks_diag _ 1) k1 v1 _ _ _ (off3 i 1)
  rw [← e1] at i1
  have i2 : Inv D (i 0).val (4 * (i 0).val + 3) (step k0_pay106 (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c2 (View.readAt (Elt Ideal) arg2.view (Rect.unit (s := S2048x256) (k0_off3 i 2#32) S128x256.size (k0_off3_inb i 2)).toLoadRect (harg2.unread x1)) (View.readAt (Elt Ideal) arg3.view (Rect.unit (s := S2048x256) (k0_off3 i 2#32) S128x256.size (k0_off3_inb i 2)).toLoadRect (harg3.unread x2))) (arg7.view.read (Elt Ideal) (arg7.view.writes (Elt Ideal) Z7 L3)) (arg8.view.read (Elt Ideal) (arg8.view.writes (Elt Ideal) Z8 M3)) F7 F8 := by
    rw [l2, m2]
    exact inv_step _ _ _ _ i1 hP (masks_diag _ 2) k2 v2 _ _ _ (off3 i 2)
  rw [← e2] at i2
  have i3 : Inv D (i 0).val (4 * (i 0).val + 4) (step k0_pay106 (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) c3 (View.readAt (Elt Ideal) arg2.view (Rect.unit (s := S2048x256) (k0_off3 i 3#32) S128x256.size (k0_off3_inb i 3)).toLoadRect (harg2.unread x1)) (View.readAt (Elt Ideal) arg3.view (Rect.unit (s := S2048x256) (k0_off3 i 3#32) S128x256.size (k0_off3_inb i 3)).toLoadRect (harg3.unread x2))) (arg7.view.read (Elt Ideal) (arg7.view.writes (Elt Ideal) Z7 L4)) (arg8.view.read (Elt Ideal) (arg8.view.writes (Elt Ideal) Z8 M4)) F7 F8 := by
    rw [l3, m3]
    exact inv_step _ _ _ _ i2 hP (masks_diag _ 3) k3 v3 _ _ _ (off3 i 3)
  exact i3

end Loop

theorem i0_lt (i : grid0.Coords) : (i 0).val < 4 := by
  revert i; decide +kernel

theorem zero104 : HasW (k0_pay104 (F := Ideal)) fun _ _ => 0 := fun s l => by
  pointwise [k0_pay104]; simp

theorem zero105 : HasW (k0_pay105 (F := Ideal)) fun _ _ => 0 := fun s l => by
  pointwise [k0_pay105]; simp

/-- A store over a whole array. -/
theorem has_whole {sp : Space} (X : Memref sig .tc sp S2048x256 .f32) (Z : X.view.ty.Contents (Elt Ideal)) {w : Vec Ideal S2048x256 .f32} {f : ℕ → ℕ → ℝ} (h : HasW w f) :
    HasW (X.view.read (Elt Ideal) (X.view.writes (Elt Ideal) Z [⟨Rect.unit (s := S2048x256) ![0, 0] S2048x256.size inb_S2048x256_S2048x256_0_0, w⟩])) f := fun s l =>
  (View.read_writes_cons_rows_of_mem X.view Z inb_S2048x256_S2048x256_0_0 w [] (ix2 s l : S2048x256.Idx) (ix2 s l : S2048x256.Idx) (o := 0) rfl (Nat.zero_add _).symm rfl).trans (h s l)

/-- A store over a whole block of rows. -/
theorem has_wholeR {κ : Kind} {sp : Space} (v : View sig κ sp S512x256 .f32) (Z : v.ty.Contents (Elt Ideal)) {w : Vec Ideal S512x256 .f32} {f : ℕ → ℕ → ℝ} (h : HasR w f) :
    HasR (v.read (Elt Ideal) (v.writes (Elt Ideal) Z [⟨Rect.unit (s := S512x256) ![0, 0] S512x256.size inb_S512x256_S512x256_0_0, w⟩])) f := fun s l =>
  (View.read_writes_cons_rows_of_mem v Z inb_S512x256_S512x256_0_0 w [] (ix2 s l : S512x256.Idx) (ix2 s l : S512x256.Idx) (o := 0) rfl (Nat.zero_add _).symm rfl).trans (h s l)

end Cert.KernelIdeal.SB
-- ==== Proof.PointA.lean ====
/-
  What a first grid point stores, over the real numbers: the two accumulated outputs start from zero.
-/
module

public import proofs.«01_k».proof.Proof.RunA
public import proofs.«01_k».proof.Proof.Point

@[expose] public section

set_option maxRecDepth 16384

noncomputable section

namespace Cert.KernelIdeal.SB

open Cert.KernelIdeal Cert.KernelIdeal.Gen Idealize.ShloMosaic Idealize.ShloMosaic.TcCoe Idealize.SL.Sem
open Finset (range)

section

variable (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32)

/-- What the point stores. -/
theorem pointA (hc0 : cond0_0 i) {D : Tab} (h0 : HasR x0 fun r l => D.q (512 * (i 0).val + r) l) (h1 : HasW x1 D.k) (h2 : HasW x2 D.v)
    (h3 : ∀ (r : Fin 512) (h : Fin 4), x3 (ix2 r (⟨h, by omega⟩ : Fin 128) : S512x128.Idx) = ((tot D h (512 * (i 0).val + r) : ℝ) : EReal))
    (h4 : HasR x4 fun r l => D.d (512 * (i 0).val + r) l) :
    HasR (out0_A_5 dv i arg1 harg1 arg2 harg2 arg3 harg3 arg4 harg4 arg5 harg5 arg6 harg6 arg7 harg7 arg8 harg8 hc0 x0 x1 x2 x3 x4) (fun r l => ∑ s ∈ range 2048, dzz D (l / 64) (512 * (i 0).val + r) s * (1 / 8) * D.k s l)
    ∧ HasW (out0_A_6 dv i arg1 harg1 arg2 harg2 arg3 harg3 arg4 harg4 arg5 harg5 arg6 harg6 arg7 harg7 arg8 harg8 hc0 x0 x1 x2 x3 x4) (fun s l => 0 + ∑ r ∈ range 512, dzz D (l / 64) (512 * (i 0).val + r) s * (D.q (512 * (i 0).val + r) l * (1 / 8)))
    ∧ HasW (out0_A_7 dv i arg1 harg1 arg2 harg2 arg3 harg3 arg4 harg4 arg5 harg5 arg6 harg6 arg7 harg7 arg8 harg8 hc0 x0 x1 x2 x3 x4) (fun s l => 0 + ∑ r ∈ range 512, ww D (l / 64) (512 * (i 0).val + r) s * D.d (512 * (i 0).val + r) l) := by
  have hs := has_S1_end dv i arg1 harg1 arg2 harg2 arg3 harg3 arg4 harg4 arg5 harg5 arg6 harg6 arg7 harg7 arg8 harg8 x0 x1 x2 x3 x4 (arg7.view.writes (Elt Ideal) arg7.view.junk [⟨Rect.unit (s := S2048x256) ![0, 0] S2048x256.size inb_S2048x256_S2048x256_0_0, k0_pay104 (F := Ideal)⟩]) (arg8.view.writes (Elt Ideal) arg8.view.junk [⟨Rect.unit (s := S2048x256) ![0, 0] S2048x256.size inb_S2048x256_S2048x256_0_0, k0_pay105 (F := Ideal)⟩]) h0 h1 h2 h3 h4 (F7 := (fun _ _ => 0)) (F8 := (fun _ _ => 0))
    (has_whole _ _ zero104) (has_whole _ _ zero105)
  rw [← View.writes_append, ← View.writes_append] at hs
  rw [← cA0_eq] at hs
  have hd := has_diag i arg1 harg1 arg2 harg2 arg3 harg3 arg4 harg4 arg5 harg5 arg7 arg8 x0 x1 x2 x3 x4 h0 h1 h2 h3 h4 _ _ hs (cA1_eq dv i arg1 harg1 arg2 harg2 arg3 harg3 arg4 harg4 arg5 harg5 arg6 harg6 arg7 harg7 arg8 harg8 x0 x1 x2 x3 x4) (cA2_eq dv i arg1 harg1 arg2 harg2 arg3 harg3 arg4 harg4 arg5 harg5 arg6 harg6 arg7 harg7 arg8 harg8 x0 x1 x2 x3 x4) (cA3_eq dv i arg1 harg1 arg2 harg2 arg3 harg3 arg4 harg4 arg5 harg5 arg6 harg6 arg7 harg7 arg8 harg8 x0 x1 x2 x3 x4)
    (hA6_0 dv i arg1 harg1 arg2 harg2 arg3 harg3 arg4 harg4 arg5 harg5 arg6 harg6 arg7 harg7 arg8 harg8 x0 x1 x2 x3 x4) (hA7_0 dv i arg1 harg1 arg2 harg2 arg3 harg3 arg4 harg4 arg5 harg5 arg6 harg6 arg7 harg7 arg8 harg8 x0 x1 x2 x3 x4) (hA6_1 dv i arg1 harg1 arg2 harg2 arg3 harg3 arg4 harg4 arg5 harg5 arg6 harg6 arg7 harg7 arg8 harg8 x0 x1 x2 x3 x4) (hA7_1 dv i arg1 harg1 arg2 harg2 arg3 harg3 arg4 harg4 arg5 harg5 arg6 harg6 arg7 harg7 arg8 harg8 x0 x1 x2 x3 x4) (hA6_2 dv i arg1 harg1 arg2 harg2 arg3 harg3 arg4 harg4 arg5 harg5 arg6 harg6 arg7 harg7 arg8 harg8 x0 x1 x2 x3 x4) (hA7_2 dv i arg1 harg1 arg2 harg2 arg3 harg3 arg4 harg4 arg5 harg5 arg6 harg6 arg7 harg7 arg8 harg8 x0 x1 x2 x3 x4) (runA6 dv i arg1 harg1 arg2 harg2 arg3 harg3 arg4 harg4 arg5 harg5 arg6 harg6 arg7 harg7 arg8 harg8 hc0 x0 x1 x2 x3 x4) (runA7 dv i arg1 harg1 arg2 harg2 arg3 harg3 arg4 harg4 arg5 harg5 arg6 harg6 arg7 harg7 arg8 harg8 hc0 x0 x1 x2 x3 x4)
  obtain ⟨a, b, d⟩ := inv_end (i0_lt i) hd
  refine ⟨?_, ?_, ?_⟩
  · unfold out0_A_5
    rw [runA5]
    exact has_wholeR _ _ a
  · unfold out0_A_6
    rw [View.read_writes_eq_canon _ _ _ (cover0_A_6 dv i arg1 harg1 arg2 harg2 arg3 harg3 arg4 harg4 arg5 harg5 arg6 harg6 arg7 harg7 arg8 harg8 hc0 x0 x1 x2 x3 x4), ← View.read_writes_eq_canon arg7.view arg7.view.junk _ (cover0_A_6 dv i arg1 harg1 arg2 harg2 arg3 harg3 arg4 harg4 arg5 harg5 arg6 harg6 arg7 harg7 arg8 harg8 hc0 x0 x1 x2 x3 x4)]
    exact b
  · unfold out0_A_7
    rw [View.read_writes_eq_canon _ _ _ (cover0_A_7 dv i arg1 harg1 arg2 harg2 arg3 harg3 arg4 harg4 arg5 harg5 arg6 harg6 arg7 harg7 arg8 harg8 hc0 x0 x1 x2 x3 x4), ← View.read_writes_eq_canon arg8.view arg8.view.junk _ (cover0_A_7 dv i arg1 harg1 arg2 harg2 arg3 harg3 arg4 harg4 arg5 harg5 arg6 harg6 arg7 harg7 arg8 harg8 hc0 x0 x1 x2 x3 x4)]
    exact d

end

end Cert.KernelIdeal.SB
-- ==== Proof.RunB.lean ====
module

public import proofs.«01_k».proof.Proof.Words

@[expose] public section
set_option maxRecDepth 16384
noncomputable section
namespace Cert.KernelIdeal.SB
open Cert.KernelIdeal Cert.KernelIdeal.Gen Idealize.ShloMosaic Idealize.ShloMosaic.TcCoe Idealize.SL.Sem
open Idealize.ShloMosaic.Pipeline (Dat)

/-- The carried words before diagonal block 1. -/
def cB0 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) : Cy := ⟨four (kernelRun0_B.sl.r_15 (F := Ideal) dv i arg1 harg1 arg2 harg2 arg3 harg3 arg4 harg4 arg5 harg5 arg6 harg6 arg7 harg7 arg8 harg8 x0 x1 x2 x3 x4 xo6 xo7) (kernelRun0_B.sl.r_16 (F := Ideal) dv i arg1 harg1 arg2 harg2 arg3 harg3 arg4 harg4 arg5 harg5 arg6 harg6 arg7 harg7 arg8 harg8 x0 x1 x2 x3 x4 xo6 xo7) (kernelRun0_B.sl.r_17 (F := Ideal) dv i arg1 harg1 arg2 harg2 arg3 harg3 arg4 harg4 arg5 harg5 arg6 harg6 arg7 harg7 arg8 harg8 x0 x1 x2 x3 x4 xo6 xo7) (kernelRun0_B.sl.r_18 (F := Ideal) dv i arg1 harg1 arg2 harg2 arg3 harg3 arg4 harg4 arg5 harg5 arg6 harg6 arg7 harg7 arg8 harg8 x0 x1 x2 x3 x4 xo6 xo7), four (kernelRun0_B.sl.r_19 (F := Ideal) dv i arg1 harg1 arg2 harg2 arg3 harg3 arg4 harg4 arg5 harg5 arg6 harg6 arg7 harg7 arg8 harg8 x0 x1 x2 x3 x4 xo6 xo7) (kernelRun0_B.sl.r_20 (F := Ideal) dv i arg1 harg1 arg2 harg2 arg3 harg3 arg4 harg4 arg5 harg5 arg6 harg6 arg7 harg7 arg8 harg8 x0 x1 x2 x3 x4 xo6 xo7) (kernelRun0_B.sl.r_21 (F := Ideal) dv i arg1 harg1 arg2 harg2 arg3 harg3 arg4 harg4 arg5 harg5 arg6 harg6 arg7 harg7 arg8 harg8 x0 x1 x2 x3 x4 xo6 xo7) (kernelRun0_B.sl.r_22 (F := Ideal) dv i arg1 harg1 arg2 harg2 arg3 harg3 arg4 harg4 arg5 harg5 arg6 harg6 arg7 harg7 arg8 harg8 x0 x1 x2 x3 x4 xo6 xo7), two (kernelRun0_B.sl.r_23 (F := Ideal) dv i arg1 harg1 arg2 harg2 arg3 harg3 arg4 harg4 arg5 harg5 arg6 harg6 arg7 harg7 arg8 harg8 x0 x1 x2 x3 x4 xo6 xo7) (kernelRun0_B.sl.r_24 (F := Ideal) dv i arg1 harg1 arg2 harg2 arg3 harg3 arg4 harg4 arg5 harg5 arg6 harg6 arg7 harg7 arg8 harg8 x0 x1 x2 x3 x4 xo6 xo7)⟩

/-- The carried words before diagonal block 2. -/
def cB1 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) : Cy := ⟨four (kernelRun0_B.sl.r_81 (F := Ideal) dv i arg1 harg1 arg2 harg2 arg3 harg3 arg4 harg4 arg5 harg5 arg6 harg6 arg7 harg7 arg8 harg8 x0 x1 x2 x3 x4 xo6 xo7) (kernelRun0_B.sl.r_82 (F := Ideal) dv i arg1 harg1 arg2 harg2 arg3 harg3 arg4 harg4 arg5 harg5 arg6 harg6 arg7 harg7 arg8 harg8 x0 x1 x2 x3 x4 xo6 xo7) (kernelRun0_B.sl.r_84 (F := Ideal) dv i arg1 harg1 arg2 harg2 arg3 harg3 arg4 harg4 arg5 harg5 arg6 harg6 arg7 harg7 arg8 harg8 x0 x1 x2 x3 x4 xo6 xo7) (kernelRun0_B.sl.r_85 (F := Ideal) dv i arg1 harg1 arg2 harg2 arg3 harg3 arg4 harg4 arg5 harg5 arg6 harg6 arg7 harg7 arg8 harg8 x0 x1 x2 x3 x4 xo6 xo7), four (kernelRun0_B.sl.r_86 (F := Ideal) dv i arg1 harg1 arg2 harg2 arg3 harg3 arg4 harg4 arg5 harg5 arg6 harg6 arg7 harg7 arg8 harg8 x0 x1 x2 x3 x4 xo6 xo7) (kernelRun0_B.sl.r_87 (F := Ideal) dv i arg1 harg1 arg2 harg2 arg3 harg3 arg4 harg4 arg5 harg5 arg6 harg6 arg7 harg7 arg8 harg8 x0 x1 x2 x3 x4 xo6 xo7) (kernelRun0_B.sl.r_88 (F := Ideal) dv i arg1 harg1 arg2 harg2 arg3 harg3 arg4 harg4 arg5 harg5 arg6 harg6 arg7 harg7 arg8 harg8 x0 x1 x2 x3 x4 xo6 xo7) (kernelRun0_B.sl.r_89 (F := Ideal) dv i arg1 harg1 arg2 harg2 arg3 harg3 arg4 harg4 arg5 harg5 arg6 harg6 arg7 harg7 arg8 harg8 x0 x1 x2 x3 x4 xo6 xo7), two (kernelRun0_B.sl.r_79 (F := Ideal) dv i arg1 harg1 arg2 harg2 arg3 harg3 arg4 harg4 arg5 harg5 arg6 harg6 arg7 harg7 arg8 harg8 x0 x1 x2 x3 x4 xo6 xo7) (kernelRun0_B.sl.r_80 (F := Ideal) dv i arg1 harg1 arg2 harg2 arg3 harg3 arg4 harg4 arg5 harg5 arg6 harg6 arg7 harg7 arg8 harg8 x0 x1 x2 x3 x4 xo6 xo7)⟩

/-- The carried words before diagonal block 3. -/
def cB2 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) : Cy := ⟨four (kernelRun0_B.sl.r_140 (F := Ideal) dv i arg1 harg1 arg2 harg2 arg3 harg3 arg4 harg4 arg5 harg5 arg6 harg6 arg7 harg7 arg8 harg8 x0 x1 x2 x3 x4 xo6 xo7) (kernelRun0_B.sl.r_141 (F := Ideal) dv i arg1 harg1 arg2 harg2 arg3 harg3 arg4 harg4 arg5 harg5 arg6 harg6 arg7 harg7 arg8 harg8 x0 x1 x2 x3 x4 xo6 xo7) (kernelRun0_B.sl.r_142 (F := Ideal) dv i arg1 harg1 arg2 harg2 arg3 harg3 arg4 harg4 arg5 harg5 arg6 harg6 arg7 harg7 arg8 harg8 x0 x1 x2 x3 x4 xo6 xo7) (kernelRun0_B.sl.r_143 (F := Ideal) dv i arg1 harg1 arg2 harg2 arg3 harg3 arg4 harg4 arg5 harg5 arg6 harg6 arg7 harg7 arg8 harg8 x0 x1 x2 x3 x4 xo6 xo7), four (kernelRun0_B.sl.r_144 (F := Ideal) dv i arg1 harg1 arg2 harg2 arg3 harg3 arg4 harg4 arg5 harg5 arg6 harg6 arg7 harg7 arg8 harg8 x0 x1 x2 x3 x4 xo6 xo7) (kernelRun0_B.sl.r_145 (F := Ideal) dv i arg1 harg1 arg2 harg2 arg3 harg3 arg4 harg4 arg5 harg5 arg6 harg6 arg7 harg7 arg8 harg8 x0 x1 x2 x3 x4 xo6 xo7) (kernelRun0_B.sl.r_146 (F := Ideal) dv i arg1 harg1 arg2 harg2 arg3 harg3 arg4 harg4 arg5 harg5 arg6 harg6 arg7 harg7 arg8 harg8 x0 x1 x2 x3 x4 xo6 xo7) (kernelRun0_B.sl.r_147 (F := Ideal) dv i arg1 harg1 arg2 harg2 arg3 harg3 arg4 harg4 arg5 harg5 arg6 harg6 arg7 harg7 arg8 harg8 x0 x1 x2 x3 x4 xo6 xo7), two (kernelRun0_B.sl.r_138 (F := Ideal) dv i arg1 harg1 arg2 harg2 arg3 harg3 arg4 harg4 arg5 harg5 arg6 harg6 arg7 harg7 arg8 harg8 x0 x1 x2 x3 x4 xo6 xo7) (kernelRun0_B.sl.r_139 (F := Ideal) dv i arg1 harg1 arg2 harg2 arg3 harg3 arg4 harg4 arg5 harg5 arg6 harg6 arg7 harg7 arg8 harg8 x0 x1 x2 x3 x4 xo6 xo7)⟩

/-- The carried words before diagonal block 4. -/
def cB3 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) : Cy := ⟨four (kernelRun0_B.sl.r_201 (F := Ideal) dv i arg1 harg1 arg2 harg2 arg3 harg3 arg4 harg4 arg5 harg5 arg6 harg6 arg7 harg7 arg8 harg8 x0 x1 x2 x3 x4 xo6 xo7) (kernelRun0_B.sl.r_202 (F := Ideal) dv i arg1 harg1 arg2 harg2 arg3 harg3 arg4 harg4 arg5 harg5 arg6 harg6 arg7 harg7 arg8 harg8 x0 x1 x2 x3 x4 xo6 xo7) (kernelRun0_B.sl.r_203 (F := Ideal) dv i arg1 harg1 arg2 harg2 arg3 harg3 arg4 harg4 arg5 harg5 arg6 harg6 arg7 harg7 arg8 harg8 x0 x1 x2 x3 x4 xo6 xo7) (kernelRun0_B.sl.r_204 (F := Ideal) dv i arg1 harg1 arg2 harg2 arg3 harg3 arg4 harg4 arg5 harg5 arg6 harg6 arg7 harg7 arg8 harg8 x0 x1 x2 x3 x4 xo6 xo7), four (kernelRun0_B.sl.r_205 (F := Ideal) dv i arg1 harg1 arg2 harg2 arg3 harg3 arg4 harg4 arg5 harg5 arg6 harg6 arg7 harg7 arg8 harg8 x0 x1 x2 x3 x4 xo6 xo7) (kernelRun0_B.sl.r_206 (F := Ideal) dv i arg1 harg1 arg2 harg2 arg3 harg3 arg4 harg4 arg5 harg5 arg6 harg6 arg7 harg7 arg8 harg8 x0 x1 x2 x3 x4 xo6 xo7) (kernelRun0_B.sl.r_207 (F := Ideal) dv i arg1 harg1 arg2 harg2 arg3 harg3 arg4 harg4 arg5 harg5 arg6 harg6 arg7 harg7 arg8 harg8 x0 x1 x2 x3 x4 xo6 xo7) (kernelRun0_B.sl.r_208 (F := Ideal) dv i arg1 harg1 arg2 harg2 arg3 harg3 arg4 harg4 arg5 harg5 arg6 harg6 arg7 harg7 arg8 harg8 x0 x1 x2 x3 x4 xo6 xo7), two (kernelRun0_B.sl.r_199 (F := Ideal) dv i arg1 harg1 arg2 harg2 arg3 harg3 arg4 harg4 arg5 harg5 arg6 harg6 arg7 harg7 arg8 harg8 x0 x1 x2 x3 x4 xo6 xo7) (kernelRun0_B.sl.r_200 (F := Ideal) dv i arg1 harg1 arg2 harg2 arg3 harg3 arg4 harg4 arg5 harg5 arg6 harg6 arg7 harg7 arg8 harg8 x0 x1 x2 x3 x4 xo6 xo7)⟩

theorem trips2 (i : grid0.Coords) : (k0_t2_loop i).trips = 0 := by
  revert i; decide +kernel

theorem runB5 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (hc0 : ¬cond0_0 i) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B (F := Ideal) dv i arg1 harg1 arg2 harg2 arg3 harg3 arg4 harg4 arg5 harg5 arg6 harg6 arg7 harg7 arg8 harg8 hc0 x0 x1 x2 x3 x4 xo6 xo7).1 = [⟨Rect.unit (s := S512x256) ![0, 0] S512x256.size inb_S512x256_S512x256_0_0,
      dqStored (step k0_pay106 (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB3 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 3#32) S128x256.size (k0_off3_inb i 3)).toLoadRect (harg2.unread x1)) (View.readAt (Elt Ideal) arg3.view (Rect.unit (s := S2048x256) (k0_off3 i 3#32) S128x256.size (k0_off3_inb i 3)).toLoadRect (harg3.unread x2)))⟩] := by
  unfold kernelRun0_B
  sl_kernel_rfl

theorem hB6_0 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B.sl.H6_1 (F := Ideal) dv i arg1 harg1 arg2 harg2 arg3 harg3 arg4 harg4 arg5 harg5 arg6 harg6 arg7 harg7 arg8 harg8 x0 x1 x2 x3 x4 xo6 xo7) = ⟨(Rect.unit (s := S2048x256) (k0_off3 i 0#32) S128x256.size (k0_off3_inb i 0)), addf (shapeCast S128x256 (View.readAt (Elt Ideal) arg7.view (Rect.unit (s := S2048x256) (k0_off3 i 0#32) S128x256.size (k0_off3_inb i 0)).toLoadRect (arg7.view.writes (Elt Ideal) (harg7.unread xo6) ((S1 dv i arg1 harg1 arg2 harg2 arg3 harg3 arg4 harg4 arg5 harg5 arg6 harg6 arg7 harg7 arg8 harg8 x0 x1 x2 x3 x4 (harg7.unread xo6) (harg8.unread xo7) (k0_t1_loop i).trips).2.1))) shapeCasts_S128x256_S128x256) (dkInc (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB0 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 0#32) S128x256.size (k0_off3_inb i 0)).toLoadRect (harg2.unread x1)) (View.readAt (Elt Ideal) arg3.view (Rect.unit (s := S2048x256) (k0_off3 i 0#32) S128x256.size (k0_off3_inb i 0)).toLoadRect (harg3.unread x2)))⟩ :: ((S1 dv i arg1 harg1 arg2 harg2 arg3 harg3 arg4 harg4 arg5 harg5 arg6 harg6 arg7 harg7 arg8 harg8 x0 x1 x2 x3 x4 (harg7.unread xo6) (harg8.unread xo7) (k0_t1_loop i).trips).2.1) := by
  delta kernelRun0_B.sl.H6_1 kernelRun0_B.sl.v332
  rw [show Scf.trips (k0_t2_loop i).lb (k0_t2_loop i).ub (k0_t2_loop i).st = 0 from trips2 i]
  sl_kernel_rfl

theorem hB6_1 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B.sl.H6_2 (F := Ideal) dv i arg1 harg1 arg2 harg2 arg3 harg3 arg4 harg4 arg5 harg5 arg6 harg6 arg7 harg7 arg8 harg8 x0 x1 x2 x3 x4 xo6 xo7) = ⟨(Rect.unit (s := S2048x256) (k0_off3 i 1#32) S128x256.size (k0_off3_inb i 1)), addf (shapeCast S128x256 (View.readAt (Elt Ideal) arg7.view (Rect.unit (s := S2048x256) (k0_off3 i 1#32) S128x256.size (k0_off3_inb i 1)).toLoadRect (arg7.view.writes (Elt Ideal) (harg7.unread xo6) (kernelRun0_B.sl.H6_1 (F := Ideal) dv i arg1 harg1 arg2 harg2 arg3 harg3 arg4 harg4 arg5 harg5 arg6 harg6 arg7 harg7 arg8 harg8 x0 x1 x2 x3 x4 xo6 xo7))) shapeCasts_S128x256_S128x256) (dkInc (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB1 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 1#32) S128x256.size (k0_off3_inb i 1)).toLoadRect (harg2.unread x1)) (View.readAt (Elt Ideal) arg3.view (Rect.unit (s := S2048x256) (k0_off3 i 1#32) S128x256.size (k0_off3_inb i 1)).toLoadRect (harg3.unread x2)))⟩ :: (kernelRun0_B.sl.H6_1 (F := Ideal) dv i arg1 harg1 arg2 harg2 arg3 harg3 arg4 harg4 arg5 harg5 arg6 harg6 arg7 harg7 arg8 harg8 x0 x1 x2 x3 x4 xo6 xo7) := by
  delta kernelRun0_B.sl.H6_2
  sl_kernel_rfl

theorem hB6_2 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B.sl.H6_3 (F := Ideal) dv i arg1 harg1 arg2 harg2 arg3 harg3 arg4 harg4 arg5 harg5 arg6 harg6 arg7 harg7 arg8 harg8 x0 x1 x2 x3 x4 xo6 xo7) = ⟨(Rect.unit (s := S2048x256) (k0_off3 i 2#32) S128x256.size (k0_off3_inb i 2)), addf (shapeCast S128x256 (View.readAt (Elt Ideal) arg7.view (Rect.unit (s := S2048x256) (k0_off3 i 2#32) S128x256.size (k0_off3_inb i 2)).toLoadRect (arg7.view.writes (Elt Ideal) (harg7.unread xo6) (kernelRun0_B.sl.H6_2 (F := Ideal) dv i arg1 harg1 arg2 harg2 arg3 harg3 arg4 harg4 arg5 harg5 arg6 harg6 arg7 harg7 arg8 harg8 x0 x1 x2 x3 x4 xo6 xo7))) shapeCasts_S128x256_S128x256) (dkInc (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB2 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 2#32) S128x256.size (k0_off3_inb i 2)).toLoadRect (harg2.unread x1)) (View.readAt (Elt Ideal) arg3.view (Rect.unit (s := S2048x256) (k0_off3 i 2#32) S128x256.size (k0_off3_inb i 2)).toLoadRect (harg3.unread x2)))⟩ :: (kernelRun0_B.sl.H6_2 (F := Ideal) dv i arg1 harg1 arg2 harg2 arg3 harg3 arg4 harg4 arg5 harg5 arg6 harg6 arg7 harg7 arg8 harg8 x0 x1 x2 x3 x4 xo6 xo7) := by
  delta kernelRun0_B.sl.H6_3
  sl_kernel_rfl

theorem runB6 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (hc0 : ¬cond0_0 i) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B (F := Ideal) dv i arg1 harg1 arg2 harg2 arg3 harg3 arg4 harg4 arg5 harg5 arg6 harg6 arg7 harg7 arg8 harg8 hc0 x0 x1 x2 x3 x4 xo6 xo7).2.1 = ⟨(Rect.unit (s := S2048x256) (k0_off3 i 3#32) S128x256.size (k0_off3_inb i 3)), addf (shapeCast S128x256 (View.readAt (Elt Ideal) arg7.view (Rect.unit (s := S2048x256) (k0_off3 i 3#32) S128x256.size (k0_off3_inb i 3)).toLoadRect (arg7.view.writes (Elt Ideal) (harg7.unread xo6) (kernelRun0_B.sl.H6_3 (F := Ideal) dv i arg1 harg1 arg2 harg2 arg3 harg3 arg4 harg4 arg5 harg5 arg6 harg6 arg7 harg7 arg8 harg8 x0 x1 x2 x3 x4 xo6 xo7))) shapeCasts_S128x256_S128x256) (dkInc (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB3 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 3#32) S128x256.size (k0_off3_inb i 3)).toLoadRect (harg2.unread x1)) (View.readAt (Elt Ideal) arg3.view (Rect.unit (s := S2048x256) (k0_off3 i 3#32) S128x256.size (k0_off3_inb i 3)).toLoadRect (harg3.unread x2)))⟩ :: (kernelRun0_B.sl.H6_3 (F := Ideal) dv i arg1 harg1 arg2 harg2 arg3 harg3 arg4 harg4 arg5 harg5 arg6 harg6 arg7 harg7 arg8 harg8 x0 x1 x2 x3 x4 xo6 xo7) := by
  unfold kernelRun0_B
  sl_kernel_rfl

theorem hB7_0 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B.sl.H7_1 (F := Ideal) dv i arg1 harg1 arg2 harg2 arg3 harg3 arg4 harg4 arg5 harg5 arg6 harg6 arg7 harg7 arg8 harg8 x0 x1 x2 x3 x4 xo6 xo7) = ⟨(Rect.unit (s := S2048x256) (k0_off3 i 0#32) S128x256.size (k0_off3_inb i 0)), addf (shapeCast S128x256 (View.readAt (Elt Ideal) arg8.view (Rect.unit (s := S2048x256) (k0_off3 i 0#32) S128x256.size (k0_off3_inb i 0)).toLoadRect (arg8.view.writes (Elt Ideal) (harg8.unread xo7) ((S1 dv i arg1 harg1 arg2 harg2 arg3 harg3 arg4 harg4 arg5 harg5 arg6 harg6 arg7 harg7 arg8 harg8 x0 x1 x2 x3 x4 (harg7.unread xo6) (harg8.unread xo7) (k0_t1_loop i).trips).2.2))) shapeCasts_S128x256_S128x256) (dvInc (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB0 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 0#32) S128x256.size (k0_off3_inb i 0)).toLoadRect (harg2.unread x1)))⟩ :: ((S1 dv i arg1 harg1 arg2 harg2 arg3 harg3 arg4 harg4 arg5 harg5 arg6 harg6 arg7 harg7 arg8 harg8 x0 x1 x2 x3 x4 (harg7.unread xo6) (harg8.unread xo7) (k0_t1_loop i).trips).2.2) := by
  delta kernelRun0_B.sl.H7_1 kernelRun0_B.sl.v341
  rw [show Scf.trips (k0_t2_loop i).lb (k0_t2_loop i).ub (k0_t2_loop i).st = 0 from trips2 i]
  sl_kernel_rfl

theorem hB7_1 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B.sl.H7_2 (F := Ideal) dv i arg1 harg1 arg2 harg2 arg3 harg3 arg4 harg4 arg5 harg5 arg6 harg6 arg7 harg7 arg8 harg8 x0 x1 x2 x3 x4 xo6 xo7) = ⟨(Rect.unit (s := S2048x256) (k0_off3 i 1#32) S128x256.size (k0_off3_inb i 1)), addf (shapeCast S128x256 (View.readAt (Elt Ideal) arg8.view (Rect.unit (s := S2048x256) (k0_off3 i 1#32) S128x256.size (k0_off3_inb i 1)).toLoadRect (arg8.view.writes (Elt Ideal) (harg8.unread xo7) (kernelRun0_B.sl.H7_1 (F := Ideal) dv i arg1 harg1 arg2 harg2 arg3 harg3 arg4 harg4 arg5 harg5 arg6 harg6 arg7 harg7 arg8 harg8 x0 x1 x2 x3 x4 xo6 xo7))) shapeCasts_S128x256_S128x256) (dvInc (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB1 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 1#32) S128x256.size (k0_off3_inb i 1)).toLoadRect (harg2.unread x1)))⟩ :: (kernelRun0_B.sl.H7_1 (F := Ideal) dv i arg1 harg1 arg2 harg2 arg3 harg3 arg4 harg4 arg5 harg5 arg6 harg6 arg7 harg7 arg8 harg8 x0 x1 x2 x3 x4 xo6 xo7) := by
  delta kernelRun0_B.sl.H7_2
  sl_kernel_rfl

theorem hB7_2 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B.sl.H7_3 (F := Ideal) dv i arg1 harg1 arg2 harg2 arg3 harg3 arg4 harg4 arg5 harg5 arg6 harg6 arg7 harg7 arg8 harg8 x0 x1 x2 x3 x4 xo6 xo7) = ⟨(Rect.unit (s := S2048x256) (k0_off3 i 2#32) S128x256.size (k0_off3_inb i 2)), addf (shapeCast S128x256 (View.readAt (Elt Ideal) arg8.view (Rect.unit (s := S2048x256) (k0_off3 i 2#32) S128x256.size (k0_off3_inb i 2)).toLoadRect (arg8.view.writes (Elt Ideal) (harg8.unread xo7) (kernelRun0_B.sl.H7_2 (F := Ideal) dv i arg1 harg1 arg2 harg2 arg3 harg3 arg4 harg4 arg5 harg5 arg6 harg6 arg7 harg7 arg8 harg8 x0 x1 x2 x3 x4 xo6 xo7))) shapeCasts_S128x256_S128x256) (dvInc (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB2 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 2#32) S128x256.size (k0_off3_inb i 2)).toLoadRect (harg2.unread x1)))⟩ :: (kernelRun0_B.sl.H7_2 (F := Ideal) dv i arg1 harg1 arg2 harg2 arg3 harg3 arg4 harg4 arg5 harg5 arg6 harg6 arg7 harg7 arg8 harg8 x0 x1 x2 x3 x4 xo6 xo7) := by
  delta kernelRun0_B.sl.H7_3
  sl_kernel_rfl

theorem runB7 (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (hc0 : ¬cond0_0 i) (x0 : Vec Ideal S512x256 .f32) (x1 x2 : Vec Ideal S2048x256 .f32) (x3 : Vec Ideal S512x128 .f32) (x4 : Vec Ideal S512x256 .f32) (xo6 xo7 : Vec Ideal S2048x256 .f32) :
    (kernelRun0_B (F := Ideal) dv i arg1 harg1 arg2 harg2 arg3 harg3 arg4 harg4 arg5 harg5 arg6 harg6 arg7 harg7 arg8 harg8 hc0 x0 x1 x2 x3 x4 xo6 xo7).2.2.1 = ⟨(Rect.unit (s := S2048x256) (k0_off3 i 3#32) S128x256.size (k0_off3_inb i 3)), addf (shapeCast S128x256 (View.readAt (Elt Ideal) arg8.view (Rect.unit (s := S2048x256) (k0_off3 i 3#32) S128x256.size (k0_off3_inb i 3)).toLoadRect (arg8.view.writes (Elt Ideal) (harg8.unread xo7) (kernelRun0_B.sl.H7_3 (F := Ideal) dv i arg1 harg1 arg2 harg2 arg3 harg3 arg4 harg4 arg5 harg5 arg6 harg6 arg7 harg7 arg8 harg8 x0 x1 x2 x3 x4 xo6 xo7))) shapeCasts_S128x256_S128x256) (dvInc (some (dmask 384#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB3 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 3#32) S128x256.size (k0_off3_inb i 3)).toLoadRect (harg2.unread x1)))⟩ :: (kernelRun0_B.sl.H7_3 (F := Ideal) dv i arg1 harg1 arg2 harg2 arg3 harg3 arg4 harg4 arg5 harg5 arg6 harg6 arg7 harg7 arg8 harg8 x0 x1 x2 x3 x4 xo6 xo7) := by
  unfold kernelRun0_B
  sl_kernel_rfl

section

variable (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32)

/-- The carry the loop hands on. -/
theorem cB0_eq : cB0 dv i arg1 harg1 arg2 harg2 arg3 harg3 arg4 harg4 arg5 harg5 arg6 harg6 arg7 harg7 arg8 harg8 x0 x1 x2 x3 x4 xo6 xo7 = cyOf (S1 dv i arg1 harg1 arg2 harg2 arg3 harg3 arg4 harg4 arg5 harg5 arg6 harg6 arg7 harg7 arg8 harg8 x0 x1 x2 x3 x4 (harg7.unread xo6) (harg8.unread xo7) (k0_t1_loop i).trips).1 := by
  unfold cB0
  delta kernelRun0_B.sl.r_15 kernelRun0_B.sl.r_16 kernelRun0_B.sl.r_17 kernelRun0_B.sl.r_18 kernelRun0_B.sl.r_19 kernelRun0_B.sl.r_20 kernelRun0_B.sl.r_21 kernelRun0_B.sl.r_22 kernelRun0_B.sl.r_23 kernelRun0_B.sl.r_24
  rw [show Scf.trips (k0_t2_loop i).lb (k0_t2_loop i).ub (k0_t2_loop i).st = 0 from trips2 i]
  sl_kernel_rfl

/-- The carry after diagonal block 0. -/
theorem cB1_eq : cB1 dv i arg1 harg1 arg2 harg2 arg3 harg3 arg4 harg4 arg5 harg5 arg6 harg6 arg7 harg7 arg8 harg8 x0 x1 x2 x3 x4 xo6 xo7 = step k0_pay106 (some (dmask 0#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB0 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 0#32) S128x256.size (k0_off3_inb i 0)).toLoadRect (harg2.unread x1)) (View.readAt (Elt Ideal) arg3.view (Rect.unit (s := S2048x256) (k0_off3 i 0#32) S128x256.size (k0_off3_inb i 0)).toLoadRect (harg3.unread x2)) := by
  refine Eq.trans ?_ (cy_eta _)
  sl_kernel_rfl

/-- The carry after diagonal block 1. -/
theorem cB2_eq : cB2 dv i arg1 harg1 arg2 harg2 arg3 harg3 arg4 harg4 arg5 harg5 arg6 harg6 arg7 harg7 arg8 harg8 x0 x1 x2 x3 x4 xo6 xo7 = step k0_pay106 (some (dmask 128#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB1 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 1#32) S128x256.size (k0_off3_inb i 1)).toLoadRect (harg2.unread x1)) (View.readAt (Elt Ideal) arg3.view (Rect.unit (s := S2048x256) (k0_off3 i 1#32) S128x256.size (k0_off3_inb i 1)).toLoadRect (harg3.unread x2)) := by
  refine Eq.trans ?_ (cy_eta _)
  sl_kernel_rfl

/-- The carry after diagonal block 2. -/
theorem cB3_eq : cB3 dv i arg1 harg1 arg2 harg2 arg3 harg3 arg4 harg4 arg5 harg5 arg6 harg6 arg7 harg7 arg8 harg8 x0 x1 x2 x3 x4 xo6 xo7 = step k0_pay106 (some (dmask 256#32)) (ptIn (View.readAt (Elt Ideal) arg1.view (Rect.unit (s := S512x256) ![0, 0] S512x256.size inb_S512x256_S512x256_0_0).toLoadRect (harg1.unread x0)) (View.readAt (Elt Ideal) arg4.view (Rect.unit (s := S512x128) ![0, 0] S512x128.size inb_S512x128_S512x128_0_0).toLoadRect (harg4.unread x3)) (View.readAt (Elt Ideal) arg5.view (Rect.unit (s := S512x256) ![0, 0] S512x256.size inb_S512x256_S512x256_0_0).toLoadRect (harg5.unread x4))) (cB2 dv i arg1 harg1 arg2 harg2 arg3 harg3 arg4 harg4 arg5 harg5 arg6 harg6 arg7 harg7 arg8 harg8 x0 x1 x2 x3 x4 xo6 xo7) (View.readAt (Elt Ideal) arg2.view (Rect.unit (s := S2048x256) (k0_off3 i 2#32) S128x256.size (k0_off3_inb i 2)).toLoadRect (harg2.unread x1)) (View.readAt (Elt Ideal) arg3.view (Rect.unit (s := S2048x256) (k0_off3 i 2#32) S128x256.size (k0_off3_inb i 2)).toLoadRect (harg3.unread x2)) := by
  refine Eq.trans ?_ (cy_eta _)
  sl_kernel_rfl

end

end Cert.KernelIdeal.SB
-- ==== Proof.PointB.lean ====
/-
  What a later grid point stores, over the real numbers: the two accumulated outputs go on from what the point before left.
-/
module

public import proofs.«01_k».proof.Proof.RunB
public import proofs.«01_k».proof.Proof.Point

@[expose] public section

set_option maxRecDepth 16384

noncomputable section

namespace Cert.KernelIdeal.SB

open Cert.KernelIdeal Cert.KernelIdeal.Gen Idealize.ShloMosaic Idealize.ShloMosaic.TcCoe Idealize.SL.Sem
open Finset (range)

section

variable (dv : Dev nD) (i : grid0.Coords) (arg1 : Memref sig .tc .vmem S512x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S2048x256 .f32) (harg7 : arg7.IsWhole) (arg8 : Memref sig .tc .vmem S2048x256 .f32) (harg8 : arg8.IsWhole) (x0 : Vec Ideal S512x256 .f32) (x1 x2 : Vec Ideal S2048x256 .f32) (x3 : Vec Ideal S512x128 .f32) (x4 : Vec Ideal S512x256 .f32) (xo6 xo7 : Vec Ideal S2048x256 .f32)

/-- What the point stores. -/
theorem pointB (hc0 : ¬cond0_0 i) {D : Tab} {F6 F7 : ℕ → ℕ → ℝ} (h0 : HasR x0 fun r l => D.q (512 * (i 0).val + r) l) (h1 : HasW x1 D.k) (h2 : HasW x2 D.v)
    (h3 : ∀ (r : Fin 512) (h : Fin 4), x3 (ix2 r (⟨h, by omega⟩ : Fin 128) : S512x128.Idx) = ((tot D h (512 * (i 0).val + r) : ℝ) : EReal))
    (h4 : HasR x4 fun r l => D.d (512 * (i 0).val + r) l) (h6 : HasW xo6 F6) (h7 : HasW xo7 F7) :
    HasR (out0_B_5 dv i arg1 harg1 arg2 harg2 arg3 harg3 arg4 harg4 arg5 harg5 arg6 harg6 arg7 harg7 arg8 harg8 hc0 x0 x1 x2 x3 x4 xo6 xo7) (fun r l => ∑ s ∈ range 2048, dzz D (l / 64) (512 * (i 0).val + r) s * (1 / 8) * D.k s l)
    ∧ HasW (out0_B_6 dv i arg1 harg1 arg2 harg2 arg3 harg3 arg4 harg4 arg5 harg5 arg6 harg6 arg7 harg7 arg8 harg8 hc0 x0 x1 x2 x3 x4 xo6 xo7) (fun s l => F6 s l + ∑ r ∈ range 512, dzz D (l / 64) (512 * (i 0).val + r) s * (D.q (512 * (i 0).val + r) l * (1 / 8)))
    ∧ HasW (out0_B_7 dv i arg1 harg1 arg2 harg2 arg3 harg3 arg4 harg4 arg5 harg5 arg6 harg6 arg7 harg7 arg8 harg8 hc0 x0 x1 x2 x3 x4 xo6 xo7) (fun s l => F7 s l + ∑ r ∈ range 512, ww D (l / 64) (512 * (i 0).val + r) s * D.d (512 * (i 0).val + r) l) := by
  have hs := has_S1_end dv i arg1 harg1 arg2 harg2 arg3 harg3 arg4 harg4 arg5 harg5 arg6 harg6 arg7 harg7 arg8 harg8 x0 x1 x2 x3 x4 (harg7.unread xo6) (harg8.unread xo7) h0 h1 h2 h3 h4 (F7 := F6) (F8 := F7)
    (by rw [harg7.read_unread]; exact h6) (by rw [harg8.read_unread]; exact h7)
  rw [← cB0_eq] at hs
  have hd := has_diag i arg1 harg1 arg2 harg2 arg3 harg3 arg4 harg4 arg5 harg5 arg7 arg8 x0 x1 x2 x3 x4 h0 h1 h2 h3 h4 _ _ hs (cB1_eq dv i arg1 harg1 arg2 harg2 arg3 harg3 arg4 harg4 arg5 harg5 arg6 harg6 arg7 harg7 arg8 harg8 x0 x1 x2 x3 x4 xo6 xo7) (cB2_eq dv i arg1 harg1 arg2 harg2 arg3 harg3 arg4 harg4 arg5 harg5 arg6 harg6 arg7 harg7 arg8 harg8 x0 x1 x2 x3 x4 xo6 xo7) (cB3_eq dv i arg1 harg1 arg2 harg2 arg3 harg3 arg4 harg4 arg5 harg5 arg6 harg6 arg7 harg7 arg8 harg8 x0 x1 x2 x3 x4 xo6 xo7)
    (hB6_0 dv i arg1 harg1 arg2 harg2 arg3 harg3 arg4 harg4 arg5 harg5 arg6 harg6 arg7 harg7 arg8 harg8 x0 x1 x2 x3 x4 xo6 xo7) (hB7_0 dv i arg1 harg1 arg2 harg2 arg3 harg3 arg4 harg4 arg5 harg5 arg6 harg6 arg7 harg7 arg8 harg8 x0 x1 x2 x3 x4 xo6 xo7) (hB6_1 dv i arg1 harg1 arg2 harg2 arg3 harg3 arg4 harg4 arg5 harg5 arg6 harg6 arg7 harg7 arg8 harg8 x0 x1 x2 x3 x4 xo6 xo7) (hB7_1 dv i arg1 harg1 arg2 harg2 arg3 harg3 arg4 harg4 arg5 harg5 arg6 harg6 arg7 harg7 arg8 harg8 x0 x1 x2 x3 x4 xo6 xo7) (hB6_2 dv i arg1 harg1 arg2 harg2 arg3 harg3 arg4 harg4 arg5 harg5 arg6 harg6 arg7 harg7 arg8 harg8 x0 x1 x2 x3 x4 xo6 xo7) (hB7_2 dv i arg1 harg1 arg2 harg2 arg3 harg3 arg4 harg4 arg5 harg5 arg6 harg6 arg7 harg7 arg8 harg8 x0 x1 x2 x3 x4 xo6 xo7) (runB6 dv i arg1 harg1 arg2 harg2 arg3 harg3 arg4 harg4 arg5 harg5 arg6 harg6 arg7 harg7 arg8 harg8 hc0 x0 x1 x2 x3 x4 xo6 xo7) (runB7 dv i arg1 harg1 arg2 harg2 arg3 harg3 arg4 harg4 arg5 harg5 arg6 harg6 arg7 harg7 arg8 harg8 hc0 x0 x1 x2 x3 x4 xo6 xo7)
  obtain ⟨a, b, d⟩ := inv_end (i0_lt i) hd
  refine ⟨?_, ?_, ?_⟩
  · unfold out0_B_5
    rw [runB5]
    exact has_wholeR _ _ a
  · exact b
  · exact d

end

end Cert.KernelIdeal.SB
-- ==== Proof.Out.lean ====
/-
  The whole call over the real numbers: each grid point's blocks read out of the arrays, the four points one after the
  other, and the three gradients' arrays once the last point has written them.
-/
module

public import proofs.«01_k».proof.Proof.PointA
public import proofs.«01_k».proof.Proof.PointB
public import proofs.«01_k».proof.Proof.Gen.KernelIdeal.Value

@[expose] public section

set_option maxRecDepth 16384

noncomputable section

namespace Cert.KernelIdeal.SB

open Cert.KernelIdeal Cert.KernelIdeal.Gen Idealize.ShloMosaic Idealize.ShloMosaic.TcCoe Idealize.SL.Sem
open Finset (range)

theorem at0 : ∀ t : Fin cfg0.N, (grid0.coords t 0).val = t.val := (by decide +kernel : ∀ t : Fin grid0.N, _)
theorem ix_0 : ∀ t : Fin cfg0.N, win0_0.index t = ![t.val, 0] := (by decide +kernel : ∀ t : Fin grid0.N, _)
theorem ix_1 : ∀ t : Fin cfg0.N, win0_1.index t = ![0, 1] := (by decide +kernel : ∀ t : Fin grid0.N, _)
theorem ix_2 : ∀ t : Fin cfg0.N, win0_2.index t = ![0, 2] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)

variable (m : (ℓ : Loc nD τ sig) → Buf (Elt Ideal) ℓ) (c : Dev nD)

/-- What the call reads: the projections, the gradient from above, and the rows' totals. -/
structure Ins (X Y : ℕ → ℕ → ℝ) (D : Tab) : Prop where
  arg0 : ∀ i : S2048x2304.Idx, (i 1).val < 768 → V m c main_arg0 i = ((X (i 0).val (i 1).val : ℝ) : EReal)
  arg1 : ∀ i : S2048x1024.Idx, (i 1).val < 256 → V m c main_arg1 i = ((Y (i 0).val (i 1).val : ℝ) : EReal)
  tot : ∀ (t : Fin 2048) (h : Fin 4), V m c main_v19 (ix2 t (⟨h, by omega⟩ : Fin 128) : S2048x128.Idx) = ((tot D h t.val : ℝ) : EReal)
  tab : D = ⟨X, fun t l => X t (256 + l), fun t l => X t (512 + l), Y⟩

variable {m c} {X Y : ℕ → ℕ → ℝ} {D : Tab} (hI : Ins m c X Y D)

include hI in
theorem has_iblk0 (t : Fin cfg0.N) : HasR (iblk m c 0 t) fun r l => D.q (512 * (grid0.coords t 0).val + r) l := by
  intro r l
  have e0 : (((win0_0.blk t).view.emb (ix2 r l : S512x256.Idx) 0 : Fin _) : ℕ) = 512 * (grid0.coords t 0).val + r := by
    blk_simp [ix_0]; rw [at0]; omega
  have e1 : (((win0_0.blk t).view.emb (ix2 r l : S512x256.Idx) 1 : Fin _) : ℕ) = l := by
    blk_simp [ix_0]
  blk_simp [iblk]
  rw [hI.arg0 _ (by rw [e1]; omega), e0, e1, hI.tab]

include hI in
theorem has_iblk4 (t : Fin cfg0.N) : HasR (iblk m c 4 t) fun r l => D.d (512 * (grid0.coords t 0).val + r) l := by
  intro r l
  have e0 : (((win0_4.blk t).view.emb (ix2 r l : S512x256.Idx) 0 : Fin _) : ℕ) = 512 * (grid0.coords t 0).val + r := by
    blk_simp [ix_4]; rw [at0]; omega
  have e1 : (((win0_4.blk t).view.emb (ix2 r l : S512x256.Idx) 1 : Fin _) : ℕ) = l := by
    blk_simp [ix_4]
  blk_simp [iblk]
  rw [hI.arg1 _ (by rw [e1]; omega), e0, e1, hI.tab]

include hI in
theorem has_iblk1 (t : Fin cfg0.N) : HasW (iblk m c 1 t) D.k := by
  intro s l
  have e0 : (((win0_1.blk t).view.emb (ix2 s l : S2048x256.Idx) 0 : Fin _) : ℕ) = s := by
    blk_simp [ix_1]
  have e1 : (((win0_1.blk t).view.emb (ix2 s l : S2048x256.Idx) 1 : Fin _) : ℕ) = 256 + l := by
    blk_simp [ix_1]
  blk_simp [iblk]
  rw [hI.arg0 _ (by rw [e1]; omega), e0, e1, hI.tab]

include hI in
theorem has_iblk2 (t : Fin cfg0.N) : HasW (iblk m c 2 t) D.v := by
  intro s l
  have e0 : (((win0_2.blk t).view.emb (ix2 s l : S2048x256.Idx) 0 : Fin _) : ℕ) = s := by
    blk_simp [ix_2]
  have e1 : (((win0_2.blk t).view.emb (ix2 s l : S2048x256.Idx) 1 : Fin _) : ℕ) = 512 + l := by
    blk_simp [ix_2]
  blk_simp [iblk]
  rw [hI.arg0 _ (by rw [e1]; omega), e0, e1, hI.tab]

include hI in
theorem has_iblk3 (t : Fin cfg0.N) (r : Fin 512) (h : Fin 4) :
    iblk m c 3 t (ix2 r (⟨h, by omega⟩ : Fin 128) : S512x128.Idx) = ((tot D h (512 * (grid0.coords t 0).val + r) : ℝ) : EReal) := by
  have ht : t.val < 4 := t.isLt
  have e : (win0_3.blk t).view.emb (ix2 r (⟨h, by omega⟩ : Fin 128) : S512x128.Idx)
      = (ix2 (⟨512 * t.val + r, by omega⟩ : Fin 2048) (⟨h, by omega⟩ : Fin 128) : S2048x128.Idx) := by
    blk_ext [ix_3]
  blk_simp [iblk]
  rw [e, hI.tot, at0]

include hI in
/-- The first point. -/
theorem has_first (t : Fin cfg0.N) (h0 : t.val % 4 = 0) :
    HasR (outsAt0 m c t.val t.isLt).1 (fun r l => ∑ s ∈ range 2048, dzz D (l / 64) (512 * t.val + r) s * (1 / 8) * D.k s l)
    ∧ HasW (outsAt0 m c t.val t.isLt).2.1 (fun s l => 0 + ∑ r ∈ range 512, dzz D (l / 64) (512 * t.val + r) s * (D.q (512 * t.val + r) l * (1 / 8)))
    ∧ HasW (outsAt0 m c t.val t.isLt).2.2 (fun s l => 0 + ∑ r ∈ range 512, ww D (l / 64) (512 * t.val + r) s * D.d (512 * t.val + r) l) := by
  have h := pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)
    ((hcond0_0 t).mpr h0) (has_iblk0 hI t) (has_iblk1 hI t) (has_iblk2 hI t) (has_iblk3 hI t) (has_iblk4 hI t)
  rw [at0] at h
  rw [outsAt0_A m c t h0]
  dsimp only
  exact h

include hI in
/-- A later point, on what the one before it left. -/
theorem has_later (t : Fin cfg0.N) (h0 : ¬t.val % 4 = 0) (p : t.val - 1 < cfg0.N) {F6 F7 : ℕ → ℕ → ℝ}
    (h6 : HasW (outsAt0 m c (t.val - 1) p).2.1 F6) (h7 : HasW (outsAt0 m c (t.val - 1) p).2.2 F7) :
    HasR (outsAt0 m c t.val t.isLt).1 (fun r l => ∑ s ∈ range 2048, dzz D (l / 64) (512 * t.val + r) s * (1 / 8) * D.k s l)
    ∧ HasW (outsAt0 m c t.val t.isLt).2.1 (fun s l => F6 s l + ∑ r ∈ range 512, dzz D (l / 64) (512 * t.val + r) s * (D.q (512 * t.val + r) l * (1 / 8)))
    ∧ HasW (outsAt0 m c t.val t.isLt).2.2 (fun s l => F7 s l + ∑ r ∈ range 512, ww D (l / 64) (512 * t.val + r) s * D.d (512 * t.val + r) l) := by
  have h := pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)
    (outsAt0 m c (t.val - 1) p).2.1 (outsAt0 m c (t.val - 1) p).2.2
    (fun h => h0 ((hcond0_0 t).mp h)) (has_iblk0 hI t) (has_iblk1 hI t) (has_iblk2 hI t) (has_iblk3 hI t) (has_iblk4 hI t) h6 h7
  rw [at0] at h
  rw [outsAt0_B m c t h0]
  dsimp only
  exact h

include hI in
/-- After point `n` the accumulated outputs hold the sums over the rows so far. -/
theorem has_outs : ∀ (n : ℕ) (hn : n < cfg0.N),
    HasR (outsAt0 m c n hn).1 (fun r l => ∑ s ∈ range 2048, dzz D (l / 64) (512 * n + r) s * (1 / 8) * D.k s l)
    ∧ HasW (outsAt0 m c n hn).2.1 (fun s l => ∑ r ∈ range (512 * n + 512), dzz D (l / 64) r s * (D.q r l * (1 / 8)))
    ∧ HasW (outsAt0 m c n hn).2.2 (fun s l => ∑ r ∈ range (512 * n + 512), ww D (l / 64) r s * D.d r l)
  | 0, hn => by
    obtain ⟨a, b, d⟩ := has_first hI ⟨0, hn⟩ rfl
    refine ⟨a, b.congr fun s l => ?_, d.congr fun s l => ?_⟩
    · rw [zero_add]; simp only [Nat.mul_zero, Nat.zero_add]
    · rw [zero_add]; simp only [Nat.mul_zero, Nat.zero_add]
  | n + 1, hn => by
    have h4 : n + 1 < 4 := hn
    have hm : ¬ (n + 1) % 4 = 0 := by omega
    obtain ⟨-, i6, i7⟩ := has_outs n (Nat.lt_of_succ_lt hn)
    obtain ⟨a, b, d⟩ := has_later hI ⟨n + 1, hn⟩ hm (Nat.lt_of_succ_lt hn) i6 i7
    refine ⟨a, b.congr fun s l => ?_, d.congr fun s l => ?_⟩
    · rw [Finset.sum_range_add _ (512 * (n + 1))]; rfl
    · rw [Finset.sum_range_add _ (512 * (n + 1))]; rfl

include hI in
theorem dq_array (i : S2048x256.Idx) : (dats m 0 c).arrAt 5 cfg0.N i
    = ((∑ s ∈ range 2048, dzz D ((i 1).val / 64) (i 0).val s * (1 / 8) * D.k s (i 1).val : ℝ) : EReal) := by
  have := (dats m 0 c).arrAt_eq_of_covers 5 (fun i : S2048x256.Idx => ((∑ s ∈ range 2048, dzz D ((i 1).val / 64) (i 0).val s * (1 / 8) * D.k s (i 1).val : ℝ) : EReal)) (by decide +kernel) fun t hf y => ?_
  · exact congrFun this i
  · have e0 : (((win0_5.blk t).view.emb y 0 : Fin _) : ℕ) = 512 * t.val + (y 0).val := by
      blk_simp [ix_5]; omega
    have e1 : (((win0_5.blk t).view.emb y 1 : Fin _) : ℕ) = (y 1).val := by
      blk_simp [ix_5]
    show _ = ((∑ s ∈ range 2048, dzz D (((win0_5.blk t).view.emb y 1 : Fin _).val / 64) ((win0_5.blk t).view.emb y 0 : Fin _).val s * (1 / 8) * D.k s ((win0_5.blk t).view.emb y 1 : Fin _).val : ℝ) : EReal)
    rw [e0, e1]
    blk_simp
    rw [after0_5]
    have h := (has_outs hI t.val t.isLt).1 (y 0) (y 1)
    exact (congrArg (outsAt0 m c t.val t.isLt).1 (eq_ix2 y)).trans h

/-- The last point. -/
def last : Fin cfg0.N := ⟨3, by decide⟩

theorem whole6 : win0_6.WholeAt last := by decide +kernel
theorem whole7 : win0_7.WholeAt last := by decide +kernel

include hI in
theorem dk_array (i : S2048x256.Idx) : (dats m 0 c).arrAt 6 cfg0.N i
    = ((∑ r ∈ range 2048, dzz D ((i 1).val / 64) r (i 0).val * (D.q r (i 1).val * (1 / 8)) : ℝ) : EReal) := by
  refine ((dats m 0 c).arrAt_emb_eq_after_last 6 last whole6 i).trans ?_
  blk_simp
  rw [after0_6]
  exact (congrArg (outsAt0 m c last.val last.isLt).2.1 (eq_ix2 i)).trans ((has_outs hI last.val last.isLt).2.1 (i 0) (i 1))

include hI in
theorem dv_array (i : S2048x256.Idx) : (dats m 0 c).arrAt 7 cfg0.N i
    = ((∑ r ∈ range 2048, ww D ((i 1).val / 64) r (i 0).val * D.d r (i 1).val : ℝ) : EReal) := by
  refine ((dats m 0 c).arrAt_emb_eq_after_last 7 last whole7 i).trans ?_
  blk_simp
  rw [after0_7]
  exact (congrArg (outsAt0 m c last.val last.isLt).2.2 (eq_ix2 i)).trans ((has_outs hI last.val last.isLt).2.2 (i 0) (i 1))

end Cert.KernelIdeal.SB
-- ==== Proof.lean ====
/-
  The certificate of calls of the training step (attention gradient, feed-forward layer, embedding, projections, convolution,
  norms): the runs of the programs, and over the real numbers the calls' results against the references'.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Finite
public import proofs.«01_k».proof.Proof.Finite2
public import proofs.«01_k».proof.Proof.FfnRun
public import proofs.«01_k».proof.Proof.FfnRef
public import proofs.«01_k».proof.Proof.PleRun
public import proofs.«01_k».proof.Proof.PleRef
public import proofs.«01_k».proof.Proof.ProjRun
public import proofs.«01_k».proof.Proof.ProjRef
public import proofs.«01_k».proof.Proof.ConvRun
public import proofs.«01_k».proof.Proof.ConvRef
public import proofs.«01_k».proof.Proof.NormRun
public import proofs.«01_k».proof.Proof.NormRef
public import proofs.«01_k».proof.Proof.Host
public import proofs.«01_k».proof.Proof.Out

@[expose] public section

set_option maxRecDepth 16384

noncomputable section

namespace Cert.Proof

open Idealize.ShloMosaic Idealize.ShloMosaic.TcCoe Idealize.SL.Sem
open Finset (range)

/-- The reference runs from any memory: it has no semaphore, so its counters are zero. -/
theorem frame_ri (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) =
        m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- What the call reads, from the precondition. -/
theorem ins (m : (ℓ : Loc Cert.KernelIdeal.nD Cert.KernelIdeal.τ Cert.KernelIdeal.sig) → Buf (Elt Ideal) ℓ) (c : Dev Cert.KernelIdeal.nD)
    {X Y : ℕ → ℕ → ℝ}
    (h0 : ∀ i : Cert.KernelIdeal.S2048x2304.Idx, (i 1).val < 768 → m (c.tc.loc Cert.KernelIdeal.main_arg0) i = ((X (i 0).val (i 1).val : ℝ) : EReal))
    (h1 : ∀ i : Cert.KernelIdeal.S2048x1024.Idx, (i 1).val < 256 → m (c.tc.loc Cert.KernelIdeal.main_arg1) i = ((Y (i 0).val (i 1).val : ℝ) : EReal)) :
    Cert.KernelIdeal.SB.Ins m c X Y (Cert.ReferenceIdeal.SB.tabOf X Y) where
  arg0 := by rw [Cert.KernelIdeal.Gen.V_main_arg0]; exact h0
  arg1 := by rw [Cert.KernelIdeal.Gen.V_main_arg1]; exact h1
  tot t h := by rw [Cert.KernelIdeal.SB.V_tot]; exact Cert.KernelIdeal.SB.padded_apply h0 t h
  tab := rfl

theorem algebraic : Cert.algebraic_KernelIdeal_ReferenceIdeal_pre_finite := by
  intro m g m' g' hpre hagree
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g,
    (θ_run Cert.ReferenceIdeal.defs _ _).mono (fun r h c => ?_) (Cert.ReferenceIdeal.Value.run (F := Ideal) m' g')⟩
  obtain ⟨r0, r1, r2, k0, k1⟩ := h c
  obtain ⟨f0, f1⟩ := Cert.Pre_finite.real_of_fn (hpre c)
  let X : ℕ → ℕ → ℝ := fun t l => if h : t < 2048 ∧ l < 2304 then
    (m (c.tc.loc Cert.KernelIdeal.main_arg0) (ix2 (⟨t, h.1⟩ : Fin 2048) (⟨l, h.2⟩ : Fin 2304) : Cert.KernelIdeal.S2048x2304.Idx) : EReal).toReal else 0
  let Y : ℕ → ℕ → ℝ := fun t l => if h : t < 2048 ∧ l < 1024 then
    (m (c.tc.loc Cert.KernelIdeal.main_arg1) (ix2 (⟨t, h.1⟩ : Fin 2048) (⟨l, h.2⟩ : Fin 1024) : Cert.KernelIdeal.S2048x1024.Idx) : EReal).toReal else 0
  have h0 : ∀ i : Cert.KernelIdeal.S2048x2304.Idx, (i 1).val < 768 → m (c.tc.loc Cert.KernelIdeal.main_arg0) i = ((X (i 0).val (i 1).val : ℝ) : EReal) := fun i hi => by
    refine (f0 i hi).trans ?_
    have a0 : (i 0).val < 2048 := (i 0).isLt
    have a1 : (i 1).val < 2304 := (i 1).isLt
    rw [show X (i 0).val (i 1).val = _ from dif_pos ⟨a0, a1⟩]
    exact congrArg (fun j => (((m (c.tc.loc Cert.KernelIdeal.main_arg0) j : EReal).toReal : ℝ) : EReal)) (eq_ix2 i)
  have h1 : ∀ i : Cert.KernelIdeal.S2048x1024.Idx, (i 1).val < 256 → m (c.tc.loc Cert.KernelIdeal.main_arg1) i = ((Y (i 0).val (i 1).val : ℝ) : EReal) := fun i hi => by
    refine (f1 i hi).trans ?_
    have a0 : (i 0).val < 2048 := (i 0).isLt
    have a1 : (i 1).val < 1024 := (i 1).isLt
    rw [show Y (i 0).val (i 1).val = _ from dif_pos ⟨a0, a1⟩]
    exact congrArg (fun j => (((m (c.tc.loc Cert.KernelIdeal.main_arg1) j : EReal).toReal : ℝ) : EReal)) (eq_ix2 i)
  have hI := ins m c h0 h1
  refine ⟨r0.trans ?_, r1.trans ?_, r2.trans ?_, k0, k1⟩
  · rw [Cert.ReferenceIdeal.Read.val_main_v52_eq, (hagree c).1, (hagree c).2]
    funext i
    exact (Cert.ReferenceIdeal.SB.dq_entry i h0 h1).trans (Cert.KernelIdeal.SB.dq_array hI i).symm
  · rw [Cert.ReferenceIdeal.Read.val_main_v51_eq, (hagree c).1, (hagree c).2]
    funext i
    refine (Cert.ReferenceIdeal.SB.dk_entry i h0 h1).trans (Eq.trans ?_ (Cert.KernelIdeal.SB.dk_array hI i).symm)
    exact congrArg _ (Finset.sum_congr rfl fun t _ => by ring)
  · rw [Cert.ReferenceIdeal.Read.val_main_v50_eq, (hagree c).1, (hagree c).2]
    funext i
    refine (Cert.ReferenceIdeal.SB.dv_entry i h0 h1).trans (Eq.trans ?_ (Cert.KernelIdeal.SB.dv_array hI i).symm)
    exact congrArg _ (Finset.sum_congr rfl fun t _ => mul_comm _ _)

/-- The feed-forward layer's reference runs from any memory. -/
theorem frame_ri2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) =
        m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) =
        m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) =
        m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) =
        m ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2.2.2.2.2, sem_eq_zero_of_no_sems (by decide) r.2⟩)
    (Cert.Reference2Ideal.Value.run (F := Ideal) m g)

theorem algebraic2 : Cert.algebraic_Kernel2Ideal_Reference2Ideal_pre_finite2 := by
  intro m g m' g' hpre hagree
  refine ⟨_, _, _, _, _, Cert.Kernel2Ideal.Ffn.run m g,
    (θ_run Cert.Reference2Ideal.defs _ _).mono (fun r h c => ?_) (Cert.Reference2Ideal.Value.run (F := Ideal) m' g')⟩
  obtain ⟨r0, r1, r2, r3, r4, ks⟩ := h c
  obtain ⟨f0, f1, f2, f3, f4⟩ := Cert.Pre_finite2.real_of_fn (hpre c)
  obtain ⟨a0, a1, a2, a3, a4⟩ := hagree c
  refine ⟨r0.trans ?_, r1.trans ?_, r2.trans ?_, r3.trans ?_, r4.trans ?_, ks⟩
  · rw [Cert.Reference2Ideal.Read.val_main_v11_eq, a0, a1, a2, a3, Cert.Reference2Ideal.Ffn.v11, Cert.Reference2Ideal.Ffn.v10 _ _ _ f0 f1]
    rfl
  · rw [Cert.Reference2Ideal.Read.val_main_v24_eq, a0, a1, a2, a3, a4, Cert.Reference2Ideal.Ffn.v24,
      Cert.Reference2Ideal.Ffn.v20 _ _ _ _ _ f0 f1 f2 f3 f4, Cert.Reference2Ideal.Ffn.v15 _ _ _ _ f0 f1]
    rfl
  · rw [Cert.Reference2Ideal.Read.val_main_v27_eq, a0, a1, a2, a3, a4, Cert.Reference2Ideal.Ffn.v27,
      Cert.Reference2Ideal.Ffn.v20 _ _ _ _ _ f0 f1 f2 f3 f4]
    rfl
  · rw [Cert.Reference2Ideal.Read.val_main_v28_eq, a0, a1, a3, a4, Cert.Reference2Ideal.Ffn.v28, Cert.Reference2Ideal.Ffn.v15 _ _ _ _ f0 f1]
    rfl
  · rw [Cert.Reference2Ideal.Read.val_main_v29_eq, a0, a1, a2, a4, Cert.Reference2Ideal.Ffn.v29, Cert.Reference2Ideal.Ffn.v10 _ _ _ f0 f1]
    rfl

/-- The per-layer embedding's reference runs from any memory. -/
theorem frame_ri3 : Cert.quiescent_Reference3Ideal := fun m g _ =>
  (θ_run (Cert.Reference3Ideal.defs (F := Ideal)) _ _).mono (fun r h => ⟨fun c => (h c).2.2.2.2, sem_eq_zero_of_no_sems (by decide) r.2⟩)
    (Cert.Reference3Ideal.Value.run (F := Ideal) m g)

theorem algebraic3 : Cert.algebraic_Kernel3Ideal_Reference3Ideal := by
  intro m g m' g' hpre hagree
  refine ⟨_, _, _, _, Cert.Kernel3Ideal.Ple.run m g,
    (θ_run Cert.Reference3Ideal.defs _ _).mono (fun r h c => ?_) (Cert.Reference3Ideal.Value.run (F := Ideal) m' g')⟩
  obtain ⟨r0, r1, r2, r3, ks⟩ := h c
  obtain ⟨a0, a1, a2, a3, a4⟩ := hagree c
  refine ⟨r0.trans ?_, r1.trans ?_, r2.trans ?_, r3.trans ?_, ks⟩
  · rw [Cert.Reference3Ideal.Read.val_main_v17_eq, a0, a1, a2, a3, Cert.Reference3Ideal.Ple.v17]
  · rw [Cert.Reference3Ideal.Read.val_main_v25_eq, a0, a1, a2, a3, a4, Cert.Reference3Ideal.Ple.v25, Cert.Reference3Ideal.Ple.v22]
  · rw [Cert.Reference3Ideal.Read.val_main_v28_eq, a0, a1, a2, a3, a4, Cert.Reference3Ideal.Ple.v28, Cert.Reference3Ideal.Ple.v22]
  · rw [Cert.Reference3Ideal.Read.val_main_v29_eq, a0, a1, a2, a4, Cert.Reference3Ideal.Ple.v29, Cert.Reference3Ideal.Ple.v18]

/-- The projections' reference runs from any memory. -/
theorem frame_ri4 : Cert.quiescent_Reference4Ideal := fun m g _ =>
  (θ_run (Cert.Reference4Ideal.defs (F := Ideal)) _ _).mono (fun r h => ⟨fun c => (h c).2.2.2.2.2.2.2.2.2.2.2.2, sem_eq_zero_of_no_sems (by decide) r.2⟩)
    (Cert.Reference4Ideal.Value.run (F := Ideal) m g)

theorem algebraic4 : Cert.algebraic_Kernel4Ideal_Reference4Ideal := by
  intro m g m' g' hpre hagree
  refine ⟨_, _, _, _, _, _, _, _, _, _, _, _, Cert.Kernel4Ideal.Proj.run m g,
    (θ_run Cert.Reference4Ideal.defs _ _).mono (fun r h c => ?_) (Cert.Reference4Ideal.Value.run (F := Ideal) m' g')⟩
  obtain ⟨r0, r1, r2, r3, r4, r5, r6, r7, r8, r9, r10, r11, ks⟩ := h c
  obtain ⟨a0, a1, a2, a3, a4, a5, a6, a7, a8, a9, a10, a11⟩ := hagree c
  refine ⟨r0.trans ?_, r1.trans ?_, r2.trans ?_, r3.trans ?_, r4.trans ?_, r5.trans ?_, r6.trans ?_, r7.trans ?_, r8.trans ?_, r9.trans ?_, r10.trans ?_, r11.trans ?_, ks⟩
  · rw [Cert.Reference4Ideal.Read.val_main_v13_eq, a0, a1, Cert.Reference4Ideal.Proj.v13]
  · rw [Cert.Reference4Ideal.Read.val_main_v15_eq, a6, a7, Cert.Reference4Ideal.Proj.v15]
  · rw [Cert.Reference4Ideal.Read.val_main_v16_eq, a9, a10, Cert.Reference4Ideal.Proj.v16]
  · rw [Cert.Reference4Ideal.Read.val_main_v17_eq, a3, a4, Cert.Reference4Ideal.Proj.v17]
  · rw [Cert.Reference4Ideal.Read.val_main_v29_eq, a4, a5, Cert.Reference4Ideal.Proj.v29]
  · rw [Cert.Reference4Ideal.Read.val_main_v30_eq, a3, a5, Cert.Reference4Ideal.Proj.v30]
  · rw [Cert.Reference4Ideal.Read.val_main_v32_eq, a6, a8, Cert.Reference4Ideal.Proj.v32]
  · rw [Cert.Reference4Ideal.Read.val_main_v23_eq, a7, a8, Cert.Reference4Ideal.Proj.v23]
  · rw [Cert.Reference4Ideal.Read.val_main_v33_eq, a9, a11, Cert.Reference4Ideal.Proj.v33]
  · rw [Cert.Reference4Ideal.Read.val_main_v26_eq, a10, a11, Cert.Reference4Ideal.Proj.v26]
  · rw [Cert.Reference4Ideal.Read.val_main_v35_eq, a0, a2, Cert.Reference4Ideal.Proj.v35]
  · rw [Cert.Reference4Ideal.Read.val_main_v20_eq, a1, a2, Cert.Reference4Ideal.Proj.v20]

/-- The convolution's reference runs from any memory. -/
theorem frame_ri5 : Cert.quiescent_Reference5Ideal := fun m g _ =>
  (θ_run (Cert.Reference5Ideal.defs (F := Ideal)) _ _).mono (fun r h => ⟨fun c => (h c).2.2.2.2.2, sem_eq_zero_of_no_sems (by decide) r.2⟩)
    (Cert.Reference5Ideal.Value.run (F := Ideal) m g)

theorem algebraic5 : Cert.algebraic_Kernel5Ideal_Reference5Ideal := by
  intro m g m' g' hpre hagree
  refine ⟨_, _, _, _, _, Cert.Kernel5Ideal.Conv.run m g,
    (θ_run Cert.Reference5Ideal.defs _ _).mono (fun r h c => ?_) (Cert.Reference5Ideal.Value.run (F := Ideal) m' g')⟩
  obtain ⟨r0, r1, r2, r3, r4, ks⟩ := h c
  obtain ⟨a0, a1, a2⟩ := hagree c
  refine ⟨r0.trans ?_, r1.trans ?_, r2.trans ?_, r3.trans ?_, r4.trans ?_, ks⟩
  · rw [Cert.Reference5Ideal.Read.val_main_v23_eq, a0, a1, Cert.Reference5Ideal.Conv.v23]
  · rw [Cert.Reference5Ideal.Read.val_main_v26_eq, a0, a1, a2, Cert.Reference5Ideal.Conv.v26]
  · rw [Cert.Reference5Ideal.Read.val_main_v56_eq, a0, a1, a2, Cert.Reference5Ideal.Conv.v56]
  · rw [Cert.Reference5Ideal.Read.val_main_v55_eq, a0, a1, a2, Cert.Reference5Ideal.Conv.v55]
  · rw [Cert.Reference5Ideal.Read.val_main_v54_eq, a0, a2, Cert.Reference5Ideal.Conv.v54]

/-- The forward norms' reference runs from any memory. -/
theorem frame_ri6 : Cert.quiescent_Reference6Ideal := fun m g _ =>
  (θ_run (Cert.Reference6Ideal.defs (F := Ideal)) _ _).mono (fun r h => ⟨fun c => (h c).2.2.2.2.2.2.2.2, sem_eq_zero_of_no_sems (by decide) r.2⟩)
    (Cert.Reference6Ideal.Value.run (F := Ideal) m g)

theorem algebraic6 : Cert.algebraic_Kernel6Ideal_Reference6Ideal := by
  intro m g m' g' hpre hagree
  refine ⟨_, _, _, _, _, _, _, _, Cert.Kernel6Ideal.Norm.run m g,
    (θ_run Cert.Reference6Ideal.defs _ _).mono (fun r h c => ?_) (Cert.Reference6Ideal.Value.run (F := Ideal) m' g')⟩
  obtain ⟨r0, r1, r2, r3, r4, r5, r6, r7, ks⟩ := h c
  obtain ⟨a0, a1, a2, a3, a4, a5, a6, a7⟩ := hagree c
  refine ⟨r0.trans ?_, r1.trans ?_, r2.trans ?_, r3.trans ?_, r4.trans ?_, r5.trans ?_, r6.trans ?_, r7.trans ?_, ks⟩
  · rw [Cert.Reference6Ideal.Read.val_main_v40_eq, a0, a2, Cert.Reference6Ideal.Norm.v40]
  · rw [Cert.Reference6Ideal.Read.val_main_v53_eq, a4, a5, Cert.Reference6Ideal.Norm.v53]
  · rw [Cert.Reference6Ideal.Read.val_main_v66_eq, a6, a7, Cert.Reference6Ideal.Norm.v66]
  · rw [Cert.Reference6Ideal.Read.val_main_v14_eq, a0, a1, a2, Cert.Reference6Ideal.Norm.v14]
  · rw [Cert.Reference6Ideal.Read.val_main_v79_eq, a0, a1, a2, a3, Cert.Reference6Ideal.Norm.v79]
  · rw [Cert.Reference6Ideal.Read.val_main_v27_eq, a0, a1, a2, Cert.Reference6Ideal.Norm.v27]
  · rw [Cert.Reference6Ideal.Read.val_main_v92_eq, a0, a1, a2, a3, Cert.Reference6Ideal.Norm.v92]
  · rw [Cert.Reference6Ideal.Read.val_main_v27_eq, a0, a1, a2, Cert.Reference6Ideal.Norm.v27]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.facts, Cert.Pre_finite2.facts,
  fun m g _ => Cert.Kernel.Gen.frame m g, fun m g _ => Cert.KernelIdeal.Gen.frame m g, fun m g _ => Cert.KernelIdeal.Gen.frame m g,
  fun m g _ => frame_ri m g, fun m g _ => frame_ri m g,
  fun m g _ => Cert.Kernel2.Gen.frame m g, fun m g _ => Cert.Kernel2Ideal.Gen.frame m g, fun m g _ => Cert.Kernel2Ideal.Gen.frame m g,
  fun m g _ => frame_ri2 m g, fun m g _ => frame_ri2 m g,
  fun m g _ => Cert.Kernel3.Gen.frame m g, fun m g _ => Cert.Kernel3Ideal.Gen.frame m g, frame_ri3,
  fun m g _ => Cert.Kernel4.Gen.frame m g, fun m g _ => Cert.Kernel4Ideal.Gen.frame m g, frame_ri4,
  fun m g _ => Cert.Kernel5.Gen.frame m g, fun m g _ => Cert.Kernel5Ideal.Gen.frame m g, frame_ri5,
  fun m g _ => Cert.Kernel6.Gen.frame m g, fun m g _ => Cert.Kernel6Ideal.Gen.frame m g, frame_ri6,
  trivial, algebraic, trivial, algebraic2, trivial, algebraic3, trivial, algebraic4, trivial, algebraic5, trivial, algebraic6⟩

end Cert.Proof

end
